-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_not_negative [hPre_ids_not_negative : Cert.Pre_ids_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_ids_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_not_negative [hPre_ids_not_negative : Cert.Pre_ids_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ids_not_negative [hKernelIdeal : Cert.KernelIdeal.Facts] [hPre_ids_not_negative : Cert.Pre_ids_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_not_negative [hReferenceIdeal : Cert.ReferenceIdeal.Facts] [hPre_ids_not_negative : Cert.Pre_ids_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S16x2x4608 Cert.KernelIdeal.S16x1x4608
  ∧ IdealRules.bf16_pair.Statement Cert.KernelIdeal.S2x4608 Cert.KernelIdeal.S1x4608
  ∧ IdealRules.bf16_pair.Statement Cert.KernelIdeal.S1x2x4608 Cert.KernelIdeal.S1x1x4608

def algebraic_KernelIdeal_ReferenceIdeal_pre_ids_not_negative [hKernelIdeal : Cert.KernelIdeal.Facts] [hReferenceIdeal : Cert.ReferenceIdeal.Facts] [hPre_ids_not_negative : Cert.Pre_ids_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_not_negative : Cert.Pre_ids_not_negative.Facts),
    quiescent_Kernel (hKernel := hKernel)
    ∧ quiescent_KernelIdeal (hKernelIdeal := hKernelIdeal)
    ∧ quiescent_KernelIdeal_pre_ids_not_negative (hKernelIdeal := hKernelIdeal) (hPre_ids_not_negative := hPre_ids_not_negative)
    ∧ quiescent_ReferenceIdeal (hReferenceIdeal := hReferenceIdeal)
    ∧ quiescent_ReferenceIdeal_pre_ids_not_negative (hReferenceIdeal := hReferenceIdeal) (hPre_ids_not_negative := hPre_ids_not_negative)
    ∧ preserves_Kernel_KernelIdeal
    ∧ algebraic_KernelIdeal_ReferenceIdeal_pre_ids_not_negative (hKernelIdeal := hKernelIdeal) (hReferenceIdeal := hReferenceIdeal) (hPre_ids_not_negative := hPre_ids_not_negative)
-- ==== Pre_ids_not_negative.lean ====
abbrev S5x2560x30720 : Shape := ⟨3, ![5, 2560, 30720]⟩
abbrev S5x2560x240 : Shape := ⟨3, ![5, 2560, 240]⟩
abbrev S5x2560x4608 : Shape := ⟨3, ![5, 2560, 4608]⟩
abbrev S5x2560 : Shape := ⟨2, ![5, 2560]⟩
abbrev S_ : Shape := ⟨0, ![]⟩

class Facts : Prop where
  bcast_S_S5x2560 : S_.BroadcastsInDim S5x2560 (![] : Fin 0 → Fin S5x2560.rank)

variable [Facts]

def fn {F : FTy → Type} [FloatOps F] (main_arg0 : FVec F S5x2560x30720 .fp8e5m2) (main_arg1 : FVec F S5x2560x240 .f32) (main_arg2 : FVec F S5x2560x4608 .fp8e4m3) (main_arg3 : FVec F S5x2560 .f32) (main_arg4 : IVec S5x2560 32) (main_arg5 : FVec F S5x2560x4608 .bf16) : IVec S5x2560 1 :=
  let main_c : IVec S_ 32 := constantI S_ 32 0#32
  let main_v0 : IVec S5x2560 32 := broadcastInDim S5x2560 ![] bcast_S_S5x2560 main_c
  let main_v1 : IVec S5x2560 1 := cmpi .sge main_arg4 main_v0
  main_v1
-- ==== Kernel.lean ====
abbrev S5x2560x30720 : Shape := ⟨3, ![5, 2560, 30720]⟩
abbrev S5x2560x240 : Shape := ⟨3, ![5, 2560, 240]⟩
abbrev S5x2560x4608 : Shape := ⟨3, ![5, 2560, 4608]⟩
abbrev S5x2560 : Shape := ⟨2, ![5, 2560]⟩
abbrev S12800 : Shape := ⟨1, ![12800]⟩
abbrev S1x12800 : Shape := ⟨2, ![1, 12800]⟩
abbrev S31 : Shape := ⟨1, ![31]⟩
abbrev S_ : Shape := ⟨0, ![]⟩
abbrev S31x1 : Shape := ⟨2, ![31, 1]⟩
abbrev S31x12800 : Shape := ⟨2, ![31, 12800]⟩
abbrev S12800x1 : Shape := ⟨2, ![12800, 1]⟩
abbrev S12800x128 : Shape := ⟨2, ![12800, 128]⟩
abbrev S12800x240 : Shape := ⟨2, ![12800, 240]⟩
abbrev S240x12800 : Shape := ⟨2, ![240, 12800]⟩
abbrev S12800x30720 : Shape := ⟨2, ![12800, 30720]⟩
abbrev S12800x4608 : Shape := ⟨2, ![12800, 4608]⟩
abbrev S30720x4608 : Shape := ⟨2, ![30720, 4608]⟩
abbrev S512x1024 : Shape := ⟨2, ![512, 1024]⟩
abbrev S8x512 : Shape := ⟨2, ![8, 512]⟩
abbrev S512x4608 : Shape := ⟨2, ![512, 4608]⟩
abbrev S512x128 : Shape := ⟨2, ![512, 128]⟩
abbrev S1024x4608 : Shape := ⟨2, ![1024, 4608]⟩
abbrev S16x4608 : Shape := ⟨2, ![16, 4608]⟩
abbrev S16 : Shape := ⟨1, ![16]⟩
abbrev S1024x512 : Shape := ⟨2, ![1024, 512]⟩
abbrev S128x512 : Shape := ⟨2, ![128, 512]⟩
abbrev S1x512 : Shape := ⟨2, ![1, 512]⟩
abbrev S1 : Shape := ⟨1, ![1]⟩
abbrev S1x4608 : Shape := ⟨2, ![1, 4608]⟩
abbrev S6400x4608 : Shape := ⟨2, ![6400, 4608]⟩
abbrev S2x4608 : Shape := ⟨2, ![2, 4608]⟩

abbrev nBuf : Space → Nat
  | .hbm => 28
  | .vmem => 11
  | .smem => 3
  | _ => 0

abbrev bufTy : (tb : Table) → Fin (tcTables nBuf tb) → BufTy
  | .hbm, ⟨0, _⟩ => ⟨S5x2560x30720, .fp8e5m2⟩
  | .hbm, ⟨1, _⟩ => ⟨S5x2560x240, .f32⟩
  | .hbm, ⟨2, _⟩ => ⟨S5x2560x4608, .fp8e4m3⟩
  | .hbm, ⟨3, _⟩ => ⟨S5x2560, .f32⟩
  | .hbm, ⟨4, _⟩ => ⟨S5x2560, .i32⟩
  | .hbm, ⟨5, _⟩ => ⟨S5x2560x4608, .bf16⟩
  | .hbm, ⟨6, _⟩ => ⟨S12800, .i32⟩
  | .hbm, ⟨7, _⟩ => ⟨S12800, .i32⟩
  | .hbm, ⟨8, _⟩ => ⟨S1x12800, .i32⟩
  | .hbm, ⟨9, _⟩ => ⟨S31, .i32⟩
  | .hbm, ⟨10, _⟩ => ⟨S_, .i32⟩
  | .hbm, ⟨11, _⟩ => ⟨S31, .i32⟩
  | .hbm, ⟨12, _⟩ => ⟨S31, .i32⟩
  | .hbm, ⟨13, _⟩ => ⟨S31x1, .i32⟩
  | .hbm, ⟨14, _⟩ => ⟨S31x12800, .i32⟩
  | .hbm, ⟨15, _⟩ => ⟨S31x12800, .i32⟩
  | .hbm, ⟨16, _⟩ => ⟨S31x12800, .i1⟩
  | .hbm, ⟨17, _⟩ => ⟨S31x12800, .i32⟩
  | .hbm, ⟨18, _⟩ => ⟨S_, .i32⟩
  | .hbm, ⟨19, _⟩ => ⟨S12800x1, .f32⟩
  | .hbm, ⟨20, _⟩ => ⟨S12800x1, .bf16⟩
  | .hbm, ⟨21, _⟩ => ⟨S12800x128, .bf16⟩
  | .hbm, ⟨22, _⟩ => ⟨S12800x240, .f32⟩
  | .hbm, ⟨23, _⟩ => ⟨S240x12800, .f32⟩
  | .hbm, ⟨24, _⟩ => ⟨S12800x30720, .fp8e5m2⟩
  | .hbm, ⟨25, _⟩ => ⟨S12800x4608, .fp8e4m3⟩
  | .hbm, ⟨26, _⟩ => ⟨S12800x4608, .bf16⟩
  | .hbm, ⟨27, _⟩ => ⟨S30720x4608, .f32⟩
  | .local _ .vmem, ⟨0, _⟩ => ⟨S512x1024, .fp8e5m2⟩
  | .local _ .vmem, ⟨1, _⟩ => ⟨S512x1024, .fp8e5m2⟩
  | .local _ .vmem, ⟨2, _⟩ => ⟨S8x512, .f32⟩
  | .local _ .vmem, ⟨3, _⟩ => ⟨S8x512, .f32⟩
  | .local _ .vmem, ⟨4, _⟩ => ⟨S512x4608, .fp8e4m3⟩
  | .local _ .vmem, ⟨5, _⟩ => ⟨S512x4608, .fp8e4m3⟩
  | .local _ .vmem, ⟨6, _⟩ => ⟨S512x128, .bf16⟩
  | .local _ .vmem, ⟨7, _⟩ => ⟨S512x128, .bf16⟩
  | .local _ .vmem, ⟨8, _⟩ => ⟨S1024x4608, .f32⟩
  | .local _ .vmem, ⟨9, _⟩ => ⟨S1024x4608, .f32⟩
  | .local _ .vmem, ⟨10, _⟩ => ⟨S16x4608, .i32⟩
  | .local _ .smem, ⟨0, _⟩ => ⟨S31, .i32⟩
  | .local _ .smem, ⟨1, _⟩ => ⟨S12800, .i32⟩
  | .local _ .smem, ⟨2, _⟩ => ⟨S12800, .i32⟩
  | _, _ => ⟨S5x2560x30720, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v12 : Ref sig .tc := ⟨.smem, 0, rfl⟩
abbrev main_v2_0 : Ref sig .tc := ⟨.smem, 1, rfl⟩
abbrev main_v2_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![30, 25], ![false, false]⟩

abbrev pre0 : Pipeline.Prefetch sig := ⟨3, ![main_v12.idx, main_v2_0.idx, main_v2_1.idx], fun | 0 => main_v12.names | 1 => main_v2_0.names | 2 => main_v2_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond2 (i : grid0.Coords) : BitVec 1 :=
  let arg1 : BitVec 32 := BitVec.ofNat 32 (i 1).val
  let c24_i32 : BitVec 32 := 24#32
  let v126 : BitVec 1 := Scalar.cmpi .eq arg1 c24_i32
  let v127 : BitVec 32 := Scalar.extui v126
  let c0_i32_12 : BitVec 32 := 0#32
  let v128 : BitVec 1 := Scalar.cmpi .ne v127 c0_i32_12
  v128

def k0_off1 (i : grid0.Coords) : Fin 1 → Nat :=
  let arg0 : BitVec 32 := BitVec.ofNat 32 (i 0).val
  let v129 : Index := Scalar.indexCast arg0
  ![v129.toNat]
def k0_off2 (i : grid0.Coords) : Fin 1 → Nat :=
  let arg0 : BitVec 32 := BitVec.ofNat 32 (i 0).val
  let c1_i32 : BitVec 32 := 1#32
  let v131 : BitVec 32 := Scalar.addi arg0 c1_i32
  let v132 : Index := Scalar.indexCast v131
  ![v132.toNat]
@[reducible] def k0_t1_loop (v130 : BitVec 32) (v133 : BitVec 32) : Scf.Loop 32 :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_16 : BitVec 32 := 1#32
  ⟨c0_i32_14, v141, c1_i32_16⟩

@[reducible] def k0_t2_loop (v130 : BitVec 32) (v133 : BitVec 32) (k0_t1 : Fin (k0_t1_loop v130 v133).trips) : Scf.Loop 32 :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_23 : BitVec 32 := 1#32
  ⟨c0_i32_21, v150, c1_i32_23⟩
def k0_off3 (v130 : BitVec 32) (v133 : BitVec 32) (k0_t1 : Fin (k0_t1_loop v130 v133).trips) (k0_t2 : Fin (k0_t2_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_21 : BitVec 32 := 0#32
  let c1_i32_23 : BitVec 32 := 1#32
  let arg14 : BitVec 32 := Scf.iv c0_i32_21 c1_i32_23 k0_t2
  let v156 : BitVec 32 := Scalar.addi v143 arg14
  let v157 : Index := Scalar.indexCast v156
  ![v157.toNat]
def k0_off4 (v130 : BitVec 32) (v133 : BitVec 32) (k0_t1 : Fin (k0_t1_loop v130 v133).trips) (k0_t2 : Fin (k0_t2_loop v130 v133 k0_t1).trips) : Fin 1 → Nat :=
  let c0_i32_21 : BitVec 32 := 0#32
  let c1_i32_23 : BitVec 32 := 1#32
  let arg14 : BitVec 32 := Scf.iv c0_i32_21 c1_i32_23 k0_t2
  ![arg14.toNat]
def k0_off5 (v130 : BitVec 32) (v133 : BitVec 32) (k0_t1 : Fin (k0_t1_loop v130 v133).trips) (k0_t2 : Fin (k0_t2_loop v130 v133 k0_t1).trips) : Fin 2 → Nat :=
  let c0_i32_21 : BitVec 32 := 0#32
  let c1_i32_23 : BitVec 32 := 1#32
  let arg14 : BitVec 32 := Scf.iv c0_i32_21 c1_i32_23 k0_t2
  let c0_i32_31 : BitVec 32 := 0#32
  ![arg14.toNat, 0]
def k0_off6 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk2 (i : grid0.Coords) (v158 : BitVec 32) : Prop :=
  (∀ (k0_h2 : k0_cond2 i = 1#1), ∀ a, (k0_off6 v158) a + S2x4608.size a ≤ S12800x4608.size a) ∧
  (∀ (k0_h2 : k0_cond2 i = 1#1), ∀ (hinb : ∀ a, (k0_off6 v158) a + S2x4608.size a ≤ S12800x4608.size a), (Rect.unit (s := S12800x4608) (k0_off6 v158) S2x4608.size hinb).WholeWords (EltTy.packing .bf16))
theorem k0_off6_inb : ∀ (i : grid0.Coords) (v158 : BitVec 32) (k0_hw2 : k0_chk2 i v158), ∀ (k0_h2 : k0_cond2 i = 1#1), ∀ a, (k0_off6 v158) a + S2x4608.size a ≤ S12800x4608.size a := fun i v158 k0_hw2 k0_h2 => k0_hw2.1 k0_h2
theorem k0_off6_wordsbf16 : ∀ (i : grid0.Coords) (v158 : BitVec 32) (k0_hw2 : k0_chk2 i v158), ∀ (k0_h2 : k0_cond2 i = 1#1), (Rect.unit (s := S12800x4608) (k0_off6 v158) S2x4608.size (k0_off6_inb i v158 k0_hw2 k0_h2)).WholeWords (EltTy.packing .bf16) := fun i v158 k0_hw2 k0_h2 => k0_hw2.2 k0_h2 (k0_off6_inb i v158 k0_hw2 k0_h2)

@[reducible] def k0_t3_loop (v130 : BitVec 32) (v133 : BitVec 32) (k0_t1 : Fin (k0_t1_loop v130 v133).trips) : Scf.Loop 32 :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let v147 : BitVec 32 := Scalar.addi c0_i32_21 v146
  let c1_i32_24 : BitVec 32 := 1#32
  ⟨v150, v147, c1_i32_24⟩
def k0_off7 (v130 : BitVec 32) (v133 : BitVec 32) (k0_t1 : Fin (k0_t1_loop v130 v133).trips) (k0_t3 : Fin (k0_t3_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_21 : BitVec 32 := 0#32
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t3
  let v156 : BitVec 32 := Scalar.addi v143 arg14
  let v157 : Index := Scalar.indexCast v156
  ![v157.toNat]
def k0_off8 (v130 : BitVec 32) (v133 : BitVec 32) (k0_t1 : Fin (k0_t1_loop v130 v133).trips) (k0_t3 : Fin (k0_t3_loop v130 v133 k0_t1).trips) : Fin 1 → Nat :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t3
  ![arg14.toNat]
def k0_off9 (v130 : BitVec 32) (v133 : BitVec 32) (k0_t1 : Fin (k0_t1_loop v130 v133).trips) (k0_t3 : Fin (k0_t3_loop v130 v133 k0_t1).trips) : Fin 2 → Nat :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t3
  let c0_i32_31 : BitVec 32 := 0#32
  ![arg14.toNat, 0]
def k0_off10 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk3 (i : grid0.Coords) (v158 : BitVec 32) : Prop :=
  (∀ (k0_h2 : k0_cond2 i = 1#1), ∀ a, (k0_off10 v158) a + S2x4608.size a ≤ S12800x4608.size a) ∧
  (∀ (k0_h2 : k0_cond2 i = 1#1), ∀ (hinb : ∀ a, (k0_off10 v158) a + S2x4608.size a ≤ S12800x4608.size a), (Rect.unit (s := S12800x4608) (k0_off10 v158) S2x4608.size hinb).WholeWords (EltTy.packing .bf16))
theorem k0_off10_inb : ∀ (i : grid0.Coords) (v158 : BitVec 32) (k0_hw3 : k0_chk3 i v158), ∀ (k0_h2 : k0_cond2 i = 1#1), ∀ a, (k0_off10 v158) a + S2x4608.size a ≤ S12800x4608.size a := fun i v158 k0_hw3 k0_h2 => k0_hw3.1 k0_h2
theorem k0_off10_wordsbf16 : ∀ (i : grid0.Coords) (v158 : BitVec 32) (k0_hw3 : k0_chk3 i v158), ∀ (k0_h2 : k0_cond2 i = 1#1), (Rect.unit (s := S12800x4608) (k0_off10 v158) S2x4608.size (k0_off10_inb i v158 k0_hw3 k0_h2)).WholeWords (EltTy.packing .bf16) := fun i v158 k0_hw3 k0_h2 => k0_hw3.2 k0_h2 (k0_off10_inb i v158 k0_hw3 k0_h2)

@[reducible] def k0_t4_loop (v130 : BitVec 32) (v133 : BitVec 32) (k0_t1 : Fin (k0_t1_loop v130 v133).trips) : Scf.Loop 32 :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_28 : BitVec 32 := 1#32
  ⟨c0_i32_26, v155, c1_i32_28⟩
def k0_off11 (v130 : BitVec 32) (v133 : BitVec 32) (k0_t1 : Fin (k0_t1_loop v130 v133).trips) (k0_t4 : Fin (k0_t4_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t4
  let v156 : BitVec 32 := Scalar.addi v143 arg14
  let v157 : Index := Scalar.indexCast v156
  ![v157.toNat]
def k0_off12 (v130 : BitVec 32) (v133 : BitVec 32) (k0_t1 : Fin (k0_t1_loop v130 v133).trips) (k0_t4 : Fin (k0_t4_loop v130 v133 k0_t1).trips) : Fin 1 → Nat :=
  let c0_i32_26 : BitVec 32 := 0#32
  let c1_i32_28 : BitVec 32 := 1#32
  let arg14 : BitVec 32 := Scf.iv c0_i32_26 c1_i32_28 k0_t4
  ![arg14.toNat]
def k0_off13 (v130 : BitVec 32) (v133 : BitVec 32) (k0_t1 : Fin (k0_t1_loop v130 v133).trips) (k0_t4 : Fin (k0_t4_loop v130 v133 k0_t1).trips) : Fin 2 → Nat :=
  let c0_i32_26 : BitVec 32 := 0#32
  let c1_i32_28 : BitVec 32 := 1#32
  let arg14 : BitVec 32 := Scf.iv c0_i32_26 c1_i32_28 k0_t4
  let c0_i32_31 : BitVec 32 := 0#32
  ![arg14.toNat, 0]
def k0_off14 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk4 (i : grid0.Coords) (v158 : BitVec 32) : Prop :=
  (∀ (k0_h2 : k0_cond2 i = 1#1), ∀ a, (k0_off14 v158) a + S2x4608.size a ≤ S12800x4608.size a) ∧
  (∀ (k0_h2 : k0_cond2 i = 1#1), ∀ (hinb : ∀ a, (k0_off14 v158) a + S2x4608.size a ≤ S12800x4608.size a), (Rect.unit (s := S12800x4608) (k0_off14 v158) S2x4608.size hinb).WholeWords (EltTy.packing .bf16))
theorem k0_off14_inb : ∀ (i : grid0.Coords) (v158 : BitVec 32) (k0_hw4 : k0_chk4 i v158), ∀ (k0_h2 : k0_cond2 i = 1#1), ∀ a, (k0_off14 v158) a + S2x4608.size a ≤ S12800x4608.size a := fun i v158 k0_hw4 k0_h2 => k0_hw4.1 k0_h2
theorem k0_off14_wordsbf16 : ∀ (i : grid0.Coords) (v158 : BitVec 32) (k0_hw4 : k0_chk4 i v158), ∀ (k0_h2 : k0_cond2 i = 1#1), (Rect.unit (s := S12800x4608) (k0_off14 v158) S2x4608.size (k0_off14_inb i v158 k0_hw4 k0_h2)).WholeWords (EltTy.packing .bf16) := fun i v158 k0_hw4 k0_h2 => k0_hw4.2 k0_h2 (k0_off14_inb i v158 k0_hw4 k0_h2)

def k0_off15 (v130 : BitVec 32) (v133 : BitVec 32) (k0_t1 : Fin (k0_t1_loop v130 v133).trips) (k0_t4 : Fin (k0_t4_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t4
  let v165 : BitVec 32 := Scalar.addi v143 arg14
  let v166 : Index := Scalar.indexCast v165
  ![v166.toNat]
def k0_off16 (v130 : BitVec 32) (v133 : BitVec 32) (k0_t1 : Fin (k0_t1_loop v130 v133).trips) (k0_t4 : Fin (k0_t4_loop v130 v133 k0_t1).trips) : Fin 2 → Nat :=
  let c0_i32_26 : BitVec 32 := 0#32
  let c1_i32_28 : BitVec 32 := 1#32
  let arg14 : BitVec 32 := Scf.iv c0_i32_26 c1_i32_28 k0_t4
  let v169 : Index := Scalar.indexCast arg14
  let c0_34 : Index := 0#32
  ![v169.toNat, 0]
def k0_off17 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk5 (i : grid0.Coords) (v179 : BitVec 32) : Prop :=
  (∀ (k0_h2 : k0_cond2 i = 1#1), ∀ a, (k0_off17 i v179) a + S1x4608.size a ≤ S1024x4608.size a)
theorem k0_off17_inb : ∀ (i : grid0.Coords) (v179 : BitVec 32) (k0_hw5 : k0_chk5 i v179), ∀ (k0_h2 : k0_cond2 i = 1#1), ∀ a, (k0_off17 i v179) a + S1x4608.size a ≤ S1024x4608.size a := fun i v179 k0_hw5 k0_h2 => k0_hw5 k0_h2

@[reducible] def k0_t5_loop (v130 : BitVec 32) (v133 : BitVec 32) (k0_t1 : Fin (k0_t1_loop v130 v133).trips) : Scf.Loop 32 :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let v152 : BitVec 32 := Scalar.addi c0_i32_26 v151
  let c1_i32_29 : BitVec 32 := 1#32
  ⟨v155, v152, c1_i32_29⟩
def k0_off18 (v130 : BitVec 32) (v133 : BitVec 32) (k0_t1 : Fin (k0_t1_loop v130 v133).trips) (k0_t5 : Fin (k0_t5_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let v156 : BitVec 32 := Scalar.addi v143 arg14
  let v157 : Index := Scalar.indexCast v156
  ![v157.toNat]
def k0_off19 (v130 : BitVec 32) (v133 : BitVec 32) (k0_t1 : Fin (k0_t1_loop v130 v133).trips) (k0_t5 : Fin (k0_t5_loop v130 v133 k0_t1).trips) : Fin 1 → Nat :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  ![arg14.toNat]
def k0_off20 (v130 : BitVec 32) (v133 : BitVec 32) (k0_t1 : Fin (k0_t1_loop v130 v133).trips) (k0_t5 : Fin (k0_t5_loop v130 v133 k0_t1).trips) : Fin 2 → Nat :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let c0_i32_31 : BitVec 32 := 0#32
  ![arg14.toNat, 0]
def k0_off21 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk6 (i : grid0.Coords) (v158 : BitVec 32) : Prop :=
  (∀ (k0_h2 : k0_cond2 i = 1#1), ∀ a, (k0_off21 v158) a + S2x4608.size a ≤ S12800x4608.size a) ∧
  (∀ (k0_h2 : k0_cond2 i = 1#1), ∀ (hinb : ∀ a, (k0_off21 v158) a + S2x4608.size a ≤ S12800x4608.size a), (Rect.unit (s := S12800x4608) (k0_off21 v158) S2x4608.size hinb).WholeWords (EltTy.packing .bf16))
theorem k0_off21_inb : ∀ (i : grid0.Coords) (v158 : BitVec 32) (k0_hw6 : k0_chk6 i v158), ∀ (k0_h2 : k0_cond2 i = 1#1), ∀ a, (k0_off21 v158) a + S2x4608.size a ≤ S12800x4608.size a := fun i v158 k0_hw6 k0_h2 => k0_hw6.1 k0_h2
theorem k0_off21_wordsbf16 : ∀ (i : grid0.Coords) (v158 : BitVec 32) (k0_hw6 : k0_chk6 i v158), ∀ (k0_h2 : k0_cond2 i = 1#1), (Rect.unit (s := S12800x4608) (k0_off21 v158) S2x4608.size (k0_off21_inb i v158 k0_hw6 k0_h2)).WholeWords (EltTy.packing .bf16) := fun i v158 k0_hw6 k0_h2 => k0_hw6.2 k0_h2 (k0_off21_inb i v158 k0_hw6 k0_h2)

def k0_off22 (v130 : BitVec 32) (v133 : BitVec 32) (k0_t1 : Fin (k0_t1_loop v130 v133).trips) (k0_t5 : Fin (k0_t5_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let v165 : BitVec 32 := Scalar.addi v143 arg14
  let v166 : Index := Scalar.indexCast v165
  ![v166.toNat]
def k0_off23 (v130 : BitVec 32) (v133 : BitVec 32) (k0_t1 : Fin (k0_t1_loop v130 v133).trips) (k0_t5 : Fin (k0_t5_loop v130 v133 k0_t1).trips) : Fin 2 → Nat :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let v169 : Index := Scalar.indexCast arg14
  let c0_34 : Index := 0#32
  ![v169.toNat, 0]
def k0_off24 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk7 (i : grid0.Coords) (v179 : BitVec 32) : Prop :=
  (∀ (k0_h2 : k0_cond2 i = 1#1), ∀ a, (k0_off24 i v179) a + S1x4608.size a ≤ S1024x4608.size a)
theorem k0_off24_inb : ∀ (i : grid0.Coords) (v179 : BitVec 32) (k0_hw7 : k0_chk7 i v179), ∀ (k0_h2 : k0_cond2 i = 1#1), ∀ a, (k0_off24 i v179) a + S1x4608.size a ≤ S1024x4608.size a := fun i v179 k0_hw7 k0_h2 => k0_hw7 k0_h2

@[reducible] def k0_t6_loop (v130 : BitVec 32) (v133 : BitVec 32) : Scf.Loop 32 :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let v138 : BitVec 32 := Scalar.addi c0_i32_14 v137
  let c1_i32_17 : BitVec 32 := 1#32
  ⟨v141, v138, c1_i32_17⟩
@[reducible] def k0_t7_loop (v130 : BitVec 32) (v133 : BitVec 32) (k0_t6 : Fin (k0_t6_loop v130 v133).trips) : Scf.Loop 32 :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_23 : BitVec 32 := 1#32
  ⟨c0_i32_21, v150, c1_i32_23⟩
def k0_off25 (v130 : BitVec 32) (v133 : BitVec 32) (k0_t6 : Fin (k0_t6_loop v130 v133).trips) (k0_t7 : Fin (k0_t7_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_21 : BitVec 32 := 0#32
  let c1_i32_23 : BitVec 32 := 1#32
  let arg14 : BitVec 32 := Scf.iv c0_i32_21 c1_i32_23 k0_t7
  let v156 : BitVec 32 := Scalar.addi v143 arg14
  let v157 : Index := Scalar.indexCast v156
  ![v157.toNat]
def k0_off26 (v130 : BitVec 32) (v133 : BitVec 32) (k0_t6 : Fin (k0_t6_loop v130 v133).trips) (k0_t7 : Fin (k0_t7_loop v130 v133 k0_t6).trips) : Fin 1 → Nat :=
  let c0_i32_21 : BitVec 32 := 0#32
  let c1_i32_23 : BitVec 32 := 1#32
  let arg14 : BitVec 32 := Scf.iv c0_i32_21 c1_i32_23 k0_t7
  ![arg14.toNat]
def k0_off27 (v130 : BitVec 32) (v133 : BitVec 32) (k0_t6 : Fin (k0_t6_loop v130 v133).trips) (k0_t7 : Fin (k0_t7_loop v130 v133 k0_t6).trips) : Fin 2 → Nat :=
  let c0_i32_21 : BitVec 32 := 0#32
  let c1_i32_23 : BitVec 32 := 1#32
  let arg14 : BitVec 32 := Scf.iv c0_i32_21 c1_i32_23 k0_t7
  let c0_i32_31 : BitVec 32 := 0#32
  ![arg14.toNat, 0]
def k0_off28 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk8 (i : grid0.Coords) (v158 : BitVec 32) : Prop :=
  (∀ (k0_h2 : k0_cond2 i = 1#1), ∀ a, (k0_off28 v158) a + S2x4608.size a ≤ S12800x4608.size a) ∧
  (∀ (k0_h2 : k0_cond2 i = 1#1), ∀ (hinb : ∀ a, (k0_off28 v158) a + S2x4608.size a ≤ S12800x4608.size a), (Rect.unit (s := S12800x4608) (k0_off28 v158) S2x4608.size hinb).WholeWords (EltTy.packing .bf16))
theorem k0_off28_inb : ∀ (i : grid0.Coords) (v158 : BitVec 32) (k0_hw8 : k0_chk8 i v158), ∀ (k0_h2 : k0_cond2 i = 1#1), ∀ a, (k0_off28 v158) a + S2x4608.size a ≤ S12800x4608.size a := fun i v158 k0_hw8 k0_h2 => k0_hw8.1 k0_h2
theorem k0_off28_wordsbf16 : ∀ (i : grid0.Coords) (v158 : BitVec 32) (k0_hw8 : k0_chk8 i v158), ∀ (k0_h2 : k0_cond2 i = 1#1), (Rect.unit (s := S12800x4608) (k0_off28 v158) S2x4608.size (k0_off28_inb i v158 k0_hw8 k0_h2)).WholeWords (EltTy.packing .bf16) := fun i v158 k0_hw8 k0_h2 => k0_hw8.2 k0_h2 (k0_off28_inb i v158 k0_hw8 k0_h2)

@[reducible] def k0_t8_loop (v130 : BitVec 32) (v133 : BitVec 32) (k0_t6 : Fin (k0_t6_loop v130 v133).trips) : Scf.Loop 32 :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let v147 : BitVec 32 := Scalar.addi c0_i32_21 v146
  let c1_i32_24 : BitVec 32 := 1#32
  ⟨v150, v147, c1_i32_24⟩
def k0_off29 (v130 : BitVec 32) (v133 : BitVec 32) (k0_t6 : Fin (k0_t6_loop v130 v133).trips) (k0_t8 : Fin (k0_t8_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_21 : BitVec 32 := 0#32
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t8
  let v156 : BitVec 32 := Scalar.addi v143 arg14
  let v157 : Index := Scalar.indexCast v156
  ![v157.toNat]
def k0_off30 (v130 : BitVec 32) (v133 : BitVec 32) (k0_t6 : Fin (k0_t6_loop v130 v133).trips) (k0_t8 : Fin (k0_t8_loop v130 v133 k0_t6).trips) : Fin 1 → Nat :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t8
  ![arg14.toNat]
def k0_off31 (v130 : BitVec 32) (v133 : BitVec 32) (k0_t6 : Fin (k0_t6_loop v130 v133).trips) (k0_t8 : Fin (k0_t8_loop v130 v133 k0_t6).trips) : Fin 2 → Nat :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t8
  let c0_i32_31 : BitVec 32 := 0#32
  ![arg14.toNat, 0]
def k0_off32 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk9 (i : grid0.Coords) (v158 : BitVec 32) : Prop :=
  (∀ (k0_h2 : k0_cond2 i = 1#1), ∀ a, (k0_off32 v158) a + S2x4608.size a ≤ S12800x4608.size a) ∧
  (∀ (k0_h2 : k0_cond2 i = 1#1), ∀ (hinb : ∀ a, (k0_off32 v158) a + S2x4608.size a ≤ S12800x4608.size a), (Rect.unit (s := S12800x4608) (k0_off32 v158) S2x4608.size hinb).WholeWords (EltTy.packing .bf16))
theorem k0_off32_inb : ∀ (i : grid0.Coords) (v158 : BitVec 32) (k0_hw9 : k0_chk9 i v158), ∀ (k0_h2 : k0_cond2 i = 1#1), ∀ a, (k0_off32 v158) a + S2x4608.size a ≤ S12800x4608.size a := fun i v158 k0_hw9 k0_h2 => k0_hw9.1 k0_h2
theorem k0_off32_wordsbf16 : ∀ (i : grid0.Coords) (v158 : BitVec 32) (k0_hw9 : k0_chk9 i v158), ∀ (k0_h2 : k0_cond2 i = 1#1), (Rect.unit (s := S12800x4608) (k0_off32 v158) S2x4608.size (k0_off32_inb i v158 k0_hw9 k0_h2)).WholeWords (EltTy.packing .bf16) := fun i v158 k0_hw9 k0_h2 => k0_hw9.2 k0_h2 (k0_off32_inb i v158 k0_hw9 k0_h2)

@[reducible] def k0_t9_loop (v130 : BitVec 32) (v133 : BitVec 32) (k0_t6 : Fin (k0_t6_loop v130 v133).trips) : Scf.Loop 32 :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_28 : BitVec 32 := 1#32
  ⟨c0_i32_26, v155, c1_i32_28⟩
def k0_off33 (v130 : BitVec 32) (v133 : BitVec 32) (k0_t6 : Fin (k0_t6_loop v130 v133).trips) (k0_t9 : Fin (k0_t9_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t9
  let v156 : BitVec 32 := Scalar.addi v143 arg14
  let v157 : Index := Scalar.indexCast v156
  ![v157.toNat]
def k0_off34 (v130 : BitVec 32) (v133 : BitVec 32) (k0_t6 : Fin (k0_t6_loop v130 v133).trips) (k0_t9 : Fin (k0_t9_loop v130 v133 k0_t6).trips) : Fin 1 → Nat :=
  let c0_i32_26 : BitVec 32 := 0#32
  let c1_i32_28 : BitVec 32 := 1#32
  let arg14 : BitVec 32 := Scf.iv c0_i32_26 c1_i32_28 k0_t9
  ![arg14.toNat]
def k0_off35 (v130 : BitVec 32) (v133 : BitVec 32) (k0_t6 : Fin (k0_t6_loop v130 v133).trips) (k0_t9 : Fin (k0_t9_loop v130 v133 k0_t6).trips) : Fin 2 → Nat :=
  let c0_i32_26 : BitVec 32 := 0#32
  let c1_i32_28 : BitVec 32 := 1#32
  let arg14 : BitVec 32 := Scf.iv c0_i32_26 c1_i32_28 k0_t9
  let c0_i32_31 : BitVec 32 := 0#32
  ![arg14.toNat, 0]
def k0_off36 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk10 (i : grid0.Coords) (v158 : BitVec 32) : Prop :=
  (∀ (k0_h2 : k0_cond2 i = 1#1), ∀ a, (k0_off36 v158) a + S2x4608.size a ≤ S12800x4608.size a) ∧
  (∀ (k0_h2 : k0_cond2 i = 1#1), ∀ (hinb : ∀ a, (k0_off36 v158) a + S2x4608.size a ≤ S12800x4608.size a), (Rect.unit (s := S12800x4608) (k0_off36 v158) S2x4608.size hinb).WholeWords (EltTy.packing .bf16))
theorem k0_off36_inb : ∀ (i : grid0.Coords) (v158 : BitVec 32) (k0_hw10 : k0_chk10 i v158), ∀ (k0_h2 : k0_cond2 i = 1#1), ∀ a, (k0_off36 v158) a + S2x4608.size a ≤ S12800x4608.size a := fun i v158 k0_hw10 k0_h2 => k0_hw10.1 k0_h2
theorem k0_off36_wordsbf16 : ∀ (i : grid0.Coords) (v158 : BitVec 32) (k0_hw10 : k0_chk10 i v158), ∀ (k0_h2 : k0_cond2 i = 1#1), (Rect.unit (s := S12800x4608) (k0_off36 v158) S2x4608.size (k0_off36_inb i v158 k0_hw10 k0_h2)).WholeWords (EltTy.packing .bf16) := fun i v158 k0_hw10 k0_h2 => k0_hw10.2 k0_h2 (k0_off36_inb i v158 k0_hw10 k0_h2)

def k0_off37 (v130 : BitVec 32) (v133 : BitVec 32) (k0_t6 : Fin (k0_t6_loop v130 v133).trips) (k0_t9 : Fin (k0_t9_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t9
  let v165 : BitVec 32 := Scalar.addi v143 arg14
  let v166 : Index := Scalar.indexCast v165
  ![v166.toNat]
def k0_off38 (v130 : BitVec 32) (v133 : BitVec 32) (k0_t6 : Fin (k0_t6_loop v130 v133).trips) (k0_t9 : Fin (k0_t9_loop v130 v133 k0_t6).trips) : Fin 2 → Nat :=
  let c0_i32_26 : BitVec 32 := 0#32
  let c1_i32_28 : BitVec 32 := 1#32
  let arg14 : BitVec 32 := Scf.iv c0_i32_26 c1_i32_28 k0_t9
  let v169 : Index := Scalar.indexCast arg14
  let c0_34 : Index := 0#32
  ![v169.toNat, 0]
def k0_off39 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk11 (i : grid0.Coords) (v179 : BitVec 32) : Prop :=
  (∀ (k0_h2 : k0_cond2 i = 1#1), ∀ a, (k0_off39 i v179) a + S1x4608.size a ≤ S1024x4608.size a)
theorem k0_off39_inb : ∀ (i : grid0.Coords) (v179 : BitVec 32) (k0_hw11 : k0_chk11 i v179), ∀ (k0_h2 : k0_cond2 i = 1#1), ∀ a, (k0_off39 i v179) a + S1x4608.size a ≤ S1024x4608.size a := fun i v179 k0_hw11 k0_h2 => k0_hw11 k0_h2

@[reducible] def k0_t10_loop (v130 : BitVec 32) (v133 : BitVec 32) (k0_t6 : Fin (k0_t6_loop v130 v133).trips) : Scf.Loop 32 :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let v152 : BitVec 32 := Scalar.addi c0_i32_26 v151
  let c1_i32_29 : BitVec 32 := 1#32
  ⟨v155, v152, c1_i32_29⟩
def k0_off40 (v130 : BitVec 32) (v133 : BitVec 32) (k0_t6 : Fin (k0_t6_loop v130 v133).trips) (k0_t10 : Fin (k0_t10_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let v156 : BitVec 32 := Scalar.addi v143 arg14
  let v157 : Index := Scalar.indexCast v156
  ![v157.toNat]
def k0_off41 (v130 : BitVec 32) (v133 : BitVec 32) (k0_t6 : Fin (k0_t6_loop v130 v133).trips) (k0_t10 : Fin (k0_t10_loop v130 v133 k0_t6).trips) : Fin 1 → Nat :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  ![arg14.toNat]
def k0_off42 (v130 : BitVec 32) (v133 : BitVec 32) (k0_t6 : Fin (k0_t6_loop v130 v133).trips) (k0_t10 : Fin (k0_t10_loop v130 v133 k0_t6).trips) : Fin 2 → Nat :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let c0_i32_31 : BitVec 32 := 0#32
  ![arg14.toNat, 0]
def k0_off43 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk12 (i : grid0.Coords) (v158 : BitVec 32) : Prop :=
  (∀ (k0_h2 : k0_cond2 i = 1#1), ∀ a, (k0_off43 v158) a + S2x4608.size a ≤ S12800x4608.size a) ∧
  (∀ (k0_h2 : k0_cond2 i = 1#1), ∀ (hinb : ∀ a, (k0_off43 v158) a + S2x4608.size a ≤ S12800x4608.size a), (Rect.unit (s := S12800x4608) (k0_off43 v158) S2x4608.size hinb).WholeWords (EltTy.packing .bf16))
theorem k0_off43_inb : ∀ (i : grid0.Coords) (v158 : BitVec 32) (k0_hw12 : k0_chk12 i v158), ∀ (k0_h2 : k0_cond2 i = 1#1), ∀ a, (k0_off43 v158) a + S2x4608.size a ≤ S12800x4608.size a := fun i v158 k0_hw12 k0_h2 => k0_hw12.1 k0_h2
theorem k0_off43_wordsbf16 : ∀ (i : grid0.Coords) (v158 : BitVec 32) (k0_hw12 : k0_chk12 i v158), ∀ (k0_h2 : k0_cond2 i = 1#1), (Rect.unit (s := S12800x4608) (k0_off43 v158) S2x4608.size (k0_off43_inb i v158 k0_hw12 k0_h2)).WholeWords (EltTy.packing .bf16) := fun i v158 k0_hw12 k0_h2 => k0_hw12.2 k0_h2 (k0_off43_inb i v158 k0_hw12 k0_h2)

def k0_off44 (v130 : BitVec 32) (v133 : BitVec 32) (k0_t6 : Fin (k0_t6_loop v130 v133).trips) (k0_t10 : Fin (k0_t10_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let v165 : BitVec 32 := Scalar.addi v143 arg14
  let v166 : Index := Scalar.indexCast v165
  ![v166.toNat]
def k0_off45 (v130 : BitVec 32) (v133 : BitVec 32) (k0_t6 : Fin (k0_t6_loop v130 v133).trips) (k0_t10 : Fin (k0_t10_loop v130 v133 k0_t6).trips) : Fin 2 → Nat :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let v169 : Index := Scalar.indexCast arg14
  let c0_34 : Index := 0#32
  ![v169.toNat, 0]

def k0_chk1_0 (i : grid0.Coords) (v130 : BitVec 32) (v133 : BitVec 32) : Prop :=
  (∀ (k0_h2 : k0_cond2 i = 1#1), (k0_t1_loop v130 v133).OK) ∧
  (∀ k0_t1 : Fin (k0_t1_loop v130 v133).trips, ∀ (k0_h2 : k0_cond2 i = 1#1), (k0_t2_loop v130 v133 k0_t1).OK) ∧
  (∀ (k0_t1 : Fin (k0_t1_loop v130 v133).trips) (k0_t2 : Fin (k0_t2_loop v130 v133 k0_t1).trips), ∀ (k0_h2 : k0_cond2 i = 1#1), ∀ a, (k0_off3 v130 v133 k0_t1 k0_t2) a + S1.size a ≤ S12800.size a) ∧
  (∀ (k0_t1 : Fin (k0_t1_loop v130 v133).trips) (k0_t2 : Fin (k0_t2_loop v130 v133 k0_t1).trips), ∀ (k0_h2 : k0_cond2 i = 1#1), ∀ a, (k0_off4 v130 v133 k0_t1 k0_t2) a + S1.size a ≤ S16.size a) ∧
  (∀ (k0_t1 : Fin (k0_t1_loop v130 v133).trips) (k0_t2 : Fin (k0_t2_loop v130 v133 k0_t1).trips), ∀ (k0_h2 : k0_cond2 i = 1#1), ∀ a, (k0_off5 v130 v133 k0_t1 k0_t2) a + S1x4608.size a ≤ S16x4608.size a) ∧
  (∀ k0_t1 : Fin (k0_t1_loop v130 v133).trips, ∀ (k0_h2 : k0_cond2 i = 1#1), (k0_t3_loop v130 v133 k0_t1).OK) ∧
  (∀ (k0_t1 : Fin (k0_t1_loop v130 v133).trips) (k0_t3 : Fin (k0_t3_loop v130 v133 k0_t1).trips), ∀ (k0_h2 : k0_cond2 i = 1#1), ∀ a, (k0_off7 v130 v133 k0_t1 k0_t3) a + S1.size a ≤ S12800.size a) ∧
  (∀ (k0_t1 : Fin (k0_t1_loop v130 v133).trips) (k0_t3 : Fin (k0_t3_loop v130 v133 k0_t1).trips), ∀ (k0_h2 : k0_cond2 i = 1#1), ∀ a, (k0_off8 v130 v133 k0_t1 k0_t3) a + S1.size a ≤ S16.size a) ∧
  (∀ (k0_t1 : Fin (k0_t1_loop v130 v133).trips) (k0_t3 : Fin (k0_t3_loop v130 v133 k0_t1).trips), ∀ (k0_h2 : k0_cond2 i = 1#1), ∀ a, (k0_off9 v130 v133 k0_t1 k0_t3) a + S1x4608.size a ≤ S16x4608.size a) ∧
  (∀ k0_t1 : Fin (k0_t1_loop v130 v133).trips, ∀ (k0_h2 : k0_cond2 i = 1#1), (k0_t4_loop v130 v133 k0_t1).OK) ∧
  (∀ (k0_t1 : Fin (k0_t1_loop v130 v133).trips) (k0_t4 : Fin (k0_t4_loop v130 v133 k0_t1).trips), ∀ (k0_h2 : k0_cond2 i = 1#1), ∀ a, (k0_off11 v130 v133 k0_t1 k0_t4) a + S1.size a ≤ S12800.size a) ∧
  (∀ (k0_t1 : Fin (k0_t1_loop v130 v133).trips) (k0_t4 : Fin (k0_t4_loop v130 v133 k0_t1).trips), ∀ (k0_h2 : k0_cond2 i = 1#1), ∀ a, (k0_off12 v130 v133 k0_t1 k0_t4) a + S1.size a ≤ S16.size a) ∧
  (∀ (k0_t1 : Fin (k0_t1_loop v130 v133).trips) (k0_t4 : Fin (k0_t4_loop v130 v133 k0_t1).trips), ∀ (k0_h2 : k0_cond2 i = 1#1), ∀ a, (k0_off13 v130 v133 k0_t1 k0_t4) a + S1x4608.size a ≤ S16x4608.size a) ∧
  (∀ (k0_t1 : Fin (k0_t1_loop v130 v133).trips) (k0_t4 : Fin (k0_t4_loop v130 v133 k0_t1).trips), ∀ (k0_h2 : k0_cond2 i = 1#1), ∀ a, (k0_off15 v130 v133 k0_t1 k0_t4) a + S1.size a ≤ S12800.size a) ∧
  (∀ (k0_t1 : Fin (k0_t1_loop v130 v133).trips) (k0_t4 : Fin (k0_t4_loop v130 v133 k0_t1).trips), ∀ (k0_h2 : k0_cond2 i = 1#1), ∀ a, (k0_off16 v130 v133 k0_t1 k0_t4) a + S1x4608.size a ≤ S16x4608.size a) ∧
  (∀ k0_t1 : Fin (k0_t1_loop v130 v133).trips, ∀ (k0_h2 : k0_cond2 i = 1#1), (k0_t5_loop v130 v133 k0_t1).OK) ∧
  (∀ (k0_t1 : Fin (k0_t1_loop v130 v133).trips) (k0_t5 : Fin (k0_t5_loop v130 v133 k0_t1).trips), ∀ (k0_h2 : k0_cond2 i = 1#1), ∀ a, (k0_off18 v130 v133 k0_t1 k0_t5) a + S1.size a ≤ S12800.size a) ∧
  (∀ (k0_t1 : Fin (k0_t1_loop v130 v133).trips) (k0_t5 : Fin (k0_t5_loop v130 v133 k0_t1).trips), ∀ (k0_h2 : k0_cond2 i = 1#1), ∀ a, (k0_off19 v130 v133 k0_t1 k0_t5) a + S1.size a ≤ S16.size a) ∧
  (∀ (k0_t1 : Fin (k0_t1_loop v130 v133).trips) (k0_t5 : Fin (k0_t5_loop v130 v133 k0_t1).trips), ∀ (k0_h2 : k0_cond2 i = 1#1), ∀ a, (k0_off20 v130 v133 k0_t1 k0_t5) a + S1x4608.size a ≤ S16x4608.size a) ∧
  (∀ (k0_t1 : Fin (k0_t1_loop v130 v133).trips) (k0_t5 : Fin (k0_t5_loop v130 v133 k0_t1).trips), ∀ (k0_h2 : k0_cond2 i = 1#1), ∀ a, (k0_off22 v130 v133 k0_t1 k0_t5) a + S1.size a ≤ S12800.size a) ∧
  (∀ (k0_t1 : Fin (k0_t1_loop v130 v133).trips) (k0_t5 : Fin (k0_t5_loop v130 v133 k0_t1).trips), ∀ (k0_h2 : k0_cond2 i = 1#1), ∀ a, (k0_off23 v130 v133 k0_t1 k0_t5) a + S1x4608.size a ≤ S16x4608.size a) ∧
  (∀ (k0_h2 : k0_cond2 i = 1#1), (k0_t6_loop v130 v133).OK) ∧
  (∀ k0_t6 : Fin (k0_t6_loop v130 v133).trips, ∀ (k0_h2 : k0_cond2 i = 1#1), (k0_t7_loop v130 v133 k0_t6).OK) ∧
  (∀ (k0_t6 : Fin (k0_t6_loop v130 v133).trips) (k0_t7 : Fin (k0_t7_loop v130 v133 k0_t6).trips), ∀ (k0_h2 : k0_cond2 i = 1#1), ∀ a, (k0_off25 v130 v133 k0_t6 k0_t7) a + S1.size a ≤ S12800.size a) ∧
  (∀ (k0_t6 : Fin (k0_t6_loop v130 v133).trips) (k0_t7 : Fin (k0_t7_loop v130 v133 k0_t6).trips), ∀ (k0_h2 : k0_cond2 i = 1#1), ∀ a, (k0_off26 v130 v133 k0_t6 k0_t7) a + S1.size a ≤ S16.size a) ∧
  (∀ (k0_t6 : Fin (k0_t6_loop v130 v133).trips) (k0_t7 : Fin (k0_t7_loop v130 v133 k0_t6).trips), ∀ (k0_h2 : k0_cond2 i = 1#1), ∀ a, (k0_off27 v130 v133 k0_t6 k0_t7) a + S1x4608.size a ≤ S16x4608.size a) ∧
  (∀ k0_t6 : Fin (k0_t6_loop v130 v133).trips, ∀ (k0_h2 : k0_cond2 i = 1#1), (k0_t8_loop v130 v133 k0_t6).OK) ∧
  (∀ (k0_t6 : Fin (k0_t6_loop v130 v133).trips) (k0_t8 : Fin (k0_t8_loop v130 v133 k0_t6).trips), ∀ (k0_h2 : k0_cond2 i = 1#1), ∀ a, (k0_off29 v130 v133 k0_t6 k0_t8) a + S1.size a ≤ S12800.size a) ∧
  (∀ (k0_t6 : Fin (k0_t6_loop v130 v133).trips) (k0_t8 : Fin (k0_t8_loop v130 v133 k0_t6).trips), ∀ (k0_h2 : k0_cond2 i = 1#1), ∀ a, (k0_off30 v130 v133 k0_t6 k0_t8) a + S1.size a ≤ S16.size a) ∧
  (∀ (k0_t6 : Fin (k0_t6_loop v130 v133).trips) (k0_t8 : Fin (k0_t8_loop v130 v133 k0_t6).trips), ∀ (k0_h2 : k0_cond2 i = 1#1), ∀ a, (k0_off31 v130 v133 k0_t6 k0_t8) a + S1x4608.size a ≤ S16x4608.size a) ∧
  (∀ k0_t6 : Fin (k0_t6_loop v130 v133).trips, ∀ (k0_h2 : k0_cond2 i = 1#1), (k0_t9_loop v130 v133 k0_t6).OK) ∧
  (∀ (k0_t6 : Fin (k0_t6_loop v130 v133).trips) (k0_t9 : Fin (k0_t9_loop v130 v133 k0_t6).trips), ∀ (k0_h2 : k0_cond2 i = 1#1), ∀ a, (k0_off33 v130 v133 k0_t6 k0_t9) a + S1.size a ≤ S12800.size a)
def k0_chk1_1 (i : grid0.Coords) (v130 : BitVec 32) (v133 : BitVec 32) : Prop :=
  (∀ (k0_t6 : Fin (k0_t6_loop v130 v133).trips) (k0_t9 : Fin (k0_t9_loop v130 v133 k0_t6).trips), ∀ (k0_h2 : k0_cond2 i = 1#1), ∀ a, (k0_off34 v130 v133 k0_t6 k0_t9) a + S1.size a ≤ S16.size a) ∧
  (∀ (k0_t6 : Fin (k0_t6_loop v130 v133).trips) (k0_t9 : Fin (k0_t9_loop v130 v133 k0_t6).trips), ∀ (k0_h2 : k0_cond2 i = 1#1), ∀ a, (k0_off35 v130 v133 k0_t6 k0_t9) a + S1x4608.size a ≤ S16x4608.size a) ∧
  (∀ (k0_t6 : Fin (k0_t6_loop v130 v133).trips) (k0_t9 : Fin (k0_t9_loop v130 v133 k0_t6).trips), ∀ (k0_h2 : k0_cond2 i = 1#1), ∀ a, (k0_off37 v130 v133 k0_t6 k0_t9) a + S1.size a ≤ S12800.size a) ∧
  (∀ (k0_t6 : Fin (k0_t6_loop v130 v133).trips) (k0_t9 : Fin (k0_t9_loop v130 v133 k0_t6).trips), ∀ (k0_h2 : k0_cond2 i = 1#1), ∀ a, (k0_off38 v130 v133 k0_t6 k0_t9) a + S1x4608.size a ≤ S16x4608.size a) ∧
  (∀ k0_t6 : Fin (k0_t6_loop v130 v133).trips, ∀ (k0_h2 : k0_cond2 i = 1#1), (k0_t10_loop v130 v133 k0_t6).OK) ∧
  (∀ (k0_t6 : Fin (k0_t6_loop v130 v133).trips) (k0_t10 : Fin (k0_t10_loop v130 v133 k0_t6).trips), ∀ (k0_h2 : k0_cond2 i = 1#1), ∀ a, (k0_off40 v130 v133 k0_t6 k0_t10) a + S1.size a ≤ S12800.size a) ∧
  (∀ (k0_t6 : Fin (k0_t6_loop v130 v133).trips) (k0_t10 : Fin (k0_t10_loop v130 v133 k0_t6).trips), ∀ (k0_h2 : k0_cond2 i = 1#1), ∀ a, (k0_off41 v130 v133 k0_t6 k0_t10) a + S1.size a ≤ S16.size a) ∧
  (∀ (k0_t6 : Fin (k0_t6_loop v130 v133).trips) (k0_t10 : Fin (k0_t10_loop v130 v133 k0_t6).trips), ∀ (k0_h2 : k0_cond2 i = 1#1), ∀ a, (k0_off42 v130 v133 k0_t6 k0_t10) a + S1x4608.size a ≤ S16x4608.size a) ∧
  (∀ (k0_t6 : Fin (k0_t6_loop v130 v133).trips) (k0_t10 : Fin (k0_t10_loop v130 v133 k0_t6).trips), ∀ (k0_h2 : k0_cond2 i = 1#1), ∀ a, (k0_off44 v130 v133 k0_t6 k0_t10) a + S1.size a ≤ S12800.size a) ∧
  (∀ (k0_t6 : Fin (k0_t6_loop v130 v133).trips) (k0_t10 : Fin (k0_t10_loop v130 v133 k0_t6).trips), ∀ (k0_h2 : k0_cond2 i = 1#1), ∀ a, (k0_off45 v130 v133 k0_t6 k0_t10) a + S1x4608.size a ≤ S16x4608.size a)
def k0_chk1 (i : grid0.Coords) (v130 : BitVec 32) (v133 : BitVec 32) : Prop :=
  k0_chk1_0 i v130 v133 ∧
  k0_chk1_1 i v130 v133
theorem k0_t1_ok : ∀ (i : grid0.Coords) (v130 : BitVec 32) (v133 : BitVec 32) (k0_hw1 : k0_chk1 i v130 v133), ∀ (k0_h2 : k0_cond2 i = 1#1), (k0_t1_loop v130 v133).OK := fun i v130 v133 k0_hw1 k0_h2 => k0_hw1.1.1 k0_h2
theorem k0_t2_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t2_loop v130 v133 k0_t1).OK := fun i v130 v133 k0_hw1 k0_t1 k0_h2 => k0_hw1.1.2.1 k0_t1 k0_h2
theorem k0_off3_inb : ∀ (i : grid0.Coords) (v130 : BitVec 32) (v133 : BitVec 32) (k0_hw1 : k0_chk1 i v130 v133) (k0_t1 : Fin (k0_t1_loop v130 v133).trips) (k0_t2 : Fin (k0_t2_loop v130 v133 k0_t1).trips), ∀ (k0_h2 : k0_cond2 i = 1#1), ∀ a, (k0_off3 v130 v133 k0_t1 k0_t2) a + S1.size a ≤ S12800.size a := fun i v130 v133 k0_hw1 k0_t1 k0_t2 k0_h2 => k0_hw1.1.2.2.1 k0_t1 k0_t2 k0_h2
theorem k0_off4_inb : ∀ (i : grid0.Coords) (v130 : BitVec 32) (v133 : BitVec 32) (k0_hw1 : k0_chk1 i v130 v133) (k0_t1 : Fin (k0_t1_loop v130 v133).trips) (k0_t2 : Fin (k0_t2_loop v130 v133 k0_t1).trips), ∀ (k0_h2 : k0_cond2 i = 1#1), ∀ a, (k0_off4 v130 v133 k0_t1 k0_t2) a + S1.size a ≤ S16.size a := fun i v130 v133 k0_hw1 k0_t1 k0_t2 k0_h2 => k0_hw1.1.2.2.2.1 k0_t1 k0_t2 k0_h2
theorem k0_off5_inb : ∀ (i : grid0.Coords) (v130 : BitVec 32) (v133 : BitVec 32) (k0_hw1 : k0_chk1 i v130 v133) (k0_t1 : Fin (k0_t1_loop v130 v133).trips) (k0_t2 : Fin (k0_t2_loop v130 v133 k0_t1).trips), ∀ (k0_h2 : k0_cond2 i = 1#1), ∀ a, (k0_off5 v130 v133 k0_t1 k0_t2) a + S1x4608.size a ≤ S16x4608.size a := fun i v130 v133 k0_hw1 k0_t1 k0_t2 k0_h2 => k0_hw1.1.2.2.2.2.1 k0_t1 k0_t2 k0_h2
theorem k0_t3_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t3_loop v130 v133 k0_t1).OK := fun i v130 v133 k0_hw1 k0_t1 k0_h2 => k0_hw1.1.2.2.2.2.2.1 k0_t1 k0_h2
theorem k0_off7_inb : ∀ (i : grid0.Coords) (v130 : BitVec 32) (v133 : BitVec 32) (k0_hw1 : k0_chk1 i v130 v133) (k0_t1 : Fin (k0_t1_loop v130 v133).trips) (k0_t3 : Fin (k0_t3_loop v130 v133 k0_t1).trips), ∀ (k0_h2 : k0_cond2 i = 1#1), ∀ a, (k0_off7 v130 v133 k0_t1 k0_t3) a + S1.size a ≤ S12800.size a := fun i v130 v133 k0_hw1 k0_t1 k0_t3 k0_h2 => k0_hw1.1.2.2.2.2.2.2.1 k0_t1 k0_t3 k0_h2
theorem k0_off8_inb : ∀ (i : grid0.Coords) (v130 : BitVec 32) (v133 : BitVec 32) (k0_hw1 : k0_chk1 i v130 v133) (k0_t1 : Fin (k0_t1_loop v130 v133).trips) (k0_t3 : Fin (k0_t3_loop v130 v133 k0_t1).trips), ∀ (k0_h2 : k0_cond2 i = 1#1), ∀ a, (k0_off8 v130 v133 k0_t1 k0_t3) a + S1.size a ≤ S16.size a := fun i v130 v133 k0_hw1 k0_t1 k0_t3 k0_h2 => k0_hw1.1.2.2.2.2.2.2.2.1 k0_t1 k0_t3 k0_h2
theorem k0_off9_inb : ∀ (i : grid0.Coords) (v130 : BitVec 32) (v133 : BitVec 32) (k0_hw1 : k0_chk1 i v130 v133) (k0_t1 : Fin (k0_t1_loop v130 v133).trips) (k0_t3 : Fin (k0_t3_loop v130 v133 k0_t1).trips), ∀ (k0_h2 : k0_cond2 i = 1#1), ∀ a, (k0_off9 v130 v133 k0_t1 k0_t3) a + S1x4608.size a ≤ S16x4608.size a := fun i v130 v133 k0_hw1 k0_t1 k0_t3 k0_h2 => k0_hw1.1.2.2.2.2.2.2.2.2.1 k0_t1 k0_t3 k0_h2
theorem k0_t4_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t4_loop v130 v133 k0_t1).OK := fun i v130 v133 k0_hw1 k0_t1 k0_h2 => k0_hw1.1.2.2.2.2.2.2.2.2.2.1 k0_t1 k0_h2
theorem k0_off11_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off11 v130 v133 k0_t1 k0_t4) a + S1.size a ≤ S12800.size a := fun i v130 v133 k0_hw1 k0_t1 k0_t4 k0_h2 => k0_hw1.1.2.2.2.2.2.2.2.2.2.2.1 k0_t1 k0_t4 k0_h2
theorem k0_off12_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off12 v130 v133 k0_t1 k0_t4) a + S1.size a ≤ S16.size a := fun i v130 v133 k0_hw1 k0_t1 k0_t4 k0_h2 => k0_hw1.1.2.2.2.2.2.2.2.2.2.2.2.1 k0_t1 k0_t4 k0_h2
theorem k0_off13_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off13 v130 v133 k0_t1 k0_t4) a + S1x4608.size a ≤ S16x4608.size a := fun i v130 v133 k0_hw1 k0_t1 k0_t4 k0_h2 => k0_hw1.1.2.2.2.2.2.2.2.2.2.2.2.2.1 k0_t1 k0_t4 k0_h2
theorem k0_off15_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off15 v130 v133 k0_t1 k0_t4) a + S1.size a ≤ S12800.size a := fun i v130 v133 k0_hw1 k0_t1 k0_t4 k0_h2 => k0_hw1.1.2.2.2.2.2.2.2.2.2.2.2.2.2.1 k0_t1 k0_t4 k0_h2
theorem k0_off16_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off16 v130 v133 k0_t1 k0_t4) a + S1x4608.size a ≤ S16x4608.size a := fun i v130 v133 k0_hw1 k0_t1 k0_t4 k0_h2 => k0_hw1.1.2.2.2.2.2.2.2.2.2.2.2.2.2.2.1 k0_t1 k0_t4 k0_h2
theorem k0_t5_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t5_loop v130 v133 k0_t1).OK := fun i v130 v133 k0_hw1 k0_t1 k0_h2 => k0_hw1.1.2.2.2.2.2.2.2.2.2.2.2.2.2.2.2.1 k0_t1 k0_h2
theorem k0_off18_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off18 v130 v133 k0_t1 k0_t5) a + S1.size a ≤ S12800.size a := fun i v130 v133 k0_hw1 k0_t1 k0_t5 k0_h2 => k0_hw1.1.2.2.2.2.2.2.2.2.2.2.2.2.2.2.2.2.1 k0_t1 k0_t5 k0_h2
theorem k0_off19_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off19 v130 v133 k0_t1 k0_t5) a + S1.size a ≤ S16.size a := fun i v130 v133 k0_hw1 k0_t1 k0_t5 k0_h2 => k0_hw1.1.2.2.2.2.2.2.2.2.2.2.2.2.2.2.2.2.2.1 k0_t1 k0_t5 k0_h2
theorem k0_off20_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off20 v130 v133 k0_t1 k0_t5) a + S1x4608.size a ≤ S16x4608.size a := fun i v130 v133 k0_hw1 k0_t1 k0_t5 k0_h2 => k0_hw1.1.2.2.2.2.2.2.2.2.2.2.2.2.2.2.2.2.2.2.1 k0_t1 k0_t5 k0_h2
theorem k0_off22_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off22 v130 v133 k0_t1 k0_t5) a + S1.size a ≤ S12800.size a := fun i v130 v133 k0_hw1 k0_t1 k0_t5 k0_h2 => k0_hw1.1.2.2.2.2.2.2.2.2.2.2.2.2.2.2.2.2.2.2.2.1 k0_t1 k0_t5 k0_h2
theorem k0_off23_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off23 v130 v133 k0_t1 k0_t5) a + S1x4608.size a ≤ S16x4608.size a := fun i v130 v133 k0_hw1 k0_t1 k0_t5 k0_h2 => k0_hw1.1.2.2.2.2.2.2.2.2.2.2.2.2.2.2.2.2.2.2.2.2.1 k0_t1 k0_t5 k0_h2
theorem k0_t6_ok : ∀ (i : grid0.Coords) (v130 : BitVec 32) (v133 : BitVec 32) (k0_hw1 : k0_chk1 i v130 v133), ∀ (k0_h2 : k0_cond2 i = 1#1), (k0_t6_loop v130 v133).OK := fun i v130 v133 k0_hw1 k0_h2 => k0_hw1.1.2.2.2.2.2.2.2.2.2.2.2.2.2.2.2.2.2.2.2.2.2.1 k0_h2
theorem k0_t7_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t7_loop v130 v133 k0_t6).OK := fun i v130 v133 k0_hw1 k0_t6 k0_h2 => k0_hw1.1.2.2.2.2.2.2.2.2.2.2.2.2.2.2.2.2.2.2.2.2.2.2.1 k0_t6 k0_h2
theorem k0_off25_inb : ∀ (i : grid0.Coords) (v130 : BitVec 32) (v133 : BitVec 32) (k0_hw1 : k0_chk1 i v130 v133) (k0_t6 : Fin (k0_t6_loop v130 v133).trips) (k0_t7 : Fin (k0_t7_loop v130 v133 k0_t6).trips), ∀ (k0_h2 : k0_cond2 i = 1#1), ∀ a, (k0_off25 v130 v133 k0_t6 k0_t7) a + S1.size a ≤ S12800.size a := fun i v130 v133 k0_hw1 k0_t6 k0_t7 k0_h2 => k0_hw1.1.2.2.2.2.2.2.2.2.2.2.2.2.2.2.2.2.2.2.2.2.2.2.2.1 k0_t6 k0_t7 k0_h2
theorem k0_off26_inb : ∀ (i : grid0.Coords) (v130 : BitVec 32) (v133 : BitVec 32) (k0_hw1 : k0_chk1 i v130 v133) (k0_t6 : Fin (k0_t6_loop v130 v133).trips) (k0_t7 : Fin (k0_t7_loop v130 v133 k0_t6).trips), ∀ (k0_h2 : k0_cond2 i = 1#1), ∀ a, (k0_off26 v130 v133 k0_t6 k0_t7) a + S1.size a ≤ S16.size a := fun i v130 v133 k0_hw1 k0_t6 k0_t7 k0_h2 => k0_hw1.1.2.2.2.2.2.2.2.2.2.2.2.2.2.2.2.2.2.2.2.2.2.2.2.2.1 k0_t6 k0_t7 k0_h2
theorem k0_off27_inb : ∀ (i : grid0.Coords) (v130 : BitVec 32) (v133 : BitVec 32) (k0_hw1 : k0_chk1 i v130 v133) (k0_t6 : Fin (k0_t6_loop v130 v133).trips) (k0_t7 : Fin (k0_t7_loop v130 v133 k0_t6).trips), ∀ (k0_h2 : k0_cond2 i = 1#1), ∀ a, (k0_off27 v130 v133 k0_t6 k0_t7) a + S1x4608.size a ≤ S16x4608.size a := fun i v130 v133 k0_hw1 k0_t6 k0_t7 k0_h2 => k0_hw1.1.2.2.2.2.2.2.2.2.2.2.2.2.2.2.2.2.2.2.2.2.2.2.2.2.2.1 k0_t6 k0_t7 k0_h2
theorem k0_t8_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t8_loop v130 v133 k0_t6).OK := fun i v130 v133 k0_hw1 k0_t6 k0_h2 => k0_hw1.1.2.2.2.2.2.2.2.2.2.2.2.2.2.2.2.2.2.2.2.2.2.2.2.2.2.2.1 k0_t6 k0_h2
theorem k0_off29_inb : ∀ (i : grid0.Coords) (v130 : BitVec 32) (v133 : BitVec 32) (k0_hw1 : k0_chk1 i v130 v133) (k0_t6 : Fin (k0_t6_loop v130 v133).trips) (k0_t8 : Fin (k0_t8_loop v130 v133 k0_t6).trips), ∀ (k0_h2 : k0_cond2 i = 1#1), ∀ a, (k0_off29 v130 v133 k0_t6 k0_t8) a + S1.size a ≤ S12800.size a := fun i v130 v133 k0_hw1 k0_t6 k0_t8 k0_h2 => k0_hw1.1.2.2.2.2.2.2.2.2.2.2.2.2.2.2.2.2.2.2.2.2.2.2.2.2.2.2.2.1 k0_t6 k0_t8 k0_h2
theorem k0_off30_inb : ∀ (i : grid0.Coords) (v130 : BitVec 32) (v133 : BitVec 32) (k0_hw1 : k0_chk1 i v130 v133) (k0_t6 : Fin (k0_t6_loop v130 v133).trips) (k0_t8 : Fin (k0_t8_loop v130 v133 k0_t6).trips), ∀ (k0_h2 : k0_cond2 i = 1#1), ∀ a, (k0_off30 v130 v133 k0_t6 k0_t8) a + S1.size a ≤ S16.size a := fun i v130 v133 k0_hw1 k0_t6 k0_t8 k0_h2 => k0_hw1.1.2.2.2.2.2.2.2.2.2.2.2.2.2.2.2.2.2.2.2.2.2.2.2.2.2.2.2.2.1 k0_t6 k0_t8 k0_h2
theorem k0_off31_inb : ∀ (i : grid0.Coords) (v130 : BitVec 32) (v133 : BitVec 32) (k0_hw1 : k0_chk1 i v130 v133) (k0_t6 : Fin (k0_t6_loop v130 v133).trips) (k0_t8 : Fin (k0_t8_loop v130 v133 k0_t6).trips), ∀ (k0_h2 : k0_cond2 i = 1#1), ∀ a, (k0_off31 v130 v133 k0_t6 k0_t8) a + S1x4608.size a ≤ S16x4608.size a := fun i v130 v133 k0_hw1 k0_t6 k0_t8 k0_h2 => k0_hw1.1.2.2.2.2.2.2.2.2.2.2.2.2.2.2.2.2.2.2.2.2.2.2.2.2.2.2.2.2.2.1 k0_t6 k0_t8 k0_h2
theorem k0_t9_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t9_loop v130 v133 k0_t6).OK := fun i v130 v133 k0_hw1 k0_t6 k0_h2 => k0_hw1.1.2.2.2.2.2.2.2.2.2.2.2.2.2.2.2.2.2.2.2.2.2.2.2.2.2.2.2.2.2.2.1 k0_t6 k0_h2
theorem k0_off33_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off33 v130 v133 k0_t6 k0_t9) a + S1.size a ≤ S12800.size a := fun i v130 v133 k0_hw1 k0_t6 k0_t9 k0_h2 => k0_hw1.1.2.2.2.2.2.2.2.2.2.2.2.2.2.2.2.2.2.2.2.2.2.2.2.2.2.2.2.2.2.2.2 k0_t6 k0_t9 k0_h2
theorem k0_off34_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off34 v130 v133 k0_t6 k0_t9) a + S1.size a ≤ S16.size a := fun i v130 v133 k0_hw1 k0_t6 k0_t9 k0_h2 => k0_hw1.2.1 k0_t6 k0_t9 k0_h2
theorem k0_off35_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off35 v130 v133 k0_t6 k0_t9) a + S1x4608.size a ≤ S16x4608.size a := fun i v130 v133 k0_hw1 k0_t6 k0_t9 k0_h2 => k0_hw1.2.2.1 k0_t6 k0_t9 k0_h2
theorem k0_off37_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off37 v130 v133 k0_t6 k0_t9) a + S1.size a ≤ S12800.size a := fun i v130 v133 k0_hw1 k0_t6 k0_t9 k0_h2 => k0_hw1.2.2.2.1 k0_t6 k0_t9 k0_h2
theorem k0_off38_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off38 v130 v133 k0_t6 k0_t9) a + S1x4608.size a ≤ S16x4608.size a := fun i v130 v133 k0_hw1 k0_t6 k0_t9 k0_h2 => k0_hw1.2.2.2.2.1 k0_t6 k0_t9 k0_h2
theorem k0_t10_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t10_loop v130 v133 k0_t6).OK := fun i v130 v133 k0_hw1 k0_t6 k0_h2 => k0_hw1.2.2.2.2.2.1 k0_t6 k0_h2
theorem k0_off40_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off40 v130 v133 k0_t6 k0_t10) a + S1.size a ≤ S12800.size a := fun i v130 v133 k0_hw1 k0_t6 k0_t10 k0_h2 => k0_hw1.2.2.2.2.2.2.1 k0_t6 k0_t10 k0_h2
theorem k0_off41_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off41 v130 v133 k0_t6 k0_t10) a + S1.size a ≤ S16.size a := fun i v130 v133 k0_hw1 k0_t6 k0_t10 k0_h2 => k0_hw1.2.2.2.2.2.2.2.1 k0_t6 k0_t10 k0_h2
theorem k0_off42_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off42 v130 v133 k0_t6 k0_t10) a + S1x4608.size a ≤ S16x4608.size a := fun i v130 v133 k0_hw1 k0_t6 k0_t10 k0_h2 => k0_hw1.2.2.2.2.2.2.2.2.1 k0_t6 k0_t10 k0_h2
theorem k0_off44_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off44 v130 v133 k0_t6 k0_t10) a + S1.size a ≤ S12800.size a := fun i v130 v133 k0_hw1 k0_t6 k0_t10 k0_h2 => k0_hw1.2.2.2.2.2.2.2.2.2.1 k0_t6 k0_t10 k0_h2
theorem k0_off45_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off45 v130 v133 k0_t6 k0_t10) a + S1x4608.size a ≤ S16x4608.size a := fun i v130 v133 k0_hw1 k0_t6 k0_t10 k0_h2 => k0_hw1.2.2.2.2.2.2.2.2.2.2 k0_t6 k0_t10 k0_h2

def k0_off46 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk13 (i : grid0.Coords) (v179 : BitVec 32) : Prop :=
  (∀ (k0_h2 : k0_cond2 i = 1#1), ∀ a, (k0_off46 i v179) a + S1x4608.size a ≤ S1024x4608.size a)
theorem k0_off46_inb : ∀ (i : grid0.Coords) (v179 : BitVec 32) (k0_hw13 : k0_chk13 i v179), ∀ (k0_h2 : k0_cond2 i = 1#1), ∀ a, (k0_off46 i v179) a + S1x4608.size a ≤ S1024x4608.size a := fun i v179 k0_hw13 k0_h2 => k0_hw13 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
abbrev S5x2560x30720 : Shape := ⟨3, ![5, 2560, 30720]⟩
abbrev S5x2560x240 : Shape := ⟨3, ![5, 2560, 240]⟩
abbrev S5x2560x4608 : Shape := ⟨3, ![5, 2560, 4608]⟩
abbrev S5x2560 : Shape := ⟨2, ![5, 2560]⟩
abbrev S12800 : Shape := ⟨1, ![12800]⟩
abbrev S1x12800 : Shape := ⟨2, ![1, 12800]⟩
abbrev S31 : Shape := ⟨1, ![31]⟩
abbrev S_ : Shape := ⟨0, ![]⟩
abbrev S31x1 : Shape := ⟨2, ![31, 1]⟩
abbrev S31x12800 : Shape := ⟨2, ![31, 12800]⟩
abbrev S12800x1 : Shape := ⟨2, ![12800, 1]⟩
abbrev S12800x128 : Shape := ⟨2, ![12800, 128]⟩
abbrev S12800x240 : Shape := ⟨2, ![12800, 240]⟩
abbrev S240x12800 : Shape := ⟨2, ![240, 12800]⟩
abbrev S12800x30720 : Shape := ⟨2, ![12800, 30720]⟩
abbrev S12800x4608 : Shape := ⟨2, ![12800, 4608]⟩
abbrev S30720x4608 : Shape := ⟨2, ![30720, 4608]⟩
abbrev S512x1024 : Shape := ⟨2, ![512, 1024]⟩
abbrev S8x512 : Shape := ⟨2, ![8, 512]⟩
abbrev S512x4608 : Shape := ⟨2, ![512, 4608]⟩
abbrev S512x128 : Shape := ⟨2, ![512, 128]⟩
abbrev S1024x4608 : Shape := ⟨2, ![1024, 4608]⟩
abbrev S16x4608 : Shape := ⟨2, ![16, 4608]⟩
abbrev S16x2x4608 : Shape := ⟨3, ![16, 2, 4608]⟩
abbrev S16x1x4608 : Shape := ⟨3, ![16, 1, 4608]⟩
abbrev S16 : Shape := ⟨1, ![16]⟩
abbrev S1024x512 : Shape := ⟨2, ![1024, 512]⟩
abbrev S128x512 : Shape := ⟨2, ![128, 512]⟩
abbrev S1x512 : Shape := ⟨2, ![1, 512]⟩
abbrev S1 : Shape := ⟨1, ![1]⟩
abbrev S1x2x4608 : Shape := ⟨3, ![1, 2, 4608]⟩
abbrev S6400x4608 : Shape := ⟨2, ![6400, 4608]⟩
abbrev S1x4608 : Shape := ⟨2, ![1, 4608]⟩
abbrev S2x4608 : Shape := ⟨2, ![2, 4608]⟩
abbrev S1x1x4608 : Shape := ⟨3, ![1, 1, 4608]⟩

abbrev nBuf : Space → Nat
  | .hbm => 28
  | .vmem => 11
  | .smem => 3
  | _ => 0

abbrev bufTy : (tb : Table) → Fin (tcTables nBuf tb) → BufTy
  | .hbm, ⟨0, _⟩ => ⟨S5x2560x30720, .fp8e5m2⟩
  | .hbm, ⟨1, _⟩ => ⟨S5x2560x240, .f32⟩
  | .hbm, ⟨2, _⟩ => ⟨S5x2560x4608, .fp8e4m3⟩
  | .hbm, ⟨3, _⟩ => ⟨S5x2560, .f32⟩
  | .hbm, ⟨4, _⟩ => ⟨S5x2560, .i32⟩
  | .hbm, ⟨5, _⟩ => ⟨S5x2560x4608, .bf16⟩
  | .hbm, ⟨6, _⟩ => ⟨S12800, .i32⟩
  | .hbm, ⟨7, _⟩ => ⟨S12800, .i32⟩
  | .hbm, ⟨8, _⟩ => ⟨S1x12800, .i32⟩
  | .hbm, ⟨9, _⟩ => ⟨S31, .i32⟩
  | .hbm, ⟨10, _⟩ => ⟨S_, .i32⟩
  | .hbm, ⟨11, _⟩ => ⟨S31, .i32⟩
  | .hbm, ⟨12, _⟩ => ⟨S31, .i32⟩
  | .hbm, ⟨13, _⟩ => ⟨S31x1, .i32⟩
  | .hbm, ⟨14, _⟩ => ⟨S31x12800, .i32⟩
  | .hbm, ⟨15, _⟩ => ⟨S31x12800, .i32⟩
  | .hbm, ⟨16, _⟩ => ⟨S31x12800, .i1⟩
  | .hbm, ⟨17, _⟩ => ⟨S31x12800, .i32⟩
  | .hbm, ⟨18, _⟩ => ⟨S_, .i32⟩
  | .hbm, ⟨19, _⟩ => ⟨S12800x1, .f32⟩
  | .hbm, ⟨20, _⟩ => ⟨S12800x1, .bf16⟩
  | .hbm, ⟨21, _⟩ => ⟨S12800x128, .bf16⟩
  | .hbm, ⟨22, _⟩ => ⟨S12800x240, .f32⟩
  | .hbm, ⟨23, _⟩ => ⟨S240x12800, .f32⟩
  | .hbm, ⟨24, _⟩ => ⟨S12800x30720, .fp8e5m2⟩
  | .hbm, ⟨25, _⟩ => ⟨S12800x4608, .fp8e4m3⟩
  | .hbm, ⟨26, _⟩ => ⟨S12800x4608, .bf16⟩
  | .hbm, ⟨27, _⟩ => ⟨S30720x4608, .f32⟩
  | .local _ .vmem, ⟨0, _⟩ => ⟨S512x1024, .fp8e5m2⟩
  | .local _ .vmem, ⟨1, _⟩ => ⟨S512x1024, .fp8e5m2⟩
  | .local _ .vmem, ⟨2, _⟩ => ⟨S8x512, .f32⟩
  | .local _ .vmem, ⟨3, _⟩ => ⟨S8x512, .f32⟩
  | .local _ .vmem, ⟨4, _⟩ => ⟨S512x4608, .fp8e4m3⟩
  | .local _ .vmem, ⟨5, _⟩ => ⟨S512x4608, .fp8e4m3⟩
  | .local _ .vmem, ⟨6, _⟩ => ⟨S512x128, .bf16⟩
  | .local _ .vmem, ⟨7, _⟩ => ⟨S512x128, .bf16⟩
  | .local _ .vmem, ⟨8, _⟩ => ⟨S1024x4608, .f32⟩
  | .local _ .vmem, ⟨9, _⟩ => ⟨S1024x4608, .f32⟩
  | .local _ .vmem, ⟨10, _⟩ => ⟨S16x2x4608, .bf16⟩
  | .local _ .smem, ⟨0, _⟩ => ⟨S31, .i32⟩
  | .local _ .smem, ⟨1, _⟩ => ⟨S12800, .i32⟩
  | .local _ .smem, ⟨2, _⟩ => ⟨S12800, .i32⟩
  | _, _ => ⟨S5x2560x30720, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v12 : Ref sig .tc := ⟨.smem, 0, rfl⟩
abbrev main_v2_0 : Ref sig .tc := ⟨.smem, 1, rfl⟩
abbrev main_v2_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![30, 25], ![false, false]⟩

abbrev pre0 : Pipeline.Prefetch sig := ⟨3, ![main_v12.idx, main_v2_0.idx, main_v2_1.idx], fun | 0 => main_v12.names | 1 => main_v2_0.names | 2 => main_v2_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond2 (i : grid0.Coords) : BitVec 1 :=
  let arg1 : BitVec 32 := BitVec.ofNat 32 (i 1).val
  let c24_i32 : BitVec 32 := 24#32
  let v126 : BitVec 1 := Scalar.cmpi .eq arg1 c24_i32
  let v127 : BitVec 32 := Scalar.extui v126
  let c0_i32_12 : BitVec 32 := 0#32
  let v128 : BitVec 1 := Scalar.cmpi .ne v127 c0_i32_12
  v128

def k0_off1 (i : grid0.Coords) : Fin 1 → Nat :=
  let arg0 : BitVec 32 := BitVec.ofNat 32 (i 0).val
  let v129 : Index := Scalar.indexCast arg0
  ![v129.toNat]
def k0_off2 (i : grid0.Coords) : Fin 1 → Nat :=
  let arg0 : BitVec 32 := BitVec.ofNat 32 (i 0).val
  let c1_i32 : BitVec 32 := 1#32
  let v131 : BitVec 32 := Scalar.addi arg0 c1_i32
  let v132 : Index := Scalar.indexCast v131
  ![v132.toNat]
@[reducible] def k0_t1_loop (v130 : BitVec 32) (v133 : BitVec 32) : Scf.Loop 32 :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_16 : BitVec 32 := 1#32
  ⟨c0_i32_14, v141, c1_i32_16⟩

@[reducible] def k0_t2_loop (v130 : BitVec 32) (v133 : BitVec 32) (k0_t1 : Fin (k0_t1_loop v130 v133).trips) : Scf.Loop 32 :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_23 : BitVec 32 := 1#32
  ⟨c0_i32_21, v150, c1_i32_23⟩
def k0_off3 (v130 : BitVec 32) (v133 : BitVec 32) (k0_t1 : Fin (k0_t1_loop v130 v133).trips) (k0_t2 : Fin (k0_t2_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_21 : BitVec 32 := 0#32
  let c1_i32_23 : BitVec 32 := 1#32
  let arg14 : BitVec 32 := Scf.iv c0_i32_21 c1_i32_23 k0_t2
  let v156 : BitVec 32 := Scalar.addi v143 arg14
  let v157 : Index := Scalar.indexCast v156
  ![v157.toNat]
def k0_off4 (v130 : BitVec 32) (v133 : BitVec 32) (k0_t1 : Fin (k0_t1_loop v130 v133).trips) (k0_t2 : Fin (k0_t2_loop v130 v133 k0_t1).trips) : Fin 1 → Nat :=
  let c0_i32_21 : BitVec 32 := 0#32
  let c1_i32_23 : BitVec 32 := 1#32
  let arg14 : BitVec 32 := Scf.iv c0_i32_21 c1_i32_23 k0_t2
  ![arg14.toNat]
def k0_off5 (v130 : BitVec 32) (v133 : BitVec 32) (k0_t1 : Fin (k0_t1_loop v130 v133).trips) (k0_t2 : Fin (k0_t2_loop v130 v133 k0_t1).trips) : Fin 3 → Nat :=
  let c0_i32_21 : BitVec 32 := 0#32
  let c1_i32_23 : BitVec 32 := 1#32
  let arg14 : BitVec 32 := Scf.iv c0_i32_21 c1_i32_23 k0_t2
  let c0_i32_31 : BitVec 32 := 0#32
  ![arg14.toNat, 0, 0]
def k0_off6 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk2 (i : grid0.Coords) (v158 : BitVec 32) : Prop :=
  (∀ (k0_h2 : k0_cond2 i = 1#1), ∀ a, (k0_off6 v158) a + S2x4608.size a ≤ S12800x4608.size a) ∧
  (∀ (k0_h2 : k0_cond2 i = 1#1), ∀ (hinb : ∀ a, (k0_off6 v158) a + S2x4608.size a ≤ S12800x4608.size a), (Rect.unit (s := S12800x4608) (k0_off6 v158) S2x4608.size hinb).WholeWords (EltTy.packing .bf16)) ∧
  (∀ (k0_h2 : k0_cond2 i = 1#1), ∀ (hinb : ∀ a, (k0_off6 v158) a + S2x4608.size a ≤ S12800x4608.size a), (Rect.unit (s := S12800x4608) (k0_off6 v158) S2x4608.size hinb).LeadingBlock)
theorem k0_off6_inb : ∀ (i : grid0.Coords) (v158 : BitVec 32) (k0_hw2 : k0_chk2 i v158), ∀ (k0_h2 : k0_cond2 i = 1#1), ∀ a, (k0_off6 v158) a + S2x4608.size a ≤ S12800x4608.size a := fun i v158 k0_hw2 k0_h2 => k0_hw2.1 k0_h2
theorem k0_off6_wordsbf16 : ∀ (i : grid0.Coords) (v158 : BitVec 32) (k0_hw2 : k0_chk2 i v158), ∀ (k0_h2 : k0_cond2 i = 1#1), (Rect.unit (s := S12800x4608) (k0_off6 v158) S2x4608.size (k0_off6_inb i v158 k0_hw2 k0_h2)).WholeWords (EltTy.packing .bf16) := fun i v158 k0_hw2 k0_h2 => k0_hw2.2.1 k0_h2 (k0_off6_inb i v158 k0_hw2 k0_h2)
theorem k0_off6_leadingbf16 : ∀ (i : grid0.Coords) (v158 : BitVec 32) (k0_hw2 : k0_chk2 i v158), ∀ (k0_h2 : k0_cond2 i = 1#1), (Rect.unit (s := S12800x4608) (k0_off6 v158) S2x4608.size (k0_off6_inb i v158 k0_hw2 k0_h2)).LeadingBlock := fun i v158 k0_hw2 k0_h2 => k0_hw2.2.2 k0_h2 (k0_off6_inb i v158 k0_hw2 k0_h2)

@[reducible] def k0_t3_loop (v130 : BitVec 32) (v133 : BitVec 32) (k0_t1 : Fin (k0_t1_loop v130 v133).trips) : Scf.Loop 32 :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let v147 : BitVec 32 := Scalar.addi c0_i32_21 v146
  let c1_i32_24 : BitVec 32 := 1#32
  ⟨v150, v147, c1_i32_24⟩
def k0_off7 (v130 : BitVec 32) (v133 : BitVec 32) (k0_t1 : Fin (k0_t1_loop v130 v133).trips) (k0_t3 : Fin (k0_t3_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_21 : BitVec 32 := 0#32
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t3
  let v156 : BitVec 32 := Scalar.addi v143 arg14
  let v157 : Index := Scalar.indexCast v156
  ![v157.toNat]
def k0_off8 (v130 : BitVec 32) (v133 : BitVec 32) (k0_t1 : Fin (k0_t1_loop v130 v133).trips) (k0_t3 : Fin (k0_t3_loop v130 v133 k0_t1).trips) : Fin 1 → Nat :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t3
  ![arg14.toNat]
def k0_off9 (v130 : BitVec 32) (v133 : BitVec 32) (k0_t1 : Fin (k0_t1_loop v130 v133).trips) (k0_t3 : Fin (k0_t3_loop v130 v133 k0_t1).trips) : Fin 3 → Nat :=
  let c0_i32_21 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t3
  let c0_i32_31 : BitVec 32 := 0#32
  ![arg14.toNat, 0, 0]
def k0_off10 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk3 (i : grid0.Coords) (v158 : BitVec 32) : Prop :=
  (∀ (k0_h2 : k0_cond2 i = 1#1), ∀ a, (k0_off10 v158) a + S2x4608.size a ≤ S12800x4608.size a) ∧
  (∀ (k0_h2 : k0_cond2 i = 1#1), ∀ (hinb : ∀ a, (k0_off10 v158) a + S2x4608.size a ≤ S12800x4608.size a), (Rect.unit (s := S12800x4608) (k0_off10 v158) S2x4608.size hinb).WholeWords (EltTy.packing .bf16)) ∧
  (∀ (k0_h2 : k0_cond2 i = 1#1), ∀ (hinb : ∀ a, (k0_off10 v158) a + S2x4608.size a ≤ S12800x4608.size a), (Rect.unit (s := S12800x4608) (k0_off10 v158) S2x4608.size hinb).LeadingBlock)
theorem k0_off10_inb : ∀ (i : grid0.Coords) (v158 : BitVec 32) (k0_hw3 : k0_chk3 i v158), ∀ (k0_h2 : k0_cond2 i = 1#1), ∀ a, (k0_off10 v158) a + S2x4608.size a ≤ S12800x4608.size a := fun i v158 k0_hw3 k0_h2 => k0_hw3.1 k0_h2
theorem k0_off10_wordsbf16 : ∀ (i : grid0.Coords) (v158 : BitVec 32) (k0_hw3 : k0_chk3 i v158), ∀ (k0_h2 : k0_cond2 i = 1#1), (Rect.unit (s := S12800x4608) (k0_off10 v158) S2x4608.size (k0_off10_inb i v158 k0_hw3 k0_h2)).WholeWords (EltTy.packing .bf16) := fun i v158 k0_hw3 k0_h2 => k0_hw3.2.1 k0_h2 (k0_off10_inb i v158 k0_hw3 k0_h2)
theorem k0_off10_leadingbf16 : ∀ (i : grid0.Coords) (v158 : BitVec 32) (k0_hw3 : k0_chk3 i v158), ∀ (k0_h2 : k0_cond2 i = 1#1), (Rect.unit (s := S12800x4608) (k0_off10 v158) S2x4608.size (k0_off10_inb i v158 k0_hw3 k0_h2)).LeadingBlock := fun i v158 k0_hw3 k0_h2 => k0_hw3.2.2 k0_h2 (k0_off10_inb i v158 k0_hw3 k0_h2)

@[reducible] def k0_t4_loop (v130 : BitVec 32) (v133 : BitVec 32) (k0_t1 : Fin (k0_t1_loop v130 v133).trips) : Scf.Loop 32 :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_28 : BitVec 32 := 1#32
  ⟨c0_i32_26, v155, c1_i32_28⟩
def k0_off11 (v130 : BitVec 32) (v133 : BitVec 32) (k0_t1 : Fin (k0_t1_loop v130 v133).trips) (k0_t4 : Fin (k0_t4_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t4
  let v156 : BitVec 32 := Scalar.addi v143 arg14
  let v157 : Index := Scalar.indexCast v156
  ![v157.toNat]
def k0_off12 (v130 : BitVec 32) (v133 : BitVec 32) (k0_t1 : Fin (k0_t1_loop v130 v133).trips) (k0_t4 : Fin (k0_t4_loop v130 v133 k0_t1).trips) : Fin 1 → Nat :=
  let c0_i32_26 : BitVec 32 := 0#32
  let c1_i32_28 : BitVec 32 := 1#32
  let arg14 : BitVec 32 := Scf.iv c0_i32_26 c1_i32_28 k0_t4
  ![arg14.toNat]
def k0_off13 (v130 : BitVec 32) (v133 : BitVec 32) (k0_t1 : Fin (k0_t1_loop v130 v133).trips) (k0_t4 : Fin (k0_t4_loop v130 v133 k0_t1).trips) : Fin 3 → Nat :=
  let c0_i32_26 : BitVec 32 := 0#32
  let c1_i32_28 : BitVec 32 := 1#32
  let arg14 : BitVec 32 := Scf.iv c0_i32_26 c1_i32_28 k0_t4
  let c0_i32_31 : BitVec 32 := 0#32
  ![arg14.toNat, 0, 0]
def k0_off14 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk4 (i : grid0.Coords) (v158 : BitVec 32) : Prop :=
  (∀ (k0_h2 : k0_cond2 i = 1#1), ∀ a, (k0_off14 v158) a + S2x4608.size a ≤ S12800x4608.size a) ∧
  (∀ (k0_h2 : k0_cond2 i = 1#1), ∀ (hinb : ∀ a, (k0_off14 v158) a + S2x4608.size a ≤ S12800x4608.size a), (Rect.unit (s := S12800x4608) (k0_off14 v158) S2x4608.size hinb).WholeWords (EltTy.packing .bf16))
theorem k0_off14_inb : ∀ (i : grid0.Coords) (v158 : BitVec 32) (k0_hw4 : k0_chk4 i v158), ∀ (k0_h2 : k0_cond2 i = 1#1), ∀ a, (k0_off14 v158) a + S2x4608.size a ≤ S12800x4608.size a := fun i v158 k0_hw4 k0_h2 => k0_hw4.1 k0_h2
theorem k0_off14_wordsbf16 : ∀ (i : grid0.Coords) (v158 : BitVec 32) (k0_hw4 : k0_chk4 i v158), ∀ (k0_h2 : k0_cond2 i = 1#1), (Rect.unit (s := S12800x4608) (k0_off14 v158) S2x4608.size (k0_off14_inb i v158 k0_hw4 k0_h2)).WholeWords (EltTy.packing .bf16) := fun i v158 k0_hw4 k0_h2 => k0_hw4.2 k0_h2 (k0_off14_inb i v158 k0_hw4 k0_h2)

def k0_off15 (v130 : BitVec 32) (v133 : BitVec 32) (k0_t1 : Fin (k0_t1_loop v130 v133).trips) (k0_t4 : Fin (k0_t4_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t4
  let v165 : BitVec 32 := Scalar.addi v143 arg14
  let v166 : Index := Scalar.indexCast v165
  ![v166.toNat]
def k0_off16 (v130 : BitVec 32) (v133 : BitVec 32) (k0_t1 : Fin (k0_t1_loop v130 v133).trips) (k0_t4 : Fin (k0_t4_loop v130 v133 k0_t1).trips) : Fin 3 → Nat :=
  let c0_i32_26 : BitVec 32 := 0#32
  let c1_i32_28 : BitVec 32 := 1#32
  let arg14 : BitVec 32 := Scf.iv c0_i32_26 c1_i32_28 k0_t4
  let v169 : Index := Scalar.indexCast arg14
  let c0_34 : Index := 0#32
  ![v169.toNat, 0, 0]
def k0_off17 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk5 (i : grid0.Coords) (v179 : BitVec 32) : Prop :=
  (∀ (k0_h2 : k0_cond2 i = 1#1), ∀ a, (k0_off17 i v179) a + S1x4608.size a ≤ S1024x4608.size a)
theorem k0_off17_inb : ∀ (i : grid0.Coords) (v179 : BitVec 32) (k0_hw5 : k0_chk5 i v179), ∀ (k0_h2 : k0_cond2 i = 1#1), ∀ a, (k0_off17 i v179) a + S1x4608.size a ≤ S1024x4608.size a := fun i v179 k0_hw5 k0_h2 => k0_hw5 k0_h2

@[reducible] def k0_t5_loop (v130 : BitVec 32) (v133 : BitVec 32) (k0_t1 : Fin (k0_t1_loop v130 v133).trips) : Scf.Loop 32 :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let v152 : BitVec 32 := Scalar.addi c0_i32_26 v151
  let c1_i32_29 : BitVec 32 := 1#32
  ⟨v155, v152, c1_i32_29⟩
def k0_off18 (v130 : BitVec 32) (v133 : BitVec 32) (k0_t1 : Fin (k0_t1_loop v130 v133).trips) (k0_t5 : Fin (k0_t5_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let v156 : BitVec 32 := Scalar.addi v143 arg14
  let v157 : Index := Scalar.indexCast v156
  ![v157.toNat]
def k0_off19 (v130 : BitVec 32) (v133 : BitVec 32) (k0_t1 : Fin (k0_t1_loop v130 v133).trips) (k0_t5 : Fin (k0_t5_loop v130 v133 k0_t1).trips) : Fin 1 → Nat :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  ![arg14.toNat]
def k0_off20 (v130 : BitVec 32) (v133 : BitVec 32) (k0_t1 : Fin (k0_t1_loop v130 v133).trips) (k0_t5 : Fin (k0_t5_loop v130 v133 k0_t1).trips) : Fin 3 → Nat :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let c0_i32_31 : BitVec 32 := 0#32
  ![arg14.toNat, 0, 0]
def k0_off21 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk6 (i : grid0.Coords) (v158 : BitVec 32) : Prop :=
  (∀ (k0_h2 : k0_cond2 i = 1#1), ∀ a, (k0_off21 v158) a + S2x4608.size a ≤ S12800x4608.size a) ∧
  (∀ (k0_h2 : k0_cond2 i = 1#1), ∀ (hinb : ∀ a, (k0_off21 v158) a + S2x4608.size a ≤ S12800x4608.size a), (Rect.unit (s := S12800x4608) (k0_off21 v158) S2x4608.size hinb).WholeWords (EltTy.packing .bf16))
theorem k0_off21_inb : ∀ (i : grid0.Coords) (v158 : BitVec 32) (k0_hw6 : k0_chk6 i v158), ∀ (k0_h2 : k0_cond2 i = 1#1), ∀ a, (k0_off21 v158) a + S2x4608.size a ≤ S12800x4608.size a := fun i v158 k0_hw6 k0_h2 => k0_hw6.1 k0_h2
theorem k0_off21_wordsbf16 : ∀ (i : grid0.Coords) (v158 : BitVec 32) (k0_hw6 : k0_chk6 i v158), ∀ (k0_h2 : k0_cond2 i = 1#1), (Rect.unit (s := S12800x4608) (k0_off21 v158) S2x4608.size (k0_off21_inb i v158 k0_hw6 k0_h2)).WholeWords (EltTy.packing .bf16) := fun i v158 k0_hw6 k0_h2 => k0_hw6.2 k0_h2 (k0_off21_inb i v158 k0_hw6 k0_h2)

def k0_off22 (v130 : BitVec 32) (v133 : BitVec 32) (k0_t1 : Fin (k0_t1_loop v130 v133).trips) (k0_t5 : Fin (k0_t5_loop v130 v133 k0_t1).trips) : Fin 1 → Nat :=
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let v165 : BitVec 32 := Scalar.addi v143 arg14
  let v166 : Index := Scalar.indexCast v165
  ![v166.toNat]
def k0_off23 (v130 : BitVec 32) (v133 : BitVec 32) (k0_t1 : Fin (k0_t1_loop v130 v133).trips) (k0_t5 : Fin (k0_t5_loop v130 v133 k0_t1).trips) : Fin 3 → Nat :=
  let c0_i32_26 : BitVec 32 := 0#32
  let c0_i32_14 : BitVec 32 := 0#32
  let c1_i32_16 : BitVec 32 := 1#32
  let arg13 : BitVec 32 := Scf.iv c0_i32_14 c1_i32_16 k0_t1
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t5
  let v169 : Index := Scalar.indexCast arg14
  let c0_34 : Index := 0#32
  ![v169.toNat, 0, 0]
def k0_off24 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk7 (i : grid0.Coords) (v179 : BitVec 32) : Prop :=
  (∀ (k0_h2 : k0_cond2 i = 1#1), ∀ a, (k0_off24 i v179) a + S1x4608.size a ≤ S1024x4608.size a)
theorem k0_off24_inb : ∀ (i : grid0.Coords) (v179 : BitVec 32) (k0_hw7 : k0_chk7 i v179), ∀ (k0_h2 : k0_cond2 i = 1#1), ∀ a, (k0_off24 i v179) a + S1x4608.size a ≤ S1024x4608.size a := fun i v179 k0_hw7 k0_h2 => k0_hw7 k0_h2

@[reducible] def k0_t6_loop (v130 : BitVec 32) (v133 : BitVec 32) : Scf.Loop 32 :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let v138 : BitVec 32 := Scalar.addi c0_i32_14 v137
  let c1_i32_17 : BitVec 32 := 1#32
  ⟨v141, v138, c1_i32_17⟩
@[reducible] def k0_t7_loop (v130 : BitVec 32) (v133 : BitVec 32) (k0_t6 : Fin (k0_t6_loop v130 v133).trips) : Scf.Loop 32 :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_23 : BitVec 32 := 1#32
  ⟨c0_i32_21, v150, c1_i32_23⟩
def k0_off25 (v130 : BitVec 32) (v133 : BitVec 32) (k0_t6 : Fin (k0_t6_loop v130 v133).trips) (k0_t7 : Fin (k0_t7_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_21 : BitVec 32 := 0#32
  let c1_i32_23 : BitVec 32 := 1#32
  let arg14 : BitVec 32 := Scf.iv c0_i32_21 c1_i32_23 k0_t7
  let v156 : BitVec 32 := Scalar.addi v143 arg14
  let v157 : Index := Scalar.indexCast v156
  ![v157.toNat]
def k0_off26 (v130 : BitVec 32) (v133 : BitVec 32) (k0_t6 : Fin (k0_t6_loop v130 v133).trips) (k0_t7 : Fin (k0_t7_loop v130 v133 k0_t6).trips) : Fin 1 → Nat :=
  let c0_i32_21 : BitVec 32 := 0#32
  let c1_i32_23 : BitVec 32 := 1#32
  let arg14 : BitVec 32 := Scf.iv c0_i32_21 c1_i32_23 k0_t7
  ![arg14.toNat]
def k0_off27 (v130 : BitVec 32) (v133 : BitVec 32) (k0_t6 : Fin (k0_t6_loop v130 v133).trips) (k0_t7 : Fin (k0_t7_loop v130 v133 k0_t6).trips) : Fin 3 → Nat :=
  let c0_i32_21 : BitVec 32 := 0#32
  let c1_i32_23 : BitVec 32 := 1#32
  let arg14 : BitVec 32 := Scf.iv c0_i32_21 c1_i32_23 k0_t7
  let c0_i32_31 : BitVec 32 := 0#32
  ![arg14.toNat, 0, 0]
def k0_off28 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk8 (i : grid0.Coords) (v158 : BitVec 32) : Prop :=
  (∀ (k0_h2 : k0_cond2 i = 1#1), ∀ a, (k0_off28 v158) a + S2x4608.size a ≤ S12800x4608.size a) ∧
  (∀ (k0_h2 : k0_cond2 i = 1#1), ∀ (hinb : ∀ a, (k0_off28 v158) a + S2x4608.size a ≤ S12800x4608.size a), (Rect.unit (s := S12800x4608) (k0_off28 v158) S2x4608.size hinb).WholeWords (EltTy.packing .bf16)) ∧
  (∀ (k0_h2 : k0_cond2 i = 1#1), ∀ (hinb : ∀ a, (k0_off28 v158) a + S2x4608.size a ≤ S12800x4608.size a), (Rect.unit (s := S12800x4608) (k0_off28 v158) S2x4608.size hinb).LeadingBlock)
theorem k0_off28_inb : ∀ (i : grid0.Coords) (v158 : BitVec 32) (k0_hw8 : k0_chk8 i v158), ∀ (k0_h2 : k0_cond2 i = 1#1), ∀ a, (k0_off28 v158) a + S2x4608.size a ≤ S12800x4608.size a := fun i v158 k0_hw8 k0_h2 => k0_hw8.1 k0_h2
theorem k0_off28_wordsbf16 : ∀ (i : grid0.Coords) (v158 : BitVec 32) (k0_hw8 : k0_chk8 i v158), ∀ (k0_h2 : k0_cond2 i = 1#1), (Rect.unit (s := S12800x4608) (k0_off28 v158) S2x4608.size (k0_off28_inb i v158 k0_hw8 k0_h2)).WholeWords (EltTy.packing .bf16) := fun i v158 k0_hw8 k0_h2 => k0_hw8.2.1 k0_h2 (k0_off28_inb i v158 k0_hw8 k0_h2)
theorem k0_off28_leadingbf16 : ∀ (i : grid0.Coords) (v158 : BitVec 32) (k0_hw8 : k0_chk8 i v158), ∀ (k0_h2 : k0_cond2 i = 1#1), (Rect.unit (s := S12800x4608) (k0_off28 v158) S2x4608.size (k0_off28_inb i v158 k0_hw8 k0_h2)).LeadingBlock := fun i v158 k0_hw8 k0_h2 => k0_hw8.2.2 k0_h2 (k0_off28_inb i v158 k0_hw8 k0_h2)

@[reducible] def k0_t8_loop (v130 : BitVec 32) (v133 : BitVec 32) (k0_t6 : Fin (k0_t6_loop v130 v133).trips) : Scf.Loop 32 :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let v147 : BitVec 32 := Scalar.addi c0_i32_21 v146
  let c1_i32_24 : BitVec 32 := 1#32
  ⟨v150, v147, c1_i32_24⟩
def k0_off29 (v130 : BitVec 32) (v133 : BitVec 32) (k0_t6 : Fin (k0_t6_loop v130 v133).trips) (k0_t8 : Fin (k0_t8_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_21 : BitVec 32 := 0#32
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t8
  let v156 : BitVec 32 := Scalar.addi v143 arg14
  let v157 : Index := Scalar.indexCast v156
  ![v157.toNat]
def k0_off30 (v130 : BitVec 32) (v133 : BitVec 32) (k0_t6 : Fin (k0_t6_loop v130 v133).trips) (k0_t8 : Fin (k0_t8_loop v130 v133 k0_t6).trips) : Fin 1 → Nat :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t8
  ![arg14.toNat]
def k0_off31 (v130 : BitVec 32) (v133 : BitVec 32) (k0_t6 : Fin (k0_t6_loop v130 v133).trips) (k0_t8 : Fin (k0_t8_loop v130 v133 k0_t6).trips) : Fin 3 → Nat :=
  let c0_i32_21 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v146 : BitVec 32 := Scalar.subi v145 c0_i32_21
  let c1_i32_22 : BitVec 32 := 1#32
  let v148 : BitVec 32 := Scalar.divsi v146 c1_i32_22
  let v149 : BitVec 32 := Scalar.muli v148 c1_i32_22
  let v150 : BitVec 32 := Scalar.addi c0_i32_21 v149
  let c1_i32_24 : BitVec 32 := 1#32
  let arg14 : BitVec 32 := Scf.iv v150 c1_i32_24 k0_t8
  let c0_i32_31 : BitVec 32 := 0#32
  ![arg14.toNat, 0, 0]
def k0_off32 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk9 (i : grid0.Coords) (v158 : BitVec 32) : Prop :=
  (∀ (k0_h2 : k0_cond2 i = 1#1), ∀ a, (k0_off32 v158) a + S2x4608.size a ≤ S12800x4608.size a) ∧
  (∀ (k0_h2 : k0_cond2 i = 1#1), ∀ (hinb : ∀ a, (k0_off32 v158) a + S2x4608.size a ≤ S12800x4608.size a), (Rect.unit (s := S12800x4608) (k0_off32 v158) S2x4608.size hinb).WholeWords (EltTy.packing .bf16)) ∧
  (∀ (k0_h2 : k0_cond2 i = 1#1), ∀ (hinb : ∀ a, (k0_off32 v158) a + S2x4608.size a ≤ S12800x4608.size a), (Rect.unit (s := S12800x4608) (k0_off32 v158) S2x4608.size hinb).LeadingBlock)
theorem k0_off32_inb : ∀ (i : grid0.Coords) (v158 : BitVec 32) (k0_hw9 : k0_chk9 i v158), ∀ (k0_h2 : k0_cond2 i = 1#1), ∀ a, (k0_off32 v158) a + S2x4608.size a ≤ S12800x4608.size a := fun i v158 k0_hw9 k0_h2 => k0_hw9.1 k0_h2
theorem k0_off32_wordsbf16 : ∀ (i : grid0.Coords) (v158 : BitVec 32) (k0_hw9 : k0_chk9 i v158), ∀ (k0_h2 : k0_cond2 i = 1#1), (Rect.unit (s := S12800x4608) (k0_off32 v158) S2x4608.size (k0_off32_inb i v158 k0_hw9 k0_h2)).WholeWords (EltTy.packing .bf16) := fun i v158 k0_hw9 k0_h2 => k0_hw9.2.1 k0_h2 (k0_off32_inb i v158 k0_hw9 k0_h2)
theorem k0_off32_leadingbf16 : ∀ (i : grid0.Coords) (v158 : BitVec 32) (k0_hw9 : k0_chk9 i v158), ∀ (k0_h2 : k0_cond2 i = 1#1), (Rect.unit (s := S12800x4608) (k0_off32 v158) S2x4608.size (k0_off32_inb i v158 k0_hw9 k0_h2)).LeadingBlock := fun i v158 k0_hw9 k0_h2 => k0_hw9.2.2 k0_h2 (k0_off32_inb i v158 k0_hw9 k0_h2)

@[reducible] def k0_t9_loop (v130 : BitVec 32) (v133 : BitVec 32) (k0_t6 : Fin (k0_t6_loop v130 v133).trips) : Scf.Loop 32 :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_28 : BitVec 32 := 1#32
  ⟨c0_i32_26, v155, c1_i32_28⟩
def k0_off33 (v130 : BitVec 32) (v133 : BitVec 32) (k0_t6 : Fin (k0_t6_loop v130 v133).trips) (k0_t9 : Fin (k0_t9_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t9
  let v156 : BitVec 32 := Scalar.addi v143 arg14
  let v157 : Index := Scalar.indexCast v156
  ![v157.toNat]
def k0_off34 (v130 : BitVec 32) (v133 : BitVec 32) (k0_t6 : Fin (k0_t6_loop v130 v133).trips) (k0_t9 : Fin (k0_t9_loop v130 v133 k0_t6).trips) : Fin 1 → Nat :=
  let c0_i32_26 : BitVec 32 := 0#32
  let c1_i32_28 : BitVec 32 := 1#32
  let arg14 : BitVec 32 := Scf.iv c0_i32_26 c1_i32_28 k0_t9
  ![arg14.toNat]
def k0_off35 (v130 : BitVec 32) (v133 : BitVec 32) (k0_t6 : Fin (k0_t6_loop v130 v133).trips) (k0_t9 : Fin (k0_t9_loop v130 v133 k0_t6).trips) : Fin 3 → Nat :=
  let c0_i32_26 : BitVec 32 := 0#32
  let c1_i32_28 : BitVec 32 := 1#32
  let arg14 : BitVec 32 := Scf.iv c0_i32_26 c1_i32_28 k0_t9
  let c0_i32_31 : BitVec 32 := 0#32
  ![arg14.toNat, 0, 0]
def k0_off36 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk10 (i : grid0.Coords) (v158 : BitVec 32) : Prop :=
  (∀ (k0_h2 : k0_cond2 i = 1#1), ∀ a, (k0_off36 v158) a + S2x4608.size a ≤ S12800x4608.size a) ∧
  (∀ (k0_h2 : k0_cond2 i = 1#1), ∀ (hinb : ∀ a, (k0_off36 v158) a + S2x4608.size a ≤ S12800x4608.size a), (Rect.unit (s := S12800x4608) (k0_off36 v158) S2x4608.size hinb).WholeWords (EltTy.packing .bf16))
theorem k0_off36_inb : ∀ (i : grid0.Coords) (v158 : BitVec 32) (k0_hw10 : k0_chk10 i v158), ∀ (k0_h2 : k0_cond2 i = 1#1), ∀ a, (k0_off36 v158) a + S2x4608.size a ≤ S12800x4608.size a := fun i v158 k0_hw10 k0_h2 => k0_hw10.1 k0_h2
theorem k0_off36_wordsbf16 : ∀ (i : grid0.Coords) (v158 : BitVec 32) (k0_hw10 : k0_chk10 i v158), ∀ (k0_h2 : k0_cond2 i = 1#1), (Rect.unit (s := S12800x4608) (k0_off36 v158) S2x4608.size (k0_off36_inb i v158 k0_hw10 k0_h2)).WholeWords (EltTy.packing .bf16) := fun i v158 k0_hw10 k0_h2 => k0_hw10.2 k0_h2 (k0_off36_inb i v158 k0_hw10 k0_h2)

def k0_off37 (v130 : BitVec 32) (v133 : BitVec 32) (k0_t6 : Fin (k0_t6_loop v130 v133).trips) (k0_t9 : Fin (k0_t9_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let c1_i32_28 : BitVec 32 := 1#32
  let arg14 : BitVec 32 := Scf.iv c0_i32_26 c1_i32_28 k0_t9
  let v165 : BitVec 32 := Scalar.addi v143 arg14
  let v166 : Index := Scalar.indexCast v165
  ![v166.toNat]
def k0_off38 (v130 : BitVec 32) (v133 : BitVec 32) (k0_t6 : Fin (k0_t6_loop v130 v133).trips) (k0_t9 : Fin (k0_t9_loop v130 v133 k0_t6).trips) : Fin 3 → Nat :=
  let c0_i32_26 : BitVec 32 := 0#32
  let c1_i32_28 : BitVec 32 := 1#32
  let arg14 : BitVec 32 := Scf.iv c0_i32_26 c1_i32_28 k0_t9
  let v169 : Index := Scalar.indexCast arg14
  let c0_34 : Index := 0#32
  ![v169.toNat, 0, 0]
def k0_off39 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk11 (i : grid0.Coords) (v179 : BitVec 32) : Prop :=
  (∀ (k0_h2 : k0_cond2 i = 1#1), ∀ a, (k0_off39 i v179) a + S1x4608.size a ≤ S1024x4608.size a)
theorem k0_off39_inb : ∀ (i : grid0.Coords) (v179 : BitVec 32) (k0_hw11 : k0_chk11 i v179), ∀ (k0_h2 : k0_cond2 i = 1#1), ∀ a, (k0_off39 i v179) a + S1x4608.size a ≤ S1024x4608.size a := fun i v179 k0_hw11 k0_h2 => k0_hw11 k0_h2

@[reducible] def k0_t10_loop (v130 : BitVec 32) (v133 : BitVec 32) (k0_t6 : Fin (k0_t6_loop v130 v133).trips) : Scf.Loop 32 :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let v152 : BitVec 32 := Scalar.addi c0_i32_26 v151
  let c1_i32_29 : BitVec 32 := 1#32
  ⟨v155, v152, c1_i32_29⟩
def k0_off40 (v130 : BitVec 32) (v133 : BitVec 32) (k0_t6 : Fin (k0_t6_loop v130 v133).trips) (k0_t10 : Fin (k0_t10_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let v156 : BitVec 32 := Scalar.addi v143 arg14
  let v157 : Index := Scalar.indexCast v156
  ![v157.toNat]
def k0_off41 (v130 : BitVec 32) (v133 : BitVec 32) (k0_t6 : Fin (k0_t6_loop v130 v133).trips) (k0_t10 : Fin (k0_t10_loop v130 v133 k0_t6).trips) : Fin 1 → Nat :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  ![arg14.toNat]
def k0_off42 (v130 : BitVec 32) (v133 : BitVec 32) (k0_t6 : Fin (k0_t6_loop v130 v133).trips) (k0_t10 : Fin (k0_t10_loop v130 v133 k0_t6).trips) : Fin 3 → Nat :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let c0_i32_31 : BitVec 32 := 0#32
  ![arg14.toNat, 0, 0]
def k0_off43 (v158 : BitVec 32) : Fin 2 → Nat :=
  let c1_i32_30 : BitVec 32 := 1#32
  let v159 : BitVec 32 := Scalar.shrui v158 c1_i32_30
  let c0_i32_32 : BitVec 32 := 0#32
  ![Nat.mul 2 v159.toNat, 0]

def k0_chk12 (i : grid0.Coords) (v158 : BitVec 32) : Prop :=
  (∀ (k0_h2 : k0_cond2 i = 1#1), ∀ a, (k0_off43 v158) a + S2x4608.size a ≤ S12800x4608.size a) ∧
  (∀ (k0_h2 : k0_cond2 i = 1#1), ∀ (hinb : ∀ a, (k0_off43 v158) a + S2x4608.size a ≤ S12800x4608.size a), (Rect.unit (s := S12800x4608) (k0_off43 v158) S2x4608.size hinb).WholeWords (EltTy.packing .bf16))
theorem k0_off43_inb : ∀ (i : grid0.Coords) (v158 : BitVec 32) (k0_hw12 : k0_chk12 i v158), ∀ (k0_h2 : k0_cond2 i = 1#1), ∀ a, (k0_off43 v158) a + S2x4608.size a ≤ S12800x4608.size a := fun i v158 k0_hw12 k0_h2 => k0_hw12.1 k0_h2
theorem k0_off43_wordsbf16 : ∀ (i : grid0.Coords) (v158 : BitVec 32) (k0_hw12 : k0_chk12 i v158), ∀ (k0_h2 : k0_cond2 i = 1#1), (Rect.unit (s := S12800x4608) (k0_off43 v158) S2x4608.size (k0_off43_inb i v158 k0_hw12 k0_h2)).WholeWords (EltTy.packing .bf16) := fun i v158 k0_hw12 k0_h2 => k0_hw12.2 k0_h2 (k0_off43_inb i v158 k0_hw12 k0_h2)

def k0_off44 (v130 : BitVec 32) (v133 : BitVec 32) (k0_t6 : Fin (k0_t6_loop v130 v133).trips) (k0_t10 : Fin (k0_t10_loop v130 v133 k0_t6).trips) : Fin 1 → Nat :=
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let c0_i32_26 : BitVec 32 := 0#32
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let v165 : BitVec 32 := Scalar.addi v143 arg14
  let v166 : Index := Scalar.indexCast v165
  ![v166.toNat]
def k0_off45 (v130 : BitVec 32) (v133 : BitVec 32) (k0_t6 : Fin (k0_t6_loop v130 v133).trips) (k0_t10 : Fin (k0_t10_loop v130 v133 k0_t6).trips) : Fin 3 → Nat :=
  let c0_i32_26 : BitVec 32 := 0#32
  let c0_i32_14 : BitVec 32 := 0#32
  let v134 : BitVec 32 := Scalar.subi v133 v130
  let c15_i32 : BitVec 32 := 15#32
  let v135 : BitVec 32 := Scalar.addi v134 c15_i32
  let c16_i32 : BitVec 32 := 16#32
  let v136 : BitVec 32 := Scalar.divsi v135 c16_i32
  let v137 : BitVec 32 := Scalar.subi v136 c0_i32_14
  let c1_i32_15 : BitVec 32 := 1#32
  let v139 : BitVec 32 := Scalar.divsi v137 c1_i32_15
  let v140 : BitVec 32 := Scalar.muli v139 c1_i32_15
  let v141 : BitVec 32 := Scalar.addi c0_i32_14 v140
  let c1_i32_17 : BitVec 32 := 1#32
  let arg13 : BitVec 32 := Scf.iv v141 c1_i32_17 k0_t6
  let c16_i32_18 : BitVec 32 := 16#32
  let v142 : BitVec 32 := Scalar.muli arg13 c16_i32_18
  let v143 : BitVec 32 := Scalar.addi v130 v142
  let v144 : BitVec 32 := Scalar.subi v133 v143
  let c16_i32_19 : BitVec 32 := 16#32
  let v145 : BitVec 32 := Scalar.minsi v144 c16_i32_19
  let v151 : BitVec 32 := Scalar.subi v145 c0_i32_26
  let c1_i32_27 : BitVec 32 := 1#32
  let v153 : BitVec 32 := Scalar.divsi v151 c1_i32_27
  let v154 : BitVec 32 := Scalar.muli v153 c1_i32_27
  let v155 : BitVec 32 := Scalar.addi c0_i32_26 v154
  let c1_i32_29 : BitVec 32 := 1#32
  let arg14 : BitVec 32 := Scf.iv v155 c1_i32_29 k0_t10
  let v169 : Index := Scalar.indexCast arg14
  let c0_34 : Index := 0#32
  ![v169.toNat, 0, 0]

def k0_chk1_0 (i : grid0.Coords) (v130 : BitVec 32) (v133 : BitVec 32) : Prop :=
  (∀ (k0_h2 : k0_cond2 i = 1#1), (k0_t1_loop v130 v133).OK) ∧
  (∀ k0_t1 : Fin (k0_t1_loop v130 v133).trips, ∀ (k0_h2 : k0_cond2 i = 1#1), (k0_t2_loop v130 v133 k0_t1).OK) ∧
  (∀ (k0_t1 : Fin (k0_t1_loop v130 v133).trips) (k0_t2 : Fin (k0_t2_loop v130 v133 k0_t1).trips), ∀ (k0_h2 : k0_cond2 i = 1#1), ∀ a, (k0_off3 v130 v133 k0_t1 k0_t2) a + S1.size a ≤ S12800.size a) ∧
  (∀ (k0_t1 : Fin (k0_t1_loop v130 v133).trips) (k0_t2 : Fin (k0_t2_loop v130 v133 k0_t1).trips), ∀ (k0_h2 : k0_cond2 i = 1#1), ∀ a, (k0_off4 v130 v133 k0_t1 k0_t2) a + S1.size a ≤ S16.size a) ∧
  (∀ (k0_t1 : Fin (k0_t1_loop v130 v133).trips) (k0_t2 : Fin (k0_t2_loop v130 v133 k0_t1).trips), ∀ (k0_h2 : k0_cond2 i = 1#1), ∀ a, (k0_off5 v130 v133 k0_t1 k0_t2) a + S1x2x4608.size a ≤ S16x2x4608.size a) ∧
  (∀ k0_t1 : Fin (k0_t1_loop v130 v133).trips, ∀ (k0_h2 : k0_cond2 i = 1#1), (k0_t3_loop v130 v133 k0_t1).OK) ∧
  (∀ (k0_t1 : Fin (k0_t1_loop v130 v133).trips) (k0_t3 : Fin (k0_t3_loop v130 v133 k0_t1).trips), ∀ (k0_h2 : k0_cond2 i = 1#1), ∀ a, (k0_off7 v130 v133 k0_t1 k0_t3) a + S1.size a ≤ S12800.size a) ∧
  (∀ (k0_t1 : Fin (k0_t1_loop v130 v133).trips) (k0_t3 : Fin (k0_t3_loop v130 v133 k0_t1).trips), ∀ (k0_h2 : k0_cond2 i = 1#1), ∀ a, (k0_off8 v130 v133 k0_t1 k0_t3) a + S1.size a ≤ S16.size a) ∧
  (∀ (k0_t1 : Fin (k0_t1_loop v130 v133).trips) (k0_t3 : Fin (k0_t3_loop v130 v133 k0_t1).trips), ∀ (k0_h2 : k0_cond2 i = 1#1), ∀ a, (k0_off9 v130 v133 k0_t1 k0_t3) a + S1x2x4608.size a ≤ S16x2x4608.size a) ∧
  (∀ k0_t1 : Fin (k0_t1_loop v130 v133).trips, ∀ (k0_h2 : k0_cond2 i = 1#1), (k0_t4_loop v130 v133 k0_t1).OK) ∧
  (∀ (k0_t1 : Fin (k0_t1_loop v130 v133).trips) (k0_t4 : Fin (k0_t4_loop v130 v133 k0_t1).trips), ∀ (k0_h2 : k0_cond2 i = 1#1), ∀ a, (k0_off11 v130 v133 k0_t1 k0_t4) a + S1.size a ≤ S12800.size a) ∧
  (∀ (k0_t1 : Fin (k0_t1_loop v130 v133).trips) (k0_t4 : Fin (k0_t4_loop v130 v133 k0_t1).trips), ∀ (k0_h2 : k0_cond2 i = 1#1), ∀ a, (k0_off12 v130 v133 k0_t1 k0_t4) a + S1.size a ≤ S16.size a) ∧
  (∀ (k0_t1 : Fin (k0_t1_loop v130 v133).trips) (k0_t4 : Fin (k0_t4_loop v130 v133 k0_t1).trips), ∀ (k0_h2 : k0_cond2 i = 1#1), ∀ a, (k0_off13 v130 v133 k0_t1 k0_t4) a + S1x2x4608.size a ≤ S16x2x4608.size a) ∧
  (∀ (k0_t1 : Fin (k0_t1_loop v130 v133).trips) (k0_t4 : Fin (k0_t4_loop v130 v133 k0_t1).trips), ∀ (k0_h2 : k0_cond2 i = 1#1), ∀ a, (k0_off15 v130 v133 k0_t1 k0_t4) a + S1.size a ≤ S12800.size a) ∧
  (∀ (k0_t1 : Fin (k0_t1_loop v130 v133).trips) (k0_t4 : Fin (k0_t4_loop v130 v133 k0_t1).trips), ∀ (k0_h2 : k0_cond2 i = 1#1), ∀ a, (k0_off16 v130 v133 k0_t1 k0_t4) a + S1x2x4608.size a ≤ S16x2x4608.size a) ∧
  (∀ k0_t1 : Fin (k0_t1_loop v130 v133).trips, ∀ (k0_h2 : k0_cond2 i = 1#1), (k0_t5_loop v130 v133 k0_t1).OK) ∧
  (∀ (k0_t1 : Fin (k0_t1_loop v130 v133).trips) (k0_t5 : Fin (k0_t5_loop v130 v133 k0_t1).trips), ∀ (k0_h2 : k0_cond2 i = 1#1), ∀ a, (k0_off18 v130 v133 k0_t1 k0_t5) a + S1.size a ≤ S12800.size a) ∧
  (∀ (k0_t1 : Fin (k0_t1_loop v130 v133).trips) (k0_t5 : Fin (k0_t5_loop v130 v133 k0_t1).trips), ∀ (k0_h2 : k0_cond2 i = 1#1), ∀ a, (k0_off19 v130 v133 k0_t1 k0_t5) a + S1.size a ≤ S16.size a) ∧
  (∀ (k0_t1 : Fin (k0_t1_loop v130 v133).trips) (k0_t5 : Fin (k0_t5_loop v130 v133 k0_t1).trips), ∀ (k0_h2 : k0_cond2 i = 1#1), ∀ a, (k0_off20 v130 v133 k0_t1 k0_t5) a + S1x2x4608.size a ≤ S16x2x4608.size a) ∧
  (∀ (k0_t1 : Fin (k0_t1_loop v130 v133).trips) (k0_t5 : Fin (k0_t5_loop v130 v133 k0_t1).trips), ∀ (k0_h2 : k0_cond2 i = 1#1), ∀ a, (k0_off22 v130 v133 k0_t1 k0_t5) a + S1.size a ≤ S12800.size a) ∧
  (∀ (k0_t1 : Fin (k0_t1_loop v130 v133).trips) (k0_t5 : Fin (k0_t5_loop v130 v133 k0_t1).trips), ∀ (k0_h2 : k0_cond2 i = 1#1), ∀ a, (k0_off23 v130 v133 k0_t1 k0_t5) a + S1x2x4608.size a ≤ S16x2x4608.size a) ∧
  (∀ (k0_h2 : k0_cond2 i = 1#1), (k0_t6_loop v130 v133).OK) ∧
  (∀ k0_t6 : Fin (k0_t6_loop v130 v133).trips, ∀ (k0_h2 : k0_cond2 i = 1#1), (k0_t7_loop v130 v133 k0_t6).OK) ∧
  (∀ (k0_t6 : Fin (k0_t6_loop v130 v133).trips) (k0_t7 : Fin (k0_t7_loop v130 v133 k0_t6).trips), ∀ (k0_h2 : k0_cond2 i = 1#1), ∀ a, (k0_off25 v130 v133 k0_t6 k0_t7) a + S1.size a ≤ S12800.size a) ∧
  (∀ (k0_t6 : Fin (k0_t6_loop v130 v133).trips) (k0_t7 : Fin (k0_t7_loop v130 v133 k0_t6).trips), ∀ (k0_h2 : k0_cond2 i = 1#1), ∀ a, (k0_off26 v130 v133 k0_t6 k0_t7) a + S1.size a ≤ S16.size a) ∧
  (∀ (k0_t6 : Fin (k0_t6_loop v130 v133).trips) (k0_t7 : Fin (k0_t7_loop v130 v133 k0_t6).trips), ∀ (k0_h2 : k0_cond2 i = 1#1), ∀ a, (k0_off27 v130 v133 k0_t6 k0_t7) a + S1x2x4608.size a ≤ S16x2x4608.size a) ∧
  (∀ k0_t6 : Fin (k0_t6_loop v130 v133).trips, ∀ (k0_h2 : k0_cond2 i = 1#1), (k0_t8_loop v130 v133 k0_t6).OK) ∧
  (∀ (k0_t6 : Fin (k0_t6_loop v130 v133).trips) (k0_t8 : Fin (k0_t8_loop v130 v133 k0_t6).trips), ∀ (k0_h2 : k0_cond2 i = 1#1), ∀ a, (k0_off29 v130 v133 k0_t6 k0_t8) a + S1.size a ≤ S12800.size a) ∧
  (∀ (k0_t6 : Fin (k0_t6_loop v130 v133).trips) (k0_t8 : Fin (k0_t8_loop v130 v133 k0_t6).trips), ∀ (k0_h2 : k0_cond2 i = 1#1), ∀ a, (k0_off30 v130 v133 k0_t6 k0_t8) a + S1.size a ≤ S16.size a) ∧
  (∀ (k0_t6 : Fin (k0_t6_loop v130 v133).trips) (k0_t8 : Fin (k0_t8_loop v130 v133 k0_t6).trips), ∀ (k0_h2 : k0_cond2 i = 1#1), ∀ a, (k0_off31 v130 v133 k0_t6 k0_t8) a + S1x2x4608.size a ≤ S16x2x4608.size a) ∧
  (∀ k0_t6 : Fin (k0_t6_loop v130 v133).trips, ∀ (k0_h2 : k0_cond2 i = 1#1), (k0_t9_loop v130 v133 k0_t6).OK) ∧
  (∀ (k0_t6 : Fin (k0_t6_loop v130 v133).trips) (k0_t9 : Fin (k0_t9_loop v130 v133 k0_t6).trips), ∀ (k0_h2 : k0_cond2 i = 1#1), ∀ a, (k0_off33 v130 v133 k0_t6 k0_t9) a + S1.size a ≤ S12800.size a)
def k0_chk1_1 (i : grid0.Coords) (v130 : BitVec 32) (v133 : BitVec 32) : Prop :=
  (∀ (k0_t6 : Fin (k0_t6_loop v130 v133).trips) (k0_t9 : Fin (k0_t9_loop v130 v133 k0_t6).trips), ∀ (k0_h2 : k0_cond2 i = 1#1), ∀ a, (k0_off34 v130 v133 k0_t6 k0_t9) a + S1.size a ≤ S16.size a) ∧
  (∀ (k0_t6 : Fin (k0_t6_loop v130 v133).trips) (k0_t9 : Fin (k0_t9_loop v130 v133 k0_t6).trips), ∀ (k0_h2 : k0_cond2 i = 1#1), ∀ a, (k0_off35 v130 v133 k0_t6 k0_t9) a + S1x2x4608.size a ≤ S16x2x4608.size a) ∧
  (∀ (k0_t6 : Fin (k0_t6_loop v130 v133).trips) (k0_t9 : Fin (k0_t9_loop v130 v133 k0_t6).trips), ∀ (k0_h2 : k0_cond2 i = 1#1), ∀ a, (k0_off37 v130 v133 k0_t6 k0_t9) a + S1.size a ≤ S12800.size a) ∧
  (∀ (k0_t6 : Fin (k0_t6_loop v130 v133).trips) (k0_t9 : Fin (k0_t9_loop v130 v133 k0_t6).trips), ∀ (k0_h2 : k0_cond2 i = 1#1), ∀ a, (k0_off38 v130 v133 k0_t6 k0_t9) a + S1x2x4608.size a ≤ S16x2x4608.size a) ∧
  (∀ k0_t6 : Fin (k0_t6_loop v130 v133).trips, ∀ (k0_h2 : k0_cond2 i = 1#1), (k0_t10_loop v130 v133 k0_t6).OK) ∧
  (∀ (k0_t6 : Fin (k0_t6_loop v130 v133).trips) (k0_t10 : Fin (k0_t10_loop v130 v133 k0_t6).trips), ∀ (k0_h2 : k0_cond2 i = 1#1), ∀ a, (k0_off40 v130 v133 k0_t6 k0_t10) a + S1.size a ≤ S12800.size a) ∧
  (∀ (k0_t6 : Fin (k0_t6_loop v130 v133).trips) (k0_t10 : Fin (k0_t10_loop v130 v133 k0_t6).trips), ∀ (k0_h2 : k0_cond2 i = 1#1), ∀ a, (k0_off41 v130 v133 k0_t6 k0_t10) a + S1.size a ≤ S16.size a) ∧
  (∀ (k0_t6 : Fin (k0_t6_loop v130 v133).trips) (k0_t10 : Fin (k0_t10_loop v130 v133 k0_t6).trips), ∀ (k0_h2 : k0_cond2 i = 1#1), ∀ a, (k0_off42 v130 v133 k0_t6 k0_t10) a + S1x2x4608.size a ≤ S16x2x4608.size a) ∧
  (∀ (k0_t6 : Fin (k0_t6_loop v130 v133).trips) (k0_t10 : Fin (k0_t10_loop v130 v133 k0_t6).trips), ∀ (k0_h2 : k0_cond2 i = 1#1), ∀ a, (k0_off44 v130 v133 k0_t6 k0_t10) a + S1.size a ≤ S12800.size a) ∧
  (∀ (k0_t6 : Fin (k0_t6_loop v130 v133).trips) (k0_t10 : Fin (k0_t10_loop v130 v133 k0_t6).trips), ∀ (k0_h2 : k0_cond2 i = 1#1), ∀ a, (k0_off45 v130 v133 k0_t6 k0_t10) a + S1x2x4608.size a ≤ S16x2x4608.size a)
def k0_chk1 (i : grid0.Coords) (v130 : BitVec 32) (v133 : BitVec 32) : Prop :=
  k0_chk1_0 i v130 v133 ∧
  k0_chk1_1 i v130 v133
theorem k0_t1_ok : ∀ (i : grid0.Coords) (v130 : BitVec 32) (v133 : BitVec 32) (k0_hw1 : k0_chk1 i v130 v133), ∀ (k0_h2 : k0_cond2 i = 1#1), (k0_t1_loop v130 v133).OK := fun i v130 v133 k0_hw1 k0_h2 => k0_hw1.1.1 k0_h2
theorem k0_t2_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t2_loop v130 v133 k0_t1).OK := fun i v130 v133 k0_hw1 k0_t1 k0_h2 => k0_hw1.1.2.1 k0_t1 k0_h2
theorem k0_off3_inb : ∀ (i : grid0.Coords) (v130 : BitVec 32) (v133 : BitVec 32) (k0_hw1 : k0_chk1 i v130 v133) (k0_t1 : Fin (k0_t1_loop v130 v133).trips) (k0_t2 : Fin (k0_t2_loop v130 v133 k0_t1).trips), ∀ (k0_h2 : k0_cond2 i = 1#1), ∀ a, (k0_off3 v130 v133 k0_t1 k0_t2) a + S1.size a ≤ S12800.size a := fun i v130 v133 k0_hw1 k0_t1 k0_t2 k0_h2 => k0_hw1.1.2.2.1 k0_t1 k0_t2 k0_h2
theorem k0_off4_inb : ∀ (i : grid0.Coords) (v130 : BitVec 32) (v133 : BitVec 32) (k0_hw1 : k0_chk1 i v130 v133) (k0_t1 : Fin (k0_t1_loop v130 v133).trips) (k0_t2 : Fin (k0_t2_loop v130 v133 k0_t1).trips), ∀ (k0_h2 : k0_cond2 i = 1#1), ∀ a, (k0_off4 v130 v133 k0_t1 k0_t2) a + S1.size a ≤ S16.size a := fun i v130 v133 k0_hw1 k0_t1 k0_t2 k0_h2 => k0_hw1.1.2.2.2.1 k0_t1 k0_t2 k0_h2
theorem k0_off5_inb : ∀ (i : grid0.Coords) (v130 : BitVec 32) (v133 : BitVec 32) (k0_hw1 : k0_chk1 i v130 v133) (k0_t1 : Fin (k0_t1_loop v130 v133).trips) (k0_t2 : Fin (k0_t2_loop v130 v133 k0_t1).trips), ∀ (k0_h2 : k0_cond2 i = 1#1), ∀ a, (k0_off5 v130 v133 k0_t1 k0_t2) a + S1x2x4608.size a ≤ S16x2x4608.size a := fun i v130 v133 k0_hw1 k0_t1 k0_t2 k0_h2 => k0_hw1.1.2.2.2.2.1 k0_t1 k0_t2 k0_h2
theorem k0_t3_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t3_loop v130 v133 k0_t1).OK := fun i v130 v133 k0_hw1 k0_t1 k0_h2 => k0_hw1.1.2.2.2.2.2.1 k0_t1 k0_h2
theorem k0_off7_inb : ∀ (i : grid0.Coords) (v130 : BitVec 32) (v133 : BitVec 32) (k0_hw1 : k0_chk1 i v130 v133) (k0_t1 : Fin (k0_t1_loop v130 v133).trips) (k0_t3 : Fin (k0_t3_loop v130 v133 k0_t1).trips), ∀ (k0_h2 : k0_cond2 i = 1#1), ∀ a, (k0_off7 v130 v133 k0_t1 k0_t3) a + S1.size a ≤ S12800.size a := fun i v130 v133 k0_hw1 k0_t1 k0_t3 k0_h2 => k0_hw1.1.2.2.2.2.2.2.1 k0_t1 k0_t3 k0_h2
theorem k0_off8_inb : ∀ (i : grid0.Coords) (v130 : BitVec 32) (v133 : BitVec 32) (k0_hw1 : k0_chk1 i v130 v133) (k0_t1 : Fin (k0_t1_loop v130 v133).trips) (k0_t3 : Fin (k0_t3_loop v130 v133 k0_t1).trips), ∀ (k0_h2 : k0_cond2 i = 1#1), ∀ a, (k0_off8 v130 v133 k0_t1 k0_t3) a + S1.size a ≤ S16.size a := fun i v130 v133 k0_hw1 k0_t1 k0_t3 k0_h2 => k0_hw1.1.2.2.2.2.2.2.2.1 k0_t1 k0_t3 k0_h2
theorem k0_off9_inb : ∀ (i : grid0.Coords) (v130 : BitVec 32) (v133 : BitVec 32) (k0_hw1 : k0_chk1 i v130 v133) (k0_t1 : Fin (k0_t1_loop v130 v133).trips) (k0_t3 : Fin (k0_t3_loop v130 v133 k0_t1).trips), ∀ (k0_h2 : k0_cond2 i = 1#1), ∀ a, (k0_off9 v130 v133 k0_t1 k0_t3) a + S1x2x4608.size a ≤ S16x2x4608.size a := fun i v130 v133 k0_hw1 k0_t1 k0_t3 k0_h2 => k0_hw1.1.2.2.2.2.2.2.2.2.1 k0_t1 k0_t3 k0_h2
theorem k0_t4_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t4_loop v130 v133 k0_t1).OK := fun i v130 v133 k0_hw1 k0_t1 k0_h2 => k0_hw1.1.2.2.2.2.2.2.2.2.2.1 k0_t1 k0_h2
theorem k0_off11_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off11 v130 v133 k0_t1 k0_t4) a + S1.size a ≤ S12800.size a := fun i v130 v133 k0_hw1 k0_t1 k0_t4 k0_h2 => k0_hw1.1.2.2.2.2.2.2.2.2.2.2.1 k0_t1 k0_t4 k0_h2
theorem k0_off12_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off12 v130 v133 k0_t1 k0_t4) a + S1.size a ≤ S16.size a := fun i v130 v133 k0_hw1 k0_t1 k0_t4 k0_h2 => k0_hw1.1.2.2.2.2.2.2.2.2.2.2.2.1 k0_t1 k0_t4 k0_h2
theorem k0_off13_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off13 v130 v133 k0_t1 k0_t4) a + S1x2x4608.size a ≤ S16x2x4608.size a := fun i v130 v133 k0_hw1 k0_t1 k0_t4 k0_h2 => k0_hw1.1.2.2.2.2.2.2.2.2.2.2.2.2.1 k0_t1 k0_t4 k0_h2
theorem k0_off15_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off15 v130 v133 k0_t1 k0_t4) a + S1.size a ≤ S12800.size a := fun i v130 v133 k0_hw1 k0_t1 k0_t4 k0_h2 => k0_hw1.1.2.2.2.2.2.2.2.2.2.2.2.2.2.1 k0_t1 k0_t4 k0_h2
theorem k0_off16_inb : ∀ (i : grid0.Coords) (v130 : BitVec 32) (v133 : BitVec 32) (k0_hw1 : k0_chk1 i v130 v133) (k0_t1 : Fin (k0_t1_loop v130 v133).trips) (k0_t4 : Fin (k0_t4_loop v130 v133 k0_t1).trips), ∀ (k0_h2 : k0_cond2 i = 1#1), ∀ a, (k0_off16 v130 v133 k0_t1 k0_t4) a + S1x2x4608.size a ≤ S16x2x4608.size a := fun i v130 v133 k0_hw1 k0_t1 k0_t4 k0_h2 => k0_hw1.1.2.2.2.2.2.2.2.2.2.2.2.2.2.2.1 k0_t1 k0_t4 k0_h2
theorem k0_t5_ok : ∀ (i : grid0.Coords) (v130 : BitVec 32) (v133 : BitVec 32) (k0_hw1 : k0_chk1 i v130 v133) (k0_t1 : Fin (k0_t1_loop v130 v133).trips), ∀ (k0_h2 : k0_cond2 i = 1#1), (k0_t5_loop v130 v133 k0_t1).OK := fun i v130 v133 k0_hw1 k0_t1 k0_h2 => k0_hw1.1.2.2.2.2.2.2.2.2.2.2.2.2.2.2.2.1 k0_t1 k0_h2
theorem k0_off18_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off18 v130 v133 k0_t1 k0_t5) a + S1.size a ≤ S12800.size a := fun i v130 v133 k0_hw1 k0_t1 k0_t5 k0_h2 => k0_hw1.1.2.2.2.2.2.2.2.2.2.2.2.2.2.2.2.2.1 k0_t1 k0_t5 k0_h2
theorem k0_off19_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off19 v130 v133 k0_t1 k0_t5) a + S1.size a ≤ S16.size a := fun i v130 v133 k0_hw1 k0_t1 k0_t5 k0_h2 => k0_hw1.1.2.2.2.2.2.2.2.2.2.2.2.2.2.2.2.2.2.1 k0_t1 k0_t5 k0_h2
theorem k0_off20_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off20 v130 v133 k0_t1 k0_t5) a + S1x2x4608.size a ≤ S16x2x4608.size a := fun i v130 v133 k0_hw1 k0_t1 k0_t5 k0_h2 => k0_hw1.1.2.2.2.2.2.2.2.2.2.2.2.2.2.2.2.2.2.2.1 k0_t1 k0_t5 k0_h2
theorem k0_off22_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off22 v130 v133 k0_t1 k0_t5) a + S1.size a ≤ S12800.size a := fun i v130 v133 k0_hw1 k0_t1 k0_t5 k0_h2 => k0_hw1.1.2.2.2.2.2.2.2.2.2.2.2.2.2.2.2.2.2.2.2.1 k0_t1 k0_t5 k0_h2
theorem k0_off23_inb : ∀ (i : grid0.Coords) (v130 : BitVec 32) (v133 : BitVec 32) (k0_hw1 : k0_chk1 i v130 v133) (k0_t1 : Fin (k0_t1_loop v130 v133).trips) (k0_t5 : Fin (k0_t5_loop v130 v133 k0_t1).trips), ∀ (k0_h2 : k0_cond2 i = 1#1), ∀ a, (k0_off23 v130 v133 k0_t1 k0_t5) a + S1x2x4608.size a ≤ S16x2x4608.size a := fun i v130 v133 k0_hw1 k0_t1 k0_t5 k0_h2 => k0_hw1.1.2.2.2.2.2.2.2.2.2.2.2.2.2.2.2.2.2.2.2.2.1 k0_t1 k0_t5 k0_h2
theorem k0_t6_ok : ∀ (i : grid0.Coords) (v130 : BitVec 32) (v133 : BitVec 32) (k0_hw1 : k0_chk1 i v130 v133), ∀ (k0_h2 : k0_cond2 i = 1#1), (k0_t6_loop v130 v133).OK := fun i v130 v133 k0_hw1 k0_h2 => k0_hw1.1.2.2.2.2.2.2.2.2.2.2.2.2.2.2.2.2.2.2.2.2.2.1 k0_h2
theorem k0_t7_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t7_loop v130 v133 k0_t6).OK := fun i v130 v133 k0_hw1 k0_t6 k0_h2 => k0_hw1.1.2.2.2.2.2.2.2.2.2.2.2.2.2.2.2.2.2.2.2.2.2.2.1 k0_t6 k0_h2
theorem k0_off25_inb : ∀ (i : grid0.Coords) (v130 : BitVec 32) (v133 : BitVec 32) (k0_hw1 : k0_chk1 i v130 v133) (k0_t6 : Fin (k0_t6_loop v130 v133).trips) (k0_t7 : Fin (k0_t7_loop v130 v133 k0_t6).trips), ∀ (k0_h2 : k0_cond2 i = 1#1), ∀ a, (k0_off25 v130 v133 k0_t6 k0_t7) a + S1.size a ≤ S12800.size a := fun i v130 v133 k0_hw1 k0_t6 k0_t7 k0_h2 => k0_hw1.1.2.2.2.2.2.2.2.2.2.2.2.2.2.2.2.2.2.2.2.2.2.2.2.1 k0_t6 k0_t7 k0_h2
theorem k0_off26_inb : ∀ (i : grid0.Coords) (v130 : BitVec 32) (v133 : BitVec 32) (k0_hw1 : k0_chk1 i v130 v133) (k0_t6 : Fin (k0_t6_loop v130 v133).trips) (k0_t7 : Fin (k0_t7_loop v130 v133 k0_t6).trips), ∀ (k0_h2 : k0_cond2 i = 1#1), ∀ a, (k0_off26 v130 v133 k0_t6 k0_t7) a + S1.size a ≤ S16.size a := fun i v130 v133 k0_hw1 k0_t6 k0_t7 k0_h2 => k0_hw1.1.2.2.2.2.2.2.2.2.2.2.2.2.2.2.2.2.2.2.2.2.2.2.2.2.1 k0_t6 k0_t7 k0_h2
theorem k0_off27_inb : ∀ (i : grid0.Coords) (v130 : BitVec 32) (v133 : BitVec 32) (k0_hw1 : k0_chk1 i v130 v133) (k0_t6 : Fin (k0_t6_loop v130 v133).trips) (k0_t7 : Fin (k0_t7_loop v130 v133 k0_t6).trips), ∀ (k0_h2 : k0_cond2 i = 1#1), ∀ a, (k0_off27 v130 v133 k0_t6 k0_t7) a + S1x2x4608.size a ≤ S16x2x4608.size a := fun i v130 v133 k0_hw1 k0_t6 k0_t7 k0_h2 => k0_hw1.1.2.2.2.2.2.2.2.2.2.2.2.2.2.2.2.2.2.2.2.2.2.2.2.2.2.1 k0_t6 k0_t7 k0_h2
theorem k0_t8_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t8_loop v130 v133 k0_t6).OK := fun i v130 v133 k0_hw1 k0_t6 k0_h2 => k0_hw1.1.2.2.2.2.2.2.2.2.2.2.2.2.2.2.2.2.2.2.2.2.2.2.2.2.2.2.1 k0_t6 k0_h2
theorem k0_off29_inb : ∀ (i : grid0.Coords) (v130 : BitVec 32) (v133 : BitVec 32) (k0_hw1 : k0_chk1 i v130 v133) (k0_t6 : Fin (k0_t6_loop v130 v133).trips) (k0_t8 : Fin (k0_t8_loop v130 v133 k0_t6).trips), ∀ (k0_h2 : k0_cond2 i = 1#1), ∀ a, (k0_off29 v130 v133 k0_t6 k0_t8) a + S1.size a ≤ S12800.size a := fun i v130 v133 k0_hw1 k0_t6 k0_t8 k0_h2 => k0_hw1.1.2.2.2.2.2.2.2.2.2.2.2.2.2.2.2.2.2.2.2.2.2.2.2.2.2.2.2.1 k0_t6 k0_t8 k0_h2
theorem k0_off30_inb : ∀ (i : grid0.Coords) (v130 : BitVec 32) (v133 : BitVec 32) (k0_hw1 : k0_chk1 i v130 v133) (k0_t6 : Fin (k0_t6_loop v130 v133).trips) (k0_t8 : Fin (k0_t8_loop v130 v133 k0_t6).trips), ∀ (k0_h2 : k0_cond2 i = 1#1), ∀ a, (k0_off30 v130 v133 k0_t6 k0_t8) a + S1.size a ≤ S16.size a := fun i v130 v133 k0_hw1 k0_t6 k0_t8 k0_h2 => k0_hw1.1.2.2.2.2.2.2.2.2.2.2.2.2.2.2.2.2.2.2.2.2.2.2.2.2.2.2.2.2.1 k0_t6 k0_t8 k0_h2
theorem k0_off31_inb : ∀ (i : grid0.Coords) (v130 : BitVec 32) (v133 : BitVec 32) (k0_hw1 : k0_chk1 i v130 v133) (k0_t6 : Fin (k0_t6_loop v130 v133).trips) (k0_t8 : Fin (k0_t8_loop v130 v133 k0_t6).trips), ∀ (k0_h2 : k0_cond2 i = 1#1), ∀ a, (k0_off31 v130 v133 k0_t6 k0_t8) a + S1x2x4608.size a ≤ S16x2x4608.size a := fun i v130 v133 k0_hw1 k0_t6 k0_t8 k0_h2 => k0_hw1.1.2.2.2.2.2.2.2.2.2.2.2.2.2.2.2.2.2.2.2.2.2.2.2.2.2.2.2.2.2.1 k0_t6 k0_t8 k0_h2
theorem k0_t9_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t9_loop v130 v133 k0_t6).OK := fun i v130 v133 k0_hw1 k0_t6 k0_h2 => k0_hw1.1.2.2.2.2.2.2.2.2.2.2.2.2.2.2.2.2.2.2.2.2.2.2.2.2.2.2.2.2.2.2.1 k0_t6 k0_h2
theorem k0_off33_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off33 v130 v133 k0_t6 k0_t9) a + S1.size a ≤ S12800.size a := fun i v130 v133 k0_hw1 k0_t6 k0_t9 k0_h2 => k0_hw1.1.2.2.2.2.2.2.2.2.2.2.2.2.2.2.2.2.2.2.2.2.2.2.2.2.2.2.2.2.2.2.2 k0_t6 k0_t9 k0_h2
theorem k0_off34_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off34 v130 v133 k0_t6 k0_t9) a + S1.size a ≤ S16.size a := fun i v130 v133 k0_hw1 k0_t6 k0_t9 k0_h2 => k0_hw1.2.1 k0_t6 k0_t9 k0_h2
theorem k0_off35_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off35 v130 v133 k0_t6 k0_t9) a + S1x2x4608.size a ≤ S16x2x4608.size a := fun i v130 v133 k0_hw1 k0_t6 k0_t9 k0_h2 => k0_hw1.2.2.1 k0_t6 k0_t9 k0_h2
theorem k0_off37_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off37 v130 v133 k0_t6 k0_t9) a + S1.size a ≤ S12800.size a := fun i v130 v133 k0_hw1 k0_t6 k0_t9 k0_h2 => k0_hw1.2.2.2.1 k0_t6 k0_t9 k0_h2
theorem k0_off38_inb : ∀ (i : grid0.Coords) (v130 : BitVec 32) (v133 : BitVec 32) (k0_hw1 : k0_chk1 i v130 v133) (k0_t6 : Fin (k0_t6_loop v130 v133).trips) (k0_t9 : Fin (k0_t9_loop v130 v133 k0_t6).trips), ∀ (k0_h2 : k0_cond2 i = 1#1), ∀ a, (k0_off38 v130 v133 k0_t6 k0_t9) a + S1x2x4608.size a ≤ S16x2x4608.size a := fun i v130 v133 k0_hw1 k0_t6 k0_t9 k0_h2 => k0_hw1.2.2.2.2.1 k0_t6 k0_t9 k0_h2
theorem k0_t10_ok : ∀ (i : grid0.Coords) (v130 : BitVec 32) (v133 : BitVec 32) (k0_hw1 : k0_chk1 i v130 v133) (k0_t6 : Fin (k0_t6_loop v130 v133).trips), ∀ (k0_h2 : k0_cond2 i = 1#1), (k0_t10_loop v130 v133 k0_t6).OK := fun i v130 v133 k0_hw1 k0_t6 k0_h2 => k0_hw1.2.2.2.2.2.1 k0_t6 k0_h2
theorem k0_off40_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off40 v130 v133 k0_t6 k0_t10) a + S1.size a ≤ S12800.size a := fun i v130 v133 k0_hw1 k0_t6 k0_t10 k0_h2 => k0_hw1.2.2.2.2.2.2.1 k0_t6 k0_t10 k0_h2
theorem k0_off41_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off41 v130 v133 k0_t6 k0_t10) a + S1.size a ≤ S16.size a := fun i v130 v133 k0_hw1 k0_t6 k0_t10 k0_h2 => k0_hw1.2.2.2.2.2.2.2.1 k0_t6 k0_t10 k0_h2
theorem k0_off42_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off42 v130 v133 k0_t6 k0_t10) a + S1x2x4608.size a ≤ S16x2x4608.size a := fun i v130 v133 k0_hw1 k0_t6 k0_t10 k0_h2 => k0_hw1.2.2.2.2.2.2.2.2.1 k0_t6 k0_t10 k0_h2
theorem k0_off44_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off44 v130 v133 k0_t6 k0_t10) a + S1.size a ≤ S12800.size a := fun i v130 v133 k0_hw1 k0_t6 k0_t10 k0_h2 => k0_hw1.2.2.2.2.2.2.2.2.2.1 k0_t6 k0_t10 k0_h2
theorem k0_off45_inb : ∀ (i : grid0.Coords) (v130 : BitVec 32) (v133 : BitVec 32) (k0_hw1 : k0_chk1 i v130 v133) (k0_t6 : Fin (k0_t6_loop v130 v133).trips) (k0_t10 : Fin (k0_t10_loop v130 v133 k0_t6).trips), ∀ (k0_h2 : k0_cond2 i = 1#1), ∀ a, (k0_off45 v130 v133 k0_t6 k0_t10) a + S1x2x4608.size a ≤ S16x2x4608.size a := fun i v130 v133 k0_hw1 k0_t6 k0_t10 k0_h2 => k0_hw1.2.2.2.2.2.2.2.2.2.2 k0_t6 k0_t10 k0_h2

def k0_off46 (i : grid0.Coords) (v179 : BitVec 32) : Fin 2 → Nat :=
  let arg0 : BitVec 32 := BitVec.ofNat 32 (i 0).val
  let c1024_i32 : BitVec 32 := 1024#32
  let v180 : BitVec 32 := Scalar.muli arg0 c1024_i32
  let v181 : BitVec 32 := Scalar.subi v179 v180
  let v182 : Index := Scalar.indexCast v181
  let c0_37 : Index := 0#32
  ![v182.toNat, 0]

def k0_chk13 (i : grid0.Coords) (v179 : BitVec 32) : Prop :=
  (∀ (k0_h2 : k0_cond2 i = 1#1), ∀ a, (k0_off46 i v179) a + S1x4608.size a ≤ S1024x4608.size a)
theorem k0_off46_inb : ∀ (i : grid0.Coords) (v179 : BitVec 32) (k0_hw13 : k0_chk13 i v179), ∀ (k0_h2 : k0_cond2 i = 1#1), ∀ a, (k0_off46 i v179) a + S1x4608.size a ≤ S1024x4608.size a := fun i v179 k0_hw13 k0_h2 => k0_hw13 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4608 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S5x2560x30720 : Shape := ⟨3, ![5, 2560, 30720]⟩
abbrev S5x2560x240 : Shape := ⟨3, ![5, 2560, 240]⟩
abbrev S5x2560x4608 : Shape := ⟨3, ![5, 2560, 4608]⟩
abbrev S5x2560 : Shape := ⟨2, ![5, 2560]⟩
abbrev S5x2560x240x128 : Shape := ⟨4, ![5, 2560, 240, 128]⟩
abbrev S5x2560x240x1 : Shape := ⟨4, ![5, 2560, 240, 1]⟩
abbrev S5x2560x1 : Shape := ⟨3, ![5, 2560, 1]⟩
abbrev S30720x4608 : Shape := ⟨2, ![30720, 4608]⟩
abbrev S12800 : Shape := ⟨1, ![12800]⟩
abbrev S12800x4608 : Shape := ⟨2, ![12800, 4608]⟩
abbrev S_ : Shape := ⟨0, ![]⟩
abbrev S12800x1 : Shape := ⟨2, ![12800, 1]⟩

abbrev nBuf : Space → Nat
  | .hbm => 31
  | .vmem => 4
  | .smem => 0
  | _ => 0

abbrev bufTy : (tb : Table) → Fin (tcTables nBuf tb) → BufTy
  | .hbm, ⟨0, _⟩ => ⟨S5x2560x30720, .fp8e5m2⟩
  | .hbm, ⟨1, _⟩ => ⟨S5x2560x240, .f32⟩
  | .hbm, ⟨2, _⟩ => ⟨S5x2560x4608, .fp8e4m3⟩
  | .hbm, ⟨3, _⟩ => ⟨S5x2560, .f32⟩
  | .hbm, ⟨4, _⟩ => ⟨S5x2560, .i32⟩
  | .hbm, ⟨5, _⟩ => ⟨S5x2560x4608, .bf16⟩
  | .hbm, ⟨6, _⟩ => ⟨S5x2560x30720, .bf16⟩
  | .hbm, ⟨7, _⟩ => ⟨S5x2560x4608, .bf16⟩
  | .hbm, ⟨8, _⟩ => ⟨S5x2560x240x128, .bf16⟩
  | .hbm, ⟨9, _⟩ => ⟨S5x2560x240, .bf16⟩
  | .hbm, ⟨10, _⟩ => ⟨S5x2560x240x1, .bf16⟩
  | .hbm, ⟨11, _⟩ => ⟨S5x2560x240x128, .bf16⟩
  | .hbm, ⟨12, _⟩ => ⟨S5x2560x240x128, .bf16⟩
  | .hbm, ⟨13, _⟩ => ⟨S5x2560x30720, .bf16⟩
  | .hbm, ⟨14, _⟩ => ⟨S5x2560, .bf16⟩
  | .hbm, ⟨15, _⟩ => ⟨S5x2560x1, .bf16⟩
  | .hbm, ⟨16, _⟩ => ⟨S5x2560x4608, .bf16⟩
  | .hbm, ⟨17, _⟩ => ⟨S5x2560x4608, .bf16⟩
  | .hbm, ⟨18, _⟩ => ⟨S30720x4608, .f32⟩
  | .hbm, ⟨19, _⟩ => ⟨S12800, .i32⟩
  | .hbm, ⟨20, _⟩ => ⟨S12800x4608, .bf16⟩
  | .hbm, ⟨21, _⟩ => ⟨S12800x4608, .f32⟩
  | .hbm, ⟨22, _⟩ => ⟨S_, .i32⟩
  | .hbm, ⟨23, _⟩ => ⟨S12800, .i32⟩
  | .hbm, ⟨24, _⟩ => ⟨S12800, .i1⟩
  | .hbm, ⟨25, _⟩ => ⟨S_, .i32⟩
  | .hbm, ⟨26, _⟩ => ⟨S12800, .i32⟩
  | .hbm, ⟨27, _⟩ => ⟨S12800, .i32⟩
  | .hbm, ⟨28, _⟩ => ⟨S12800, .i32⟩
  | .hbm, ⟨29, _⟩ => ⟨S12800x1, .i32⟩
  | .hbm, ⟨30, _⟩ => ⟨S30720x4608, .f32⟩
  | .local _ .vmem, ⟨0, _⟩ => ⟨S5x2560x30720, .fp8e5m2⟩
  | .local _ .vmem, ⟨1, _⟩ => ⟨S5x2560x4608, .fp8e4m3⟩
  | .local _ .vmem, ⟨2, _⟩ => ⟨S5x2560x30720, .bf16⟩
  | .local _ .vmem, ⟨3, _⟩ => ⟨S5x2560x4608, .bf16⟩
  | _, _ => ⟨S5x2560x30720, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S5x2560x30720 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x2560x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x2560x30720 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x2560x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/- Word arithmetic of the scatter loops: the trip counts and the indices that the kernel's body computes from the two
   words `v ≤ w ≤ 12800` which bound the positions of one vocabulary tile, as natural numbers. -/
module

public import Idealize.ShloMosaic.Lib.LoopRemainder
public import Idealize.ShloMosaic.Lib.WordArith
public import Idealize.ShloMosaic.Lib.Affine

@[expose] public section

namespace Cert.Words

open Idealize.ShloMosaic

/-- The bound of the loop over groups of sixteen positions. -/
abbrev n1 (v w : BitVec 32) : BitVec 32 :=
  Scalar.addi 0#32 (Scalar.muli (Scalar.divsi (Scalar.subi (Scalar.divsi (Scalar.addi (Scalar.subi w v) 15#32) 16#32) 0#32) 1#32) 1#32)

/-- The first position of group `g`. -/
abbrev base (v : BitVec 32) (g : Nat) : BitVec 32 := Scalar.addi v (Scalar.muli (Scf.iv 0#32 1#32 g) 16#32)

/-- The bound of the two loops over the positions of group `g`. -/
abbrev n2 (v w : BitVec 32) (g : Nat) : BitVec 32 :=
  Scalar.addi 0#32 (Scalar.muli (Scalar.divsi (Scalar.subi (Scalar.minsi (Scalar.subi w (base v g)) 16#32) 0#32) 1#32) 1#32)

/-- The number of groups. -/
def groups (v w : BitVec 32) : Nat := (w.toNat - v.toNat + 15) / 16

/-- The number of positions in group `g`. -/
def rows (v w : BitVec 32) (g : Nat) : Nat := min (w.toNat - (v.toNat + 16 * g)) 16

/-- A word reads signed as an integer. -/
theorem isInt_iff {x : BitVec 32} {e : Int} : Affine.IsInt x e ↔ x.toInt = e := by unfold Affine.IsInt; exact Iff.rfl

/-- A word below 2^31 reads signed as its unsigned value. -/
theorem isInt_toNat (x : BitVec 32) (h : x.toNat < 2 ^ 31) : Affine.IsInt x (x.toNat : Int) := by
  rw [isInt_iff, BitVec.toInt_eq_toNat_cond]; split <;> omega

/-- A word that reads signed as a small natural has that unsigned value. -/
theorem toNat_of_isInt {x : BitVec 32} {n : Nat} (h : Affine.IsInt x (n : Int)) (hn : n < 2 ^ 31) : x.toNat = n := by
  rw [isInt_iff, BitVec.toInt_eq_toNat_cond] at h; have := x.isLt; split at h <;> omega

/-- A loop's word at a trip reads as the trip's number. -/
theorem isInt_iv (k : Nat) (h : k < 2 ^ 31) : Affine.IsInt (Scf.iv 0#32 1#32 k) (k : Int) := by
  have e : Scf.iv 0#32 1#32 k = BitVec.ofNat 32 k := by unfold Scf.iv; simp
  rw [e]; exact Affine.ofNat k ⟨rfl, h⟩

/-- A loop's word at a trip, unsigned. -/
theorem iv_toNat (k : Nat) (h : k < 2 ^ 31) : (Scf.iv 0#32 1#32 k).toNat = k := toNat_of_isInt (isInt_iv k h) h

section
variable {v w : BitVec 32} (hv : v.toNat ≤ w.toNat) (hw : w.toNat ≤ 12800)
include hv hw

/-- The number of groups, as a word. -/
theorem isInt_n1 : Affine.IsInt (n1 v w) (groups v w : Int) := by
  have h1 := Affine.subi (e := ((w.toNat - v.toNat : Nat) : Int)) (isInt_toNat w (by omega)) (isInt_toNat v (by omega)) (by omega)
  have h2 := Affine.addi (e := ((w.toNat - v.toNat + 15 : Nat) : Int)) h1 (Affine.ofNat 15 ⟨rfl, by decide⟩) (by omega)
  have h3 := Affine.divsi (e := (groups v w : Int)) h2 (Affine.ofNat 16 ⟨rfl, by decide⟩) (by unfold groups; omega)
  have hb : groups v w ≤ 801 := by unfold groups; omega
  have h4 := Affine.subi (e := (groups v w : Int)) h3 (Affine.ofNat 0 ⟨rfl, by decide⟩) (by omega)
  have h5 := Affine.divsi_one (e := (groups v w : Int)) h4 (Affine.ofNat 1 ⟨rfl, by decide⟩) (by omega)
  have h6 := Affine.muli (e := (groups v w : Int)) h5 (Affine.ofNat 1 ⟨rfl, by decide⟩) (by omega)
  exact Affine.addi (Affine.ofNat 0 ⟨rfl, by decide⟩) h6 (by omega)

/-- The loop over groups makes `groups` trips. -/
theorem trips1 : Scf.trips 0#32 (n1 v w) 1#32 = groups v w :=
  Affine.trips_eq (Affine.ofNat 0 ⟨rfl, by decide⟩) (isInt_n1 hv hw) (Affine.ofNat 1 ⟨rfl, by decide⟩) _ (by omega)

/-- The loop over groups has proper bounds. -/
theorem ok1 : Scf.OK 0#32 (n1 v w) 1#32 :=
  Affine.ok (Affine.ofNat 0 ⟨rfl, by decide⟩) (isInt_n1 hv hw) (Affine.ofNat 1 ⟨rfl, by decide⟩) (by
    have hb : groups v w ≤ 801 := by unfold groups; omega
    omega)

/-- A group's first position, as a word. -/
theorem isInt_base {g : Nat} (hg : g < groups v w) : Affine.IsInt (base v g) ((v.toNat + 16 * g : Nat) : Int) := by
  have hb : groups v w ≤ 801 := by unfold groups; omega
  have h2 := Affine.muli (e := ((16 * g : Nat) : Int)) (isInt_iv g (by omega)) (Affine.ofNat 16 ⟨rfl, by decide⟩) (by omega)
  exact Affine.addi (isInt_toNat v (by omega)) h2 (by omega)

/-- A group's first position is below the tile's end. -/
theorem base_lt {g : Nat} (hg : g < groups v w) : v.toNat + 16 * g < w.toNat := by
  unfold groups at hg; omega

/-- A group's number of rows, as a word. -/
theorem isInt_n2 {g : Nat} (hg : g < groups v w) : Affine.IsInt (n2 v w g) (rows v w g : Int) := by
  have hlt := base_lt hv hw hg
  have h1 := Affine.subi (e := ((w.toNat - (v.toNat + 16 * g) : Nat) : Int)) (isInt_toNat w (by omega)) (isInt_base hv hw hg) (by omega)
  have h2 := Affine.minsi (e := (rows v w g : Int)) h1 (Affine.ofNat 16 ⟨rfl, by decide⟩) (by unfold rows; omega)
  have hb : rows v w g ≤ 16 := by unfold rows; omega
  have h4 := Affine.subi (e := (rows v w g : Int)) h2 (Affine.ofNat 0 ⟨rfl, by decide⟩) (by omega)
  have h5 := Affine.divsi_one (e := (rows v w g : Int)) h4 (Affine.ofNat 1 ⟨rfl, by decide⟩) (by omega)
  have h6 := Affine.muli (e := (rows v w g : Int)) h5 (Affine.ofNat 1 ⟨rfl, by decide⟩) (by omega)
  exact Affine.addi (Affine.ofNat 0 ⟨rfl, by decide⟩) h6 (by omega)

/-- The loops over group `g` make `rows` trips. -/
theorem trips2 {g : Nat} (hg : g < groups v w) : Scf.trips 0#32 (n2 v w g) 1#32 = rows v w g :=
  Affine.trips_eq (Affine.ofNat 0 ⟨rfl, by decide⟩) (isInt_n2 hv hw hg) (Affine.ofNat 1 ⟨rfl, by decide⟩) _ (by omega)

/-- The loops over a group's rows have proper bounds. -/
theorem ok2 {g : Nat} (hg : g < groups v w) : Scf.OK 0#32 (n2 v w g) 1#32 :=
  Affine.ok (Affine.ofNat 0 ⟨rfl, by decide⟩) (isInt_n2 hv hw hg) (Affine.ofNat 1 ⟨rfl, by decide⟩) (by
    have hb : rows v w g ≤ 16 := by unfold rows; omega
    omega)

/-- A group has at most sixteen rows. -/
theorem rows_le {g : Nat} : rows v w g ≤ 16 := by unfold rows; omega

/-- Position `r` of group `g`, as the kernel computes it. -/
theorem pos_toNat {g r : Nat} (hg : g < groups v w) (hr : r < rows v w g) :
    (Scalar.indexCast (Scalar.addi (base v g) (Scf.iv 0#32 1#32 r))).toNat = v.toNat + 16 * g + r := by
  have hb := base_lt hv hw hg
  have hr' : r < 16 := lt_of_lt_of_le hr (rows_le hv hw)
  exact toNat_of_isInt (Affine.addi (isInt_base hv hw hg) (isInt_iv r (by omega)) (by omega)) (by omega)

/-- A row's position is below the end. -/
theorem pos_lt {g r : Nat} (hg : g < groups v w) (hr : r < rows v w g) : v.toNat + 16 * g + r < w.toNat := by
  have hb := base_lt hv hw hg
  unfold rows at hr; omega

end

/-- A word shifted right by one is half of it. -/
theorem shrui_one (x : BitVec 32) : (Scalar.shrui x 1#32).toNat = x.toNat / 2 := by
  unfold Scalar.shrui IntOp.shrui
  rw [if_pos (by decide)]
  simp [BitVec.toNat_ushiftRight, Nat.shiftRight_eq_div_pow]

/-- The row of tile `j` at which a word lies that is a row number of that tile. -/
theorem row_toNat {j : Nat} (hj : j < 30) (x : BitVec 32) (h : (1024 * j : Int) ≤ x.toInt) (h' : x.toInt < 1024 * (j + 1 : Int)) :
    (Scalar.indexCast (Scalar.subi x (Scalar.muli (BitVec.ofNat 32 j) 1024#32))).toNat = x.toNat - 1024 * j
      ∧ x.toNat - 1024 * j < 1024 ∧ 1024 * j ≤ x.toNat := by
  have hx : x.toInt = x.toNat := by
    rw [BitVec.toInt_eq_toNat_cond] at h ⊢; have := x.isLt; split at h <;> simp_all <;> omega
  have h1 := Affine.muli (e := ((1024 * j : Nat) : Int)) (Affine.ofNat (e := (j : Int)) j ⟨rfl, by omega⟩) (Affine.ofNat 1024 ⟨rfl, by decide⟩) (by omega)
  have h2 := Affine.subi (e := ((x.toNat - 1024 * j : Nat) : Int)) (isInt_toNat x (by omega)) h1 (by omega)
  exact ⟨toNat_of_isInt h2 (by omega), by omega, by omega⟩

end Cert.Words

end
-- ==== Proof.Tables.lean ====
/- The three tables the kernel reads: the sorted token ids, the position each came from, and per tile boundary the number
   of ids below it. `Ok` says what the kernel relies on; `ok_of` derives it from the operations that compute the tables. -/
module

public import Idealize.ShloMosaic.Lib.SortFacts
public import Idealize.ShloMosaic.Lib.IndicatorCount
public import Idealize.ShloMosaic.Lib.WordArith
public import Idealize.ShloMosaic.Lib.WordCmp

@[expose] public section

set_option maxRecDepth 16384

namespace Cert.Tables

open Idealize.ShloMosaic

/-- The shapes of the tables. -/
abbrev T : Shape := ⟨1, ![12800]⟩
abbrev B : Shape := ⟨1, ![31]⟩

/-- What holds of the tables: `st j` is the first position whose sorted id is at least `1024 * j`, and the sorted ids are
    the ids `x` at the permuted positions that `tk` lists. -/
structure Ok (st : B.Idx → BitVec 32) (id tk x : T.Idx → BitVec 32) : Prop where
  le : ∀ j : Fin 31, (st (.ofFin j)).toNat ≤ 12800
  cut : ∀ (j : Fin 31) (p : Fin 12800), p.val < (st (.ofFin j)).toNat ↔ (id (.ofFin p)).toInt < 1024 * (j.val : Int)
  perm : ∃ σ : Equiv.Perm (Fin 12800), ∀ p, id (.ofFin p) = x (.ofFin (σ p)) ∧ (tk (.ofFin p)).toNat = (σ p).val

/-- The boundaries ascend. -/
theorem Ok.mono {st : B.Idx → BitVec 32} {id tk x : T.Idx → BitVec 32} (h : Ok st id tk x) {j k : Fin 31} (hjk : j ≤ k) :
    (st (.ofFin j)).toNat ≤ (st (.ofFin k)).toNat := by
  by_contra hlt
  have hlt := Nat.lt_of_not_le hlt
  have hp : (st (.ofFin k)).toNat < 12800 := lt_of_lt_of_le hlt (h.le j)
  have h1 := (h.cut j ⟨_, hp⟩).mp hlt
  have h2 : ¬ ((id (.ofFin (⟨(st (.ofFin k)).toNat, hp⟩ : Fin 12800))).toInt < 1024 * (k.val : Int)) := fun e => by
    have := (h.cut k ⟨_, hp⟩).mpr e; simp at this
  have h3 : (j.val : Int) ≤ k.val := by exact_mod_cast hjk
  omega

/-- Every token is below 12800. -/
theorem Ok.tk_lt {st : B.Idx → BitVec 32} {id tk x : T.Idx → BitVec 32} (h : Ok st id tk x) (p : Fin 12800) :
    (tk (.ofFin p)).toNat < 12800 := by
  obtain ⟨σ, hσ⟩ := h.perm
  rw [(hσ p).2]; exact (σ p).isLt

/-- The stable sort of (id, position) pairs by the signed order of the ids, read: a permutation along which the ids ascend. -/
theorem sort_read {n : Nat} (x : (⟨1, ![n]⟩ : Shape).Idx → BitVec 32) (cmp : BitVec 32 × BitVec 32 → BitVec 32 × BitVec 32 → BitVec 1)
    (hcmp : ∀ a b, cmp a b = 1#1 ↔ a.1.toInt < b.1.toInt) (y : (⟨1, ![n]⟩ : Shape).Idx → BitVec 32)
    (hy : ∀ p : Fin n, (y (.ofFin p)).toNat = p.val) :
    ∃ σ : Equiv.Perm (Fin n), (∀ p, (Host.sort2 ⟨1, ![n]⟩ 0 cmp x y).1 (.ofFin p) = x (.ofFin (σ p))
      ∧ ((Host.sort2 ⟨1, ![n]⟩ 0 cmp x y).2 (.ofFin p)).toNat = (σ p).val)
      ∧ ∀ p q : Fin n, p ≤ q → (x (.ofFin (σ p))).toInt ≤ (x (.ofFin (σ q))).toInt := by
  have hd : 0 < (⟨1, ![n]⟩ : Shape).rank := Nat.zero_lt_one
  have e : ∀ (j : (⟨1, ![n]⟩ : Shape).Idx) (c : Fin n), j.along (⟨0, hd⟩ : Fin 1) c = .ofFin c := fun j c => Shape.Idx.along_rank1 j c
  let before : Fin n → Fin n → Bool := fun a b => decide ((x (.ofFin a)).toInt < (x (.ofFin b)).toInt)
  have hbefore : ∀ j : (⟨1, ![n]⟩ : Shape).Idx,
      (fun a b : Fin n => cmp (x (j.along ⟨0, hd⟩ a), y (j.along ⟨0, hd⟩ a)) (x (j.along ⟨0, hd⟩ b), y (j.along ⟨0, hd⟩ b)) == 1#1)
        = before := fun j => by
    funext a b
    rw [beq_eq_decide]
    refine decide_eq_decide.mpr ?_
    rw [hcmp]
    show (x (j.along ⟨0, hd⟩ a)).toInt < (x (j.along ⟨0, hd⟩ b)).toInt ↔ _
    rw [e j a, e j b]
  let σ : Equiv.Perm (Fin n) := Equiv.ofBijective (sortedFrom before) ⟨sortedFrom_injective before, sortedFrom_surjective before⟩
  have hsrc : ∀ p : Fin n, sortedFrom (n := n)
      (fun a b : Fin n => cmp (x ((Shape.Idx.ofFin p : (⟨1, ![n]⟩ : Shape).Idx).along ⟨0, hd⟩ a), y ((Shape.Idx.ofFin p : (⟨1, ![n]⟩ : Shape).Idx).along ⟨0, hd⟩ a))
        (x ((Shape.Idx.ofFin p : (⟨1, ![n]⟩ : Shape).Idx).along ⟨0, hd⟩ b), y ((Shape.Idx.ofFin p : (⟨1, ![n]⟩ : Shape).Idx).along ⟨0, hd⟩ b)) == 1#1) p = σ p := fun p => by
    rw [hbefore (.ofFin p)]; rfl
  refine ⟨σ, fun p => ?_, fun p q hpq => ?_⟩
  · unfold Host.sort2
    rw [dif_pos hd]
    refine ⟨(congrArg (fun c : Fin n => x ((Shape.Idx.ofFin p : (⟨1, ![n]⟩ : Shape).Idx).along ⟨0, hd⟩ c)) (hsrc p)).trans (congrArg x (e _ _)), ?_⟩
    refine Eq.trans (congrArg BitVec.toNat ((congrArg (fun c : Fin n => y ((Shape.Idx.ofFin p : (⟨1, ![n]⟩ : Shape).Idx).along ⟨0, hd⟩ c)) (hsrc p)).trans (congrArg y (e _ _)))) (hy _)
  · rcases hpq.lt_or_eq with h | h
    · have := sortedFrom_noInversion before before
        (fun a b h => by simp only [before, decide_eq_true_eq, decide_eq_false_iff_not] at h ⊢; omega)
        (fun a b h => h)
        (fun a b c h h' => by simp only [before, decide_eq_false_iff_not] at h h' ⊢; omega) p q h
      simp only [before, decide_eq_false_iff_not] at this
      exact not_lt.mp this
    · rw [h]

/-- Of a predicate on positions that is downward closed, the positions where it holds are those below their number. -/
theorem lt_card_iff {n : Nat} (P : Fin n → Prop) [DecidablePred P] (hP : ∀ p q : Fin n, p ≤ q → P q → P p) (p : Fin n) :
    p.val < (Finset.univ.filter P).card ↔ P p := by
  constructor
  · intro h
    by_contra hn
    have hsub : Finset.univ.filter P ⊆ Finset.univ.filter (fun q : Fin n => q < p) := fun q hq => by
      simp only [Finset.mem_filter, Finset.mem_univ, true_and] at hq ⊢
      by_contra hle
      exact hn (hP p q (not_lt.mp hle) hq)
    have := Finset.card_le_card hsub
    have e : (Finset.univ.filter (fun q : Fin n => q < p)).card = p.val := by
      rw [show (Finset.univ.filter (fun q : Fin n => q < p)) = Finset.Iio p by ext q; simp]; exact Fin.card_Iio p
    omega
  · intro h
    have hsub : Finset.univ.filter (fun q : Fin n => q ≤ p) ⊆ Finset.univ.filter P := fun q hq => by
      simp only [Finset.mem_filter, Finset.mem_univ, true_and] at hq ⊢
      exact hP q p hq h
    have := Finset.card_le_card hsub
    have e : (Finset.univ.filter (fun q : Fin n => q ≤ p)).card = p.val + 1 := by
      rw [show (Finset.univ.filter (fun q : Fin n => q ≤ p)) = Finset.Iic p by ext q; simp]; exact Fin.card_Iic p
    omega

/-- The tables the operations before the kernel compute are `Ok`: the first argument's hypothesis says that `st j` counts the
    sorted ids below `1024 * j`. -/
theorem ok_of (x y : T.Idx → BitVec 32) (cmp : BitVec 32 × BitVec 32 → BitVec 32 × BitVec 32 → BitVec 1)
    (hcmp : ∀ a b, cmp a b = 1#1 ↔ a.1.toInt < b.1.toInt) (hy : ∀ p : Fin 12800, (y (.ofFin p)).toNat = p.val) (st : B.Idx → BitVec 32)
    (hst : ∀ j : Fin 31, (st (.ofFin j)).toNat
      = (Finset.univ.filter fun p : Fin 12800 => ((Host.sort2 T 0 cmp x y).1 (.ofFin p)).toInt < 1024 * (j.val : Int)).card) :
    Ok st (Host.sort2 T 0 cmp x y).1 (Host.sort2 T 0 cmp x y).2 x := by
  obtain ⟨σ, h1, h2⟩ := sort_read x cmp hcmp y hy
  refine ⟨fun j => ?_, fun j p => ?_, σ, h1⟩
  · rw [hst]; refine (Finset.card_le_univ _).trans (by simp)
  · rw [hst]
    refine lt_card_iff _ (fun p q hpq hq => ?_) p
    rw [(h1 p).1]; rw [(h1 q).1] at hq
    exact lt_of_le_of_lt (h2 p q hpq) hq

end Cert.Tables

end
-- ==== Proof.Steps.lean ====
/- One program step at the head of a bind, as an entailment: a word read of scalar memory, an assumption, the start of a
   local copy, its wait, a load and a store. Each is the library's rule for the step with the continuation of the bind in
   place of the step's own. -/
module

public import Idealize.ShloMosaic.Lib.Pipeline.Frame

@[expose] public section

namespace Cert.Steps

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy}

/-- A word read of a scalar buffer held whole at any share continues at the element read. -/
theorem smem {m : Memref sig c.2.kind .smem s e} {r : Rect s} {h1 : r.shape.numel = 1} {hp : e.packing = 1}
    {K : Val e → Prog (TpuEff nD τ sig Val Λ c.2) α} {q : PosShare TreeShare} {f : Buf Val (m.view.loc c)} :
    (m.view.loc c ↦{q} f)
      ⊢ iprop(((m.view.loc c ↦{q} f) -∗ wp frame (wpE defs 𝒱 c bd) Set.univ
          (K ((m.access r).read Val f (Shape.Idx.first (h1.symm ▸ Nat.one_pos)))) Q)
        -∗ wp frame (wpE defs 𝒱 c bd) Set.univ (smemLoad m r h1 hp >>= K) Q) :=
  wp_load_rect (Ix := Ix) (Name := Name) (U := U) (Lvl := Lvl) 𝒱 c bd Set.univ (m := m) (r := r) (hl := View.loadsAt_rect (View.loads_smem_one hp h1))
    (k := fun x => K (x (Shape.Idx.first (h1.symm ▸ Nat.one_pos)))) (Finset.subset_univ _)

/-- An assumption that holds continues. -/
theorem assm {P : Prop} {d : Decidable P} {K : PLift P → Prog (TpuEff nD τ sig Val Λ c.2) α} (h : P) :
    wp (M := MT nD τ sig Ix Val Name U Lvl) frame (wpE defs 𝒱 c bd) Set.univ (K ⟨h⟩) Q
      ⊢ wp frame (wpE defs 𝒱 c bd) Set.univ (Prog.lift (TpuEff.assume P d) >>= K) Q :=
  wp_assume 𝒱 c bd Set.univ h

/-- A conditional whose condition holds continues at its first branch. -/
theorem pos {P : Prop} {d : Decidable P} {A : P → Prog (TpuEff nD τ sig Val Λ c.2) α} {B : ¬ P → Prog (TpuEff nD τ sig Val Λ c.2) α} (h : P) :
    wp (M := MT nD τ sig Ix Val Name U Lvl) frame (wpE defs 𝒱 c bd) Set.univ (A h) Q ⊢ wp frame (wpE defs 𝒱 c bd) Set.univ (dite P A B) Q := by
  rw [dif_pos h]

/-- A conditional whose condition fails continues at its second branch. -/
theorem neg {P : Prop} {d : Decidable P} {A : P → Prog (TpuEff nD τ sig Val Λ c.2) α} {B : ¬ P → Prog (TpuEff nD τ sig Val Λ c.2) α} (h : ¬ P) :
    wp (M := MT nD τ sig Ix Val Name U Lvl) frame (wpE defs 𝒱 c bd) Set.univ (B h) Q ⊢ wp frame (wpE defs 𝒱 c bd) Set.univ (dite P A B) Q := by
  rw [dif_neg h]

/-- A load through a rectangle of a memref whose elements are held continues at what the rectangle reads. -/
theorem load {cs : CoreSpace} {m : Memref sig c.2.kind cs s e} {r : Rect s} {hl : m.view.LoadsAt r.toLoadRect}
    {K : (r.shape.Idx → Val e) → Prog (TpuEff nD τ sig Val Λ c.2) α}
    {S : Finset (Idx (m.view.loc c))} {q : PosShare TreeShare} {f : Buf Val (m.view.loc c)} (hS : (m.access r).set ⊆ S) :
    (m.view.loc c ↦[S]{q} f)
      ⊢ iprop(((m.view.loc c ↦[S]{q} f) -∗ wp frame (wpE defs 𝒱 c bd) Set.univ (K ((m.access r).read Val f)) Q)
        -∗ wp frame (wpE defs 𝒱 c bd) Set.univ (Prog.lift (.load m r.toLoadRect hl) >>= K) Q) :=
  wp_load_rect (Ix := Ix) (Name := Name) (U := U) (Lvl := Lvl) 𝒱 c bd Set.univ (m := m) (r := r) (hl := hl) hS

/-- An unmasked store through a rectangle of a memref whose elements are held leaves them rewritten. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {K : PUnit → Prog (TpuEff nD τ sig Val Λ c.2) α} {S : Finset (Idx (m.view.loc c))} {f : Buf Val (m.view.loc c)}
    (hS : (m.access r).set ⊆ S) :
    (m.view.loc c ↦[S]{fullShare} f)
      ⊢ iprop(((m.view.loc c ↦[S]{fullShare} ((m.access r).write Val f w Finset.univ)) -∗ wp frame (wpE defs 𝒱 c bd) Set.univ (K ⟨⟩) Q)
        -∗ wp frame (wpE defs 𝒱 c bd) Set.univ (Prog.lift (.store m r w Finset.univ hx hm) >>= K) Q) :=
  wp_store (Ix := Ix) (Name := Name) (U := U) (Lvl := Lvl) 𝒱 c bd Set.univ (m := m) (r := r) (w := w) (hx := hx) (hm := hm) (k := K) hS

variable (EC : UEmb Counters (MT nD τ sig Ix Val Name U Lvl))

/-- A local copy on a semaphore at zero starts, leaving its flight. -/
theorem start [Infinite Name] [EC.LandsIn (upEmb : UEmb _ (MT nD τ sig Ix Val Name U Lvl))] {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {K : PUnit → Prog (TpuEff nD τ sig Val Λ c.2) α} {q : PosShare TreeShare} {fs : Buf Val (src.view.loc c)}
    {fd : Buf Val (dst.view.loc c)} (ι : Ix) (N : ℕ) (hN : dst.view.amount sm = N) (hN0 : 0 < N) :
    iprop((src.view.loc c ↦[src.view.set]{q} fs) ∗ (dst.view.loc c ↦[dst.view.set]{fullShare} fd) ∗ semVal (c, sm) 0)
      ⊢ iprop((Transfers.Flight EC c sm ι N iprop((dst.view.loc c ↦[dst.view.set]{fullShare} (dst.view.write Val fd (via.apply (src.view.read Val fs)) Finset.univ))
                                    ∗ (src.view.loc c ↦[src.view.set]{q} fs))
              -∗ wp frame (wpE defs 𝒱 c bd) Set.univ (K ⟨⟩) Q)
          -∗ wp frame (wpE defs 𝒱 c bd) Set.univ (Prog.lift (.enqueueDmaAs src (.here dst) via sm hsrc hdst hsem) >>= K) Q) :=
  Transfers.wp_dmaLocal EC 𝒱 c bd ι N hN hN0 (Finset.Subset.refl _)

/-- The wait for a copy started by the core hands over what the copy delivers. -/
theorem wait [EC.LandsIn (upEmb : UEmb _ (MT nD τ sig Ix Val Name U Lvl))] {s' : Shape} {e' : EltTy} {κ' : Kind} {sem : DmaSem sig}
    {srcw : Memref sig c.2.kind sp' s' e'} {dstw : Memref sig κ' sp s e} {hsrc : srcw.view.WordExact} {hdst : dstw.view.WordExact}
    {K : PUnit → Prog (TpuEff nD τ sig Val Λ c.2) α} (ι : Ix) {N : ℕ} (hN : dstw.view.dmaCredit = N)
    {D : sProp (MT nD τ sig Ix Val Name U Lvl)} {W : Waits sig Ix} :
    iprop(Transfers.Flight EC c (.dma sem) ι N D ∗ owes c 0 W)
      ⊢ iprop((iprop(D ∗ semVal (c, .dma sem) 0 ∗ owes c 0 (insert (SemLoc.dma sem, ι) W)) -∗ wp frame (wpE defs 𝒱 c bd) Set.univ (K ⟨⟩) Q)
          -∗ wp frame (wpE defs 𝒱 c bd) Set.univ (Prog.lift (.waitDma2 sem srcw dstw hsrc hdst) >>= K) Q) :=
  Transfers.wp_waitLocal EC 𝒱 c bd ι hN

end Cert.Steps

end
-- ==== Proof.KernelScatter.lean ====
/- The scatter loops of `Kernel`: a group of up to sixteen row copies is started, each on its own semaphore into its own
   row of the scratch, then each is awaited and its row added into the output block. Every row, its semaphore and its
   share of the source array form a slot, free or with a copy in flight. -/
module

public import proofs.«01_k».proof.Proof.Gen.Kernel.Launch
public import proofs.«01_k».proof.Proof.Gen.Kernel.Loops
public import proofs.«01_k».proof.Proof.Words
public import proofs.«01_k».proof.Proof.Tables
public import proofs.«01_k».proof.Proof.Steps
public import Idealize.ShloMosaic.Lib.LoopRemainder
public import Idealize.ShloMosaic.Lib.Pipeline.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The proof's user algebra: the pipeline library's beside the transfers' counters. -/
local notation "𝕄" => MT nD τ sig Unit (Elt F) ℕ (Pipeline.UD sig nD τ) ℕ

abbrev EC : UEmb Counters 𝕄 := countersEmb (U := Pipeline.UD sig nD τ)

/-! ## The operands -/

abbrev scM : Memref sig .tc .vmem S16x4608 .i32 := Memref.whole cc0_scratch0
abbrev hbM : Memref sig .tc .hbm S12800x4608 .bf16 := Memref.whole main_v20
abbrev stM : Memref sig .tc .smem S31 .i32 := Memref.whole main_v12
abbrev idM : Memref sig .tc .smem S12800 .i32 := Memref.whole main_v2_0
abbrev tkM : Memref sig .tc .smem S12800 .i32 := Memref.whole main_v2_1

/-- Slot `r`'s semaphore. -/
abbrev osem : Fin 16 → SemLoc sig := fun r => SemLoc.dma ⟨10 + r.val, by have := r.isLt; show _ < 26; omega⟩

/-- Each row lies inside the scratch buffer. -/
theorem row_inb (r : Fin 16) : ∀ a, (![r.val, 0] : Fin 2 → Nat) a + S1x4608.size a ≤ S16x4608.size a := fun a => by
  have := r.isLt
  match a with
  | 0 => show r.val + 1 ≤ 16; omega
  | 1 => show 0 + 4608 ≤ 4608; omega

/-- Row `r` of the scratch. -/
abbrev row (r : Fin 16) : Memref sig .tc .vmem S1x4608 .i32 :=
  scM.slice (Rect.unit (s := S16x4608) ![r.val, 0] S1x4608.size (row_inb r)) (fun _ => rfl)

/-- The amount of one copy. -/
abbrev credit : ℕ := (row 0).view.dmaCredit

/-- A row's copy has a positive size. -/
theorem credit_pos : 0 < credit := by decide

/-- A semaphore taken at an offset is the slot's semaphore. -/
theorem sem_eq (r : Fin 16) (off : Fin 1 → Nat) (h : ∀ a, off a + S1.size a ≤ S16.size a) (e : off = ![r.val]) :
    SemLoc.dma ((cc0_scratch1.slice (Rect.unit (s := S16) off S1.size h)).squeeze S_ squeezes_S1_S_).sem = osem r := by
  subst e
  revert r; decide

variable (c : Dev nD) (fH : Buf (Elt F) (hbM.view.loc (c : Thread nD τ)))

/-- Slot `r` at rest: its row at some contents, its semaphore at zero, its share of the source. -/
def Free (r : Fin 16) : sProp 𝕄 :=
  iprop((∃ f : Buf (Elt F) (scM.view.loc (c : Thread nD τ)), scM.view.loc (c : Thread nD τ) ↦[(row r).view.set]{fullShare} f)
    ∗ semVal ((c : Thread nD τ), osem r) 0
    ∗ (hbM.view.loc (c : Thread nD τ) ↦{Transfers.shareTokN fullShare r.val} fH))

/-- Slot `r` with a copy in flight that leaves its row at contents of which `Φ` holds. -/
def Busy (Φ : Buf (Elt F) (scM.view.loc (c : Thread nD τ)) → Prop) (r : Fin 16) : sProp 𝕄 :=
  iprop(∃ I : Finset (Idx (hbM.view.loc (c : Thread nD τ))),
    Transfers.Flight (Ix := Unit) EC (c : Thread nD τ) (osem r) () credit
      iprop((∃ f : Buf (Elt F) (scM.view.loc (c : Thread nD τ)), ⌜Φ f⌝ ∗ scM.view.loc (c : Thread nD τ) ↦[(row r).view.set]{fullShare} f)
        ∗ (hbM.view.loc (c : Thread nD τ) ↦[I]{Transfers.shareTokN fullShare r.val} fH))
    ∗ (hbM.view.loc (c : Thread nD τ) ↦[Finset.univ \ I]{Transfers.shareTokN fullShare r.val} fH))

/-! ## The loops' trips and offsets -/

section Offsets
variable {v w : BitVec 32} (hv : v.toNat ≤ w.toNat) (hw : w.toNat ≤ 12800)
include hv hw

/-- A trip of the loop over groups is below the number of groups. -/
theorem lt_groups (t1 : Fin (k0_t1_loop v w).trips) : t1.val < Words.groups v w :=
  lt_of_lt_of_eq t1.isLt (Words.trips1 hv hw)

/-- A trip of the starting loop is below the group's number of rows. -/
theorem lt_rows (t1 : Fin (k0_t1_loop v w).trips) (t2 : Fin (k0_t2_loop v w t1).trips) : t2.val < Words.rows v w t1.val :=
  lt_of_lt_of_eq t2.isLt (Words.trips2 hv hw (lt_groups hv hw t1))

/-- A trip of the adding loop is below the group's number of rows. -/
theorem lt_rows' (t1 : Fin (k0_t1_loop v w).trips) (t4 : Fin (k0_t4_loop v w t1).trips) : t4.val < Words.rows v w t1.val :=
  lt_of_lt_of_eq t4.isLt (Words.trips2 hv hw (lt_groups hv hw t1))

/-- A group has at most sixteen rows. -/
theorem lt_sixteen {t1 : Fin (k0_t1_loop v w).trips} {r : ℕ} (h : r < Words.rows v w t1.val) : r < 16 :=
  lt_of_lt_of_le h (Words.rows_le hv hw)

/-- A row's position is below the end. -/
theorem pos_lt {t1 : Fin (k0_t1_loop v w).trips} {r : ℕ} (h : r < Words.rows v w t1.val) : v.toNat + 16 * t1.val + r < 12800 :=
  lt_of_lt_of_le (Words.pos_lt hv hw (lt_groups hv hw t1) h) hw

/-- The loop's word at a trip is the trip's number. -/
theorem iv_eq {r : ℕ} {t1 : Fin (k0_t1_loop v w).trips} (h : r < Words.rows v w t1.val) : (Scf.iv 0#32 1#32 r).toNat = r :=
  Words.iv_toNat _ (by have := lt_sixteen hv hw h; omega)

/-- Where it lies: the token read to start a copy. -/
theorem off3 (t1 : Fin (k0_t1_loop v w).trips) (t2 : Fin (k0_t2_loop v w t1).trips) : k0_off3 v w t1 t2 = ![v.toNat + 16 * t1.val + t2.val] := by
  show ![(Scalar.indexCast (Scalar.addi (Words.base v t1.val) (Scf.iv 0#32 1#32 t2.val))).toNat] = _
  rw [Words.pos_toNat hv hw (lt_groups hv hw t1) (lt_rows hv hw t1 t2)]
/-- Where it lies: the semaphore a copy is started on. -/
theorem off4 (t1 : Fin (k0_t1_loop v w).trips) (t2 : Fin (k0_t2_loop v w t1).trips) : k0_off4 v w t1 t2 = ![t2.val] := by
  show ![(Scf.iv 0#32 1#32 t2.val).toNat] = _
  rw [iv_eq hv hw (lt_rows hv hw t1 t2)]
/-- Where it lies: the row a copy is started into. -/
theorem off5 (t1 : Fin (k0_t1_loop v w).trips) (t2 : Fin (k0_t2_loop v w t1).trips) : k0_off5 v w t1 t2 = ![t2.val, 0] := by
  show ![(Scf.iv 0#32 1#32 t2.val).toNat, 0] = _
  rw [iv_eq hv hw (lt_rows hv hw t1 t2)]
/-- Where it lies: the token read when a copy is awaited. -/
theorem off11 (t1 : Fin (k0_t1_loop v w).trips) (t4 : Fin (k0_t4_loop v w t1).trips) : k0_off11 v w t1 t4 = ![v.toNat + 16 * t1.val + t4.val] := by
  show ![(Scalar.indexCast (Scalar.addi (Words.base v t1.val) (Scf.iv 0#32 1#32 t4.val))).toNat] = _
  rw [Words.pos_toNat hv hw (lt_groups hv hw t1) (lt_rows' hv hw t1 t4)]
/-- Where it lies: the semaphore a copy is awaited on. -/
theorem off12 (t1 : Fin (k0_t1_loop v w).trips) (t4 : Fin (k0_t4_loop v w t1).trips) : k0_off12 v w t1 t4 = ![t4.val] := by
  show ![(Scf.iv 0#32 1#32 t4.val).toNat] = _
  rw [iv_eq hv hw (lt_rows' hv hw t1 t4)]
/-- Where it lies: the row a copy is awaited in. -/
theorem off13 (t1 : Fin (k0_t1_loop v w).trips) (t4 : Fin (k0_t4_loop v w t1).trips) : k0_off13 v w t1 t4 = ![t4.val, 0] := by
  show ![(Scf.iv 0#32 1#32 t4.val).toNat, 0] = _
  rw [iv_eq hv hw (lt_rows' hv hw t1 t4)]
/-- Where it lies: the token and the id of the row added. -/
theorem off15 (t1 : Fin (k0_t1_loop v w).trips) (t4 : Fin (k0_t4_loop v w t1).trips) : k0_off15 v w t1 t4 = ![v.toNat + 16 * t1.val + t4.val] := off11 hv hw t1 t4
/-- Where it lies: the row that is added. -/
theorem off16 (t1 : Fin (k0_t1_loop v w).trips) (t4 : Fin (k0_t4_loop v w t1).trips) : k0_off16 v w t1 t4 = ![t4.val, 0] := by
  show ![(Scalar.indexCast (Scf.iv 0#32 1#32 t4.val)).toNat, 0] = _
  rw [show (Scalar.indexCast (Scf.iv 0#32 1#32 t4.val)).toNat = _ from iv_eq hv hw (lt_rows' hv hw t1 t4)]

/-- The remainder loop of the starting loop makes no trip. -/
theorem no_t3 (t1 : Fin (k0_t1_loop v w).trips) (t3 : Fin (k0_t3_loop v w t1).trips) : False := Scf.rem_no_trip _ _ t3
/-- The remainder loop of the adding loop makes no trip. -/
theorem no_t5 (t1 : Fin (k0_t1_loop v w).trips) (t5 : Fin (k0_t5_loop v w t1).trips) : False := Scf.rem_no_trip _ _ t5
/-- The remainder loop over groups makes no trip. -/
theorem no_t6 (t6 : Fin (k0_t6_loop v w).trips) : False := Scf.rem_no_trip _ _ t6

omit hv hw in
/-- A position below the table's length can be read. -/
theorem pos_inb {off : Fin 1 → ℕ} {p : ℕ} (e : off = ![p]) (hp : p < 12800) : ∀ a, off a + S1.size a ≤ S12800.size a := fun a => by
  subst e
  match a with
  | 0 => show p + 1 ≤ 12800; omega
omit hv hw in
/-- A slot below sixteen has a semaphore. -/
theorem sem_inb {off : Fin 1 → ℕ} {p : ℕ} (e : off = ![p]) (hp : p < 16) : ∀ a, off a + S1.size a ≤ S16.size a := fun a => by
  subst e
  match a with
  | 0 => show p + 1 ≤ 16; omega
omit hv hw in
/-- A slot below sixteen has a row. -/
theorem row_inb' {off : Fin 2 → ℕ} {p : ℕ} (e : off = ![p, 0]) (hp : p < 16) : ∀ a, off a + S1x4608.size a ≤ S16x4608.size a := by
  subst e; exact row_inb ⟨p, hp⟩

/-- The checks on the two bounds of the tile's positions hold. -/
theorem chk1_of (i : grid0.Coords) : k0_chk1 i v w := by
  unfold k0_chk1 k0_chk1_0 k0_chk1_1
  exact ⟨⟨fun _ => Words.ok1 hv hw, fun t1 _ => Words.ok2 hv hw (lt_groups hv hw t1),
    fun t1 t2 _ => pos_inb (off3 hv hw t1 t2) (pos_lt hv hw (lt_rows hv hw t1 t2)),
    fun t1 t2 _ => sem_inb (off4 hv hw t1 t2) (lt_sixteen hv hw (lt_rows hv hw t1 t2)),
    fun t1 t2 _ => row_inb' (off5 hv hw t1 t2) (lt_sixteen hv hw (lt_rows hv hw t1 t2)),
    fun _ _ => Scf.rem_ok _ _, fun t1 t3 => (no_t3 hv hw t1 t3).elim, fun t1 t3 => (no_t3 hv hw t1 t3).elim, fun t1 t3 => (no_t3 hv hw t1 t3).elim,
    fun t1 _ => Words.ok2 hv hw (lt_groups hv hw t1),
    fun t1 t4 _ => pos_inb (off11 hv hw t1 t4) (pos_lt hv hw (lt_rows' hv hw t1 t4)),
    fun t1 t4 _ => sem_inb (off12 hv hw t1 t4) (lt_sixteen hv hw (lt_rows' hv hw t1 t4)),
    fun t1 t4 _ => row_inb' (off13 hv hw t1 t4) (lt_sixteen hv hw (lt_rows' hv hw t1 t4)),
    fun t1 t4 _ => pos_inb (off15 hv hw t1 t4) (pos_lt hv hw (lt_rows' hv hw t1 t4)),
    fun t1 t4 _ => row_inb' (off16 hv hw t1 t4) (lt_sixteen hv hw (lt_rows' hv hw t1 t4)),
    fun _ _ => Scf.rem_ok _ _, fun t1 t5 => (no_t5 hv hw t1 t5).elim, fun t1 t5 => (no_t5 hv hw t1 t5).elim, fun t1 t5 => (no_t5 hv hw t1 t5).elim,
    fun t1 t5 => (no_t5 hv hw t1 t5).elim, fun t1 t5 => (no_t5 hv hw t1 t5).elim,
    fun _ => Scf.rem_ok _ _,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim⟩,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim⟩

end Offsets

/-- A copy takes the pair of rows a token lies in. -/
theorem off6 (x : BitVec 32) : k0_off6 x = ![2 * (x.toNat / 2), 0] := by
  show ![2 * (Scalar.shrui x 1#32).toNat, 0] = _
  rw [Words.shrui_one]

/-- The pair of rows of a token in range lies inside the copied array. -/
theorem off6_inb (x : BitVec 32) (h : x.toNat < 12800) : ∀ a, k0_off6 x a + S2x4608.size a ≤ S12800x4608.size a := fun a => by
  rw [off6]
  match a with
  | 0 => show 2 * (x.toNat / 2) + 2 ≤ 12800; omega
  | 1 => show 0 + 4608 ≤ 4608; omega

/-- A row pair starts at an even row and spans whole rows. -/
theorem off6_words (x : BitVec 32) (hinb : ∀ a, k0_off6 x a + S2x4608.size a ≤ S12800x4608.size a) :
    (Rect.unit (s := S12800x4608) (k0_off6 x) S2x4608.size hinb).WholeWords (EltTy.packing .bf16) := by
  refine Or.inl (Or.inr ⟨by decide, rfl, Or.inl ⟨?_, ?_⟩⟩)
  · show 2 ∣ k0_off6 x 0
    rw [off6]; exact ⟨x.toNat / 2, rfl⟩
  · exact ⟨1, rfl⟩

/-- The check before a copy is started holds of a token in range. -/
theorem chk2_of (i : grid0.Coords) (x : BitVec 32) (h : x.toNat < 12800) : k0_chk2 i x :=
  ⟨fun _ => off6_inb x h, fun _ hinb => off6_words x hinb⟩

/-- The check before a copy is awaited holds of a token in range. -/
theorem chk4_of (i : grid0.Coords) (x : BitVec 32) (h : x.toNat < 12800) : k0_chk4 i x :=
  ⟨fun _ => off6_inb x h, fun _ hinb => off6_words x hinb⟩

/-- The row of the output block, for a row number of the block's tile. -/
theorem off17 (i : grid0.Coords) (y : BitVec 32) (hl : (1024 * (i 0).val : Int) ≤ y.toInt) (hu : y.toInt < 1024 * ((i 0).val + 1 : Int)) :
    k0_off17 i y = ![y.toNat - 1024 * (i 0).val, 0] ∧ y.toNat - 1024 * (i 0).val < 1024 ∧ 1024 * (i 0).val ≤ y.toNat := by
  have h := Words.row_toNat (i 0).isLt y hl hu
  refine ⟨?_, h.2⟩
  show ![(Scalar.indexCast (Scalar.subi y (Scalar.muli (BitVec.ofNat 32 (i 0).val) 1024#32))).toNat, 0] = _
  rw [h.1]

/-- The check before a row is added holds of an id inside the tile. -/
theorem chk5_of (i : grid0.Coords) (y : BitVec 32) (hl : (1024 * (i 0).val : Int) ≤ y.toInt) (hu : y.toInt < 1024 * ((i 0).val + 1 : Int)) :
    k0_chk5 i y := fun _ a => by
  obtain ⟨e, h, -⟩ := off17 i y hl hu
  rw [e]
  match a with
  | 0 => show y.toNat - 1024 * (i 0).val + 1 ≤ 1024; omega
  | 1 => show 0 + 4608 ≤ 4608; omega

/-! ## Starting a group's copies -/

/-- The row pair of the source that word `x` names, as a copy reads it. -/
def Pair (fH : Buf (Elt F) (hbM.view.loc (c : Thread nD τ))) (x : BitVec 32) (pr : Vec F S1x4608 .i32) : Prop :=
  ∃ h : ∀ a, k0_off6 x a + S2x4608.size a ≤ S12800x4608.size a,
    pr = (ReadAs.bitcast bitcasts_S2x4608_w16_S1x4608_w32).apply
      ((hbM.slice (Rect.unit (s := S12800x4608) (k0_off6 x) S2x4608.size h) (fun _ => rfl)).view.read (Elt F) fH)

/-- Row `r` of scratch contents `f` is the row pair that word `x` names. -/
def Landed (r : Fin 16) (x : BitVec 32) (f : Buf (Elt F) (scM.view.loc (c : Thread nD τ))) : Prop :=
  Pair (F := F) c fH x ((row r).view.read (Elt F) f)

/-- What a started copy delivers is its row at contents that hold the pair. -/
theorem landed (r : Fin 16) (x : BitVec 32) (f : Buf (Elt F) (scM.view.loc (c : Thread nD τ)))
    (hX : ∀ a, k0_off6 x a + S2x4608.size a ≤ S12800x4608.size a)
    (hR : ∀ a, (![r.val, 0] : Fin 2 → ℕ) a + S1x4608.size a ≤ S16x4608.size a) (R : sProp 𝕄) :
    iprop((scM.view.loc (c : Thread nD τ) ↦[(row r).view.set]{fullShare}
        ((row r).view.write (Elt F) f ((ReadAs.bitcast bitcasts_S2x4608_w16_S1x4608_w32).apply
          ((hbM.slice (Rect.unit (s := S12800x4608) (k0_off6 x) S2x4608.size hX) (fun _ => rfl)).view.read (Elt F) fH)) Finset.univ)) ∗ R)
      ⊢ iprop((∃ f : Buf (Elt F) (scM.view.loc (c : Thread nD τ)), ⌜Landed (F := F) c fH r x f⌝ ∗ scM.view.loc (c : Thread nD τ) ↦[(row r).view.set]{fullShare} f) ∗ R) := by
  iintro ⟨H, HR⟩
  isplitl [H]
  · iexists _
    isplitr
    swap
    · iexact H
    · ipureintro
      exact ⟨hX, View.read_write_univ _ _⟩
  · iexact HR

/-- Starting a copy turns a free slot into a busy one. -/
theorem start_slot (r : Fin 16) (x : BitVec 32) {α : Type} {Q : α → sProp 𝕄}
    {offS : Fin 1 → ℕ} (hS : ∀ a, offS a + S1.size a ≤ S16.size a) (eS : offS = ![r.val])
    {offR : Fin 2 → ℕ} (hR : ∀ a, offR a + S1x4608.size a ≤ S16x4608.size a) (eR : offR = ![r.val, 0])
    (hX : ∀ a, k0_off6 x a + S2x4608.size a ≤ S12800x4608.size a) {hsrc hdst hsem}
    {K : PUnit → Prog (TpuEff nD τ sig (Elt F) Λ₀ .tc) α} :
    Free (F := F) c fH r ⊢ iprop((Busy (F := F) c fH (Landed (F := F) c fH r x) r -∗ wp frame (wpE (defs₀ (F := F)) Variants.none (c : Thread nD τ) none) Set.univ (K ⟨⟩) Q)
      -∗ wp frame (wpE (defs₀ (F := F)) Variants.none (c : Thread nD τ) none) Set.univ
        (Prog.lift (.enqueueDmaAs (hbM.slice (Rect.unit (s := S12800x4608) (k0_off6 x) S2x4608.size hX) (fun _ => rfl))
          (.here (scM.slice (Rect.unit (s := S16x4608) offR S1x4608.size hR) (fun _ => rfl)))
          (.bitcast bitcasts_S2x4608_w16_S1x4608_w32) (.dma ((cc0_scratch1.slice (Rect.unit (s := S16) offS S1.size hS)).squeeze S_ squeezes_S1_S_).sem) hsrc hdst hsem) >>= K) Q) := by
  subst eR
  have e := sem_eq r offS hS eS
  revert hsem
  rw [e]
  intro hsem
  unfold Free Busy
  iintro ⟨⟨%f, Hrow⟩, Hsem, Htok⟩ Hk
  ihave H := (pointsTo_split_subset (Finset.subset_univ (hbM.slice (Rect.unit (s := S12800x4608) (k0_off6 x) S2x4608.size hX) (fun _ => rfl)).view.set)).1 $$ Htok
  icases H with ⟨Ht1, Ht2⟩
  iapply (Steps.start Variants.none (c : Thread nD τ) none EC () credit rfl credit_pos) $$ [Ht1 Hrow Hsem]
  · isplitl [Ht1]; · iexact Ht1
    isplitl [Hrow]; · iexact Hrow
    iexact Hsem
  iintro Hf
  iapply Hk
  iexists (hbM.slice (Rect.unit (s := S12800x4608) (k0_off6 x) S2x4608.size hX) (fun _ => rfl)).view.set
  isplitl [Hf]
  · iapply (Transfers.Flight_mono EC (c : Thread nD τ) (landed (F := F) c fH r x f hX hR
      iprop(hbM.view.loc (c : Thread nD τ) ↦[(hbM.slice (Rect.unit (s := S12800x4608) (k0_off6 x) S2x4608.size hX) (fun _ => rfl)).view.set]{Transfers.shareTokN fullShare r.val} fH))) $$ Hf
  · iexact Ht2

/-- The wait for slot `r`'s copy hands the slot back, its row at the contents the copy left. -/
theorem wait_slot (r : Fin 16) (Φ : Buf (Elt F) (scM.view.loc (c : Thread nD τ)) → Prop) {α : Type} {Q : α → sProp 𝕄}
    {offS : Fin 1 → ℕ} (hS : ∀ a, offS a + S1.size a ≤ S16.size a) (eS : offS = ![r.val])
    {offR : Fin 2 → ℕ} (hR : ∀ a, offR a + S1x4608.size a ≤ S16x4608.size a)
    {srcw : Memref sig .tc .hbm S2x4608 .bf16} {hsrc hdst} {W : Waits sig Unit}
    {K : PUnit → Prog (TpuEff nD τ sig (Elt F) Λ₀ .tc) α} :
    iprop(Busy (F := F) c fH Φ r ∗ owes (c : Thread nD τ) 0 W) ⊢ iprop((iprop((∃ f : Buf (Elt F) (scM.view.loc (c : Thread nD τ)), ⌜Φ f⌝ ∗ scM.view.loc (c : Thread nD τ) ↦[(row r).view.set]{fullShare} f)
        ∗ semVal ((c : Thread nD τ), osem r) 0 ∗ (hbM.view.loc (c : Thread nD τ) ↦{Transfers.shareTokN fullShare r.val} fH)
        ∗ owes (c : Thread nD τ) 0 (insert (osem r, ()) W)) -∗ wp frame (wpE (defs₀ (F := F)) Variants.none (c : Thread nD τ) none) Set.univ (K ⟨⟩) Q)
      -∗ wp frame (wpE (defs₀ (F := F)) Variants.none (c : Thread nD τ) none) Set.univ
        (Prog.lift (.waitDma2 ((cc0_scratch1.slice (Rect.unit (s := S16) offS S1.size hS)).squeeze S_ squeezes_S1_S_).sem srcw
          (scM.slice (Rect.unit (s := S16x4608) offR S1x4608.size hR) (fun _ => rfl)) hsrc hdst) >>= K) Q) := by
  have e := sem_eq r offS hS eS
  have hs := fun D => Steps.wait (D := D) (Name := ℕ) (Lvl := ℕ) (defs := defs₀ (F := F)) Variants.none (c : Thread nD τ) none (EC (F := F)) (sem := ((cc0_scratch1.slice (Rect.unit (s := S16) offS S1.size hS)).squeeze S_ squeezes_S1_S_).sem)
    (srcw := srcw) (dstw := scM.slice (Rect.unit (s := S16x4608) offR S1x4608.size hR) (fun _ => rfl)) (hsrc := hsrc) (hdst := hdst) (K := K) (Q := Q) (W := W) () (N := credit) rfl
  simp only [e] at hs
  unfold Busy
  iintro ⟨⟨%I, Hf, Ht2⟩, HO⟩ Hk
  iapply (hs _) $$ [Hf HO]
  · isplitl [Hf]; · iexact Hf
    iexact HO
  iintro ⟨⟨Hrow, Ht1⟩, Hsem, HO⟩
  iapply Hk
  isplitl [Hrow]; · iexact Hrow
  isplitl [Hsem]; · iexact Hsem
  isplitl [Ht1 Ht2]
  · iapply (pointsTo_split_subset (Finset.subset_univ I)).2 $$ [Ht1 Ht2]
    isplitl [Ht1]; · iexact Ht1
    iexact Ht2
  · iexact HO

/-- A load of slot `r`'s row. -/
theorem load_slot (r : Fin 16) {f : Buf (Elt F) (scM.view.loc (c : Thread nD τ))} {α : Type} {Q : α → sProp 𝕄}
    {offR : Fin 2 → ℕ} (hR : ∀ a, offR a + S1x4608.size a ≤ S16x4608.size a) (eR : offR = ![r.val, 0]) {hl}
    {K : Vec F S1x4608 .i32 → Prog (TpuEff nD τ sig (Elt F) Λ₀ .tc) α} :
    (scM.view.loc (c : Thread nD τ) ↦[(row r).view.set]{fullShare} f)
      ⊢ iprop(((scM.view.loc (c : Thread nD τ) ↦[(row r).view.set]{fullShare} f) -∗
          wp frame (wpE (defs₀ (F := F)) Variants.none (c : Thread nD τ) none) Set.univ (K ((row r).view.read (Elt F) f)) Q)
      -∗ wp frame (wpE (defs₀ (F := F)) Variants.none (c : Thread nD τ) none) Set.univ
        (Prog.lift (.load scM (Rect.unit (s := S16x4608) offR S1x4608.size hR).toLoadRect hl) >>= K) Q) := by
  subst eR
  exact Steps.load Variants.none (c : Thread nD τ) none (Finset.Subset.refl _)

/-! ## Reading the tables -/

/-- The word of a table at position `p` (zero past its end). -/
def wordAt (f : S12800.Idx → BitVec 32) (p : ℕ) : BitVec 32 := if h : p < 12800 then f (.ofFin ⟨p, h⟩) else 0#32

/-- Reading one entry of a table gives that entry. -/
theorem tab_read {m : Memref sig .tc .smem S12800 .i32} (f : Buf (Elt F) (m.view.loc (c : Thread nD τ))) {off : Fin 1 → ℕ} {p : ℕ}
    (h : ∀ a, off a + S1.size a ≤ S12800.size a) (e : off = ![p]) (x : S1.Idx) :
    (m.access (Rect.unit (s := S12800) off S1.size h)).read (Elt F) f x = wordAt (m.view.read (Elt F) f) p := by
  subst e
  have hp : p < 12800 := by have h0 : p + 1 ≤ 12800 := h 0; omega
  unfold wordAt
  rw [dif_pos hp]
  show m.view.read (Elt F) f _ = m.view.read (Elt F) f _
  congr 1
  funext a
  match a with
  | 0 =>
    apply Fin.ext
    have hx : (x 0).val = 0 := by have := (x 0).isLt; show (x 0).val = 0; have h1 : S1.size 0 = 1 := rfl; omega
    show p + 1 * (x 0).val = p
    omega

section
variable (i : grid0.Coords) (arg5 : Memref sig .tc .vmem S512x1024 .fp8e5m2) (harg5 : arg5.IsWhole) (arg6 : Memref sig .tc .vmem S8x512 .f32) (harg6 : arg6.IsWhole)
  (arg7 : Memref sig .tc .vmem S512x4608 .fp8e4m3) (harg7 : arg7.IsWhole) (arg8 : Memref sig .tc .vmem S512x128 .bf16) (harg8 : arg8.IsWhole)
  (arg10 : Memref sig .tc .vmem S1024x4608 .f32) (harg10 : arg10.IsWhole)
  (h2 : k0_cond2 i = 1#1) (v w : BitVec 32) (hw1 : k0_chk1 i v w)
  (q : PosShare TreeShare) (tk : S12800.Idx → BitVec 32) (id : S12800.Idx → BitVec 32)

/-- The row additions, one position after the other: `Acc p g` before position `p` gives it before the next with the
    row pair of the position's token added into the row the position's number names. -/
def Adds (Acc : ℕ → Buf (Elt F) (arg10.view.loc (c : Thread nD τ)) → Prop) : Prop :=
  ∀ p, v.toNat ≤ p → p < w.toNat → ∀ (h5 : k0_chk5 i (wordAt id p)) (pr : Vec F S1x4608 .i32) (g : Buf (Elt F) (arg10.view.loc (c : Thread nD τ))),
    Pair (F := F) c fH (wordAt tk p) pr → Acc p g →
    Acc (p + 1) ((arg10.access (Rect.unit (s := S1024x4608) (k0_off17 i (wordAt id p)) S1x4608.size (k0_off17_inb i _ h5 h2))).write (Elt F) g
      (k0_pay8 (wordAt tk p) pr ((arg10.access (Rect.unit (s := S1024x4608) (k0_off17 i (wordAt id p)) S1x4608.size (k0_off17_inb i _ h5 h2))).read (Elt F) g)) Finset.univ)

/-- Before trip `k` of the starting loop: the slots below `k` busy, the others free. -/
def startInv (p0 k : ℕ) : sProp 𝕄 :=
  iprop((tkM.view.loc (c : Thread nD τ) ↦{q} (show Buf (Elt F) (tkM.view.loc (c : Thread nD τ)) from tk))
    ∗ bigSep Finset.univ (fun r : Fin 16 => if r.val < k then Busy (F := F) c fH (Landed (F := F) c fH r (wordAt tk (p0 + r.val))) r else Free (F := F) c fH r))

variable (hv : v.toNat ≤ w.toNat) (hw : w.toNat ≤ 12800)
  (htk : ∀ p, p < 12800 → (wordAt tk p).toNat < 12800)

include hv hw htk in
/-- One trip of the starting loop. -/
theorem start_step (t1 : Fin (k0_t1_loop v w).trips) (t2 : Fin (k0_t2_loop v w t1).trips) (acc : Unit) :
    startInv (F := F) c fH q tk (v.toNat + 16 * t1.val) t2.val
      ⊢ wp frame (wpE (defs₀ (F := F)) Variants.none (c : Thread nD τ) none) Set.univ
          (k0_t2_body (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1 h2 v w hw1 t1 t2 acc)
          (fun _ => startInv (F := F) c fH q tk (v.toNat + 16 * t1.val) (t2.val + 1)) := by
  have hr : t2.val < 16 := lt_sixteen hv hw (lt_rows hv hw t1 t2)
  have hp := pos_lt hv hw (lt_rows hv hw t1 t2)
  unfold startInv
  iintro ⟨Htk, Hs⟩
  ihave Hs' := (bigSep_univ_update (Ψ := fun r : Fin 16 => if r.val < t2.val + 1 then Busy (F := F) c fH (Landed (F := F) c fH r (wordAt tk (v.toNat + 16 * t1.val + r.val))) r else Free (F := F) c fH r)
    (⟨t2.val, hr⟩ : Fin 16) (fun r hne => by
      have : r.val ≠ t2.val := fun e => hne (Fin.ext e)
      by_cases h : r.val < t2.val
      · rw [if_pos h, if_pos (by omega)]
      · rw [if_neg h, if_neg (by omega)])) $$ Hs
  simp only [lt_irrefl, if_false, Nat.lt_succ_self, if_true]
  icases Hs' with ⟨Hf, Hback⟩
  unfold k0_t2_body
  iapply (Steps.smem Variants.none (c : Thread nD τ) none (m := tkM) (f := tk)) $$ Htk
  iintro Htk
  rw [tab_read (F := F) c (m := tkM) _ _ (off3 hv hw t1 t2)]
  iapply (Steps.assm Variants.none (c : Thread nD τ) none (chk2_of i _ (htk _ hp)))
  iapply (start_slot (F := F) c fH ⟨t2.val, hr⟩ (wordAt tk (v.toNat + 16 * t1.val + t2.val)) _ (off4 hv hw t1 t2) _ (off5 hv hw t1 t2) _) $$ Hf
  iintro Hb
  iapply (le_wp_ret _ _ _ _ _)
  isplitl [Htk]; · iexact Htk
  iapply Hback $$ Hb

/-- Before trip `k` of the adding loop over `n` positions from `p0`: the slots from `k` to `n` busy, the others free, and
    the output block at contents of which `Acc` holds at the position reached. -/
def addInv (Acc : ℕ → Buf (Elt F) (arg10.view.loc (c : Thread nD τ)) → Prop) (p0 n k : ℕ) : sProp 𝕄 :=
  iprop((tkM.view.loc (c : Thread nD τ) ↦{q} (show Buf (Elt F) (tkM.view.loc (c : Thread nD τ)) from tk))
    ∗ (idM.view.loc (c : Thread nD τ) ↦{q} (show Buf (Elt F) (idM.view.loc (c : Thread nD τ)) from id))
    ∗ (∃ W, owes (c : Thread nD τ) 0 W)
    ∗ (∃ g : Buf (Elt F) (arg10.view.loc (c : Thread nD τ)), ⌜Acc (p0 + k) g⌝ ∗ arg10.view.loc (c : Thread nD τ) ↦[arg10.view.set]{fullShare} g)
    ∗ bigSep Finset.univ (fun r : Fin 16 => if k ≤ r.val ∧ r.val < n then Busy (F := F) c fH (Landed (F := F) c fH r (wordAt tk (p0 + r.val))) r else Free (F := F) c fH r))

variable (hid : ∀ p, v.toNat ≤ p → p < w.toNat → (1024 * (i 0).val : Int) ≤ (wordAt id p).toInt ∧ (wordAt id p).toInt < 1024 * ((i 0).val + 1 : Int))
  {Acc : ℕ → Buf (Elt F) (arg10.view.loc (c : Thread nD τ)) → Prop} (hacc : Adds (F := F) c fH i arg10 h2 v w tk id Acc)

include hv hw htk hid hacc in
/-- One trip of the adding loop: its copy is awaited and its row added. -/
theorem add_step (t1 : Fin (k0_t1_loop v w).trips) (t4 : Fin (k0_t4_loop v w t1).trips) (acc : Unit) :
    addInv (F := F) c fH arg10 q tk id Acc (v.toNat + 16 * t1.val) (Words.rows v w t1.val) t4.val
      ⊢ wp frame (wpE (defs₀ (F := F)) Variants.none (c : Thread nD τ) none) Set.univ
          (k0_t4_body (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1 h2 v w hw1 t1 t4 acc)
          (fun _ => addInv (F := F) c fH arg10 q tk id Acc (v.toNat + 16 * t1.val) (Words.rows v w t1.val) (t4.val + 1)) := by
  have hrow := lt_rows' hv hw t1 t4
  have hr : t4.val < 16 := lt_sixteen hv hw hrow
  have hp := pos_lt hv hw hrow
  have hpw : v.toNat + 16 * t1.val + t4.val < w.toNat := Words.pos_lt hv hw (lt_groups hv hw t1) hrow
  have hI := hid (v.toNat + 16 * t1.val + t4.val) (by omega) hpw
  have h5 := chk5_of i _ hI.1 hI.2
  unfold addInv
  iintro ⟨Htk, Hid, ⟨%W, HO⟩, ⟨%g, %hg, Hout⟩, Hs⟩
  ihave Hs' := (bigSep_univ_update (Ψ := fun r : Fin 16 => if t4.val + 1 ≤ r.val ∧ r.val < Words.rows v w t1.val then Busy (F := F) c fH (Landed (F := F) c fH r (wordAt tk (v.toNat + 16 * t1.val + r.val))) r else Free (F := F) c fH r)
    (⟨t4.val, hr⟩ : Fin 16) (fun r hne => by
      have : r.val ≠ t4.val := fun e => hne (Fin.ext e)
      by_cases h : t4.val ≤ r.val ∧ r.val < Words.rows v w t1.val
      · rw [if_pos h, if_pos (by omega)]
      · rw [if_neg h, if_neg (by omega)])) $$ Hs
  rw [if_pos (show t4.val ≤ (⟨t4.val, hr⟩ : Fin 16).val ∧ (⟨t4.val, hr⟩ : Fin 16).val < Words.rows v w t1.val from ⟨le_rfl, hrow⟩),
    if_neg (show ¬(t4.val + 1 ≤ (⟨t4.val, hr⟩ : Fin 16).val ∧ (⟨t4.val, hr⟩ : Fin 16).val < Words.rows v w t1.val) from by simp)]
  icases Hs' with ⟨Hb, Hback⟩
  unfold k0_t4_body
  iapply (Steps.smem Variants.none (c : Thread nD τ) none (m := tkM) (f := tk)) $$ Htk
  iintro Htk
  rw [tab_read (F := F) c (m := tkM) _ _ (off11 hv hw t1 t4)]
  iapply (Steps.assm Variants.none (c : Thread nD τ) none (chk4_of i _ (htk _ hp)))
  iapply (wait_slot (F := F) c fH ⟨t4.val, hr⟩ _ _ (off12 hv hw t1 t4) _) $$ [Hb HO]
  · isplitl [Hb]; · iexact Hb
    iexact HO
  iintro ⟨⟨%f, %hf, Hrow⟩, Hsem, Htok, HO⟩
  iapply (Steps.smem Variants.none (c : Thread nD τ) none (m := tkM) (f := tk)) $$ Htk
  iintro Htk
  rw [tab_read (F := F) c (m := tkM) _ _ (off15 hv hw t1 t4)]
  iapply (load_slot (F := F) c ⟨t4.val, hr⟩ _ (off16 hv hw t1 t4)) $$ Hrow
  iintro Hrow
  iapply (Steps.smem Variants.none (c : Thread nD τ) none (m := idM) (f := id)) $$ Hid
  iintro Hid
  rw [tab_read (F := F) c (m := idM) _ _ (off15 hv hw t1 t4)]
  iapply (Steps.assm Variants.none (c : Thread nD τ) none h5)
  iapply (Steps.load Variants.none (c : Thread nD τ) none (m := arg10) (View.set_slice_subset _ _)) $$ Hout
  iintro Hout
  iapply (Steps.load Variants.none (c : Thread nD τ) none (m := arg10) (View.set_slice_subset _ _)) $$ Hout
  iintro Hout
  iapply (Steps.store Variants.none (c : Thread nD τ) none (m := arg10) (View.set_slice_subset _ _)) $$ Hout
  iintro Hout
  iapply (le_wp_ret _ _ _ _ _)
  isplitl [Htk]; · iexact Htk
  isplitl [Hid]; · iexact Hid
  isplitl [HO]; · iexists _; iexact HO
  isplitl [Hout]
  · iexists _
    isplitr
    swap
    · iexact Hout
    · ipureintro
      exact hacc _ (by omega) hpw h5 _ _ hf hg
  iapply Hback
  unfold Free
  isplitl [Hrow]; · iexists _; iexact Hrow
  isplitl [Hsem]; · iexact Hsem
  iexact Htok

/-- Before group `k`: every slot free, the output block at contents of which `Acc` holds at the group's first position. -/
def groupInv (Acc : ℕ → Buf (Elt F) (arg10.view.loc (c : Thread nD τ)) → Prop) (p : ℕ) : sProp 𝕄 :=
  iprop((tkM.view.loc (c : Thread nD τ) ↦{q} (show Buf (Elt F) (tkM.view.loc (c : Thread nD τ)) from tk))
    ∗ (idM.view.loc (c : Thread nD τ) ↦{q} (show Buf (Elt F) (idM.view.loc (c : Thread nD τ)) from id))
    ∗ (∃ W, owes (c : Thread nD τ) 0 W)
    ∗ (∃ g : Buf (Elt F) (arg10.view.loc (c : Thread nD τ)), ⌜Acc p g⌝ ∗ arg10.view.loc (c : Thread nD τ) ↦[arg10.view.set]{fullShare} g)
    ∗ bigSep Finset.univ (fun r : Fin 16 => Free (F := F) c fH r))

include hv hw htk hid hacc in
/-- One group: its copies are started, then awaited and added. -/
theorem group_step (t1 : Fin (k0_t1_loop v w).trips) (acc : Unit) :
    groupInv (F := F) c fH arg10 q tk id Acc (min (v.toNat + 16 * t1.val) w.toNat)
      ⊢ wp frame (wpE (defs₀ (F := F)) Variants.none (c : Thread nD τ) none) Set.univ
          (k0_t1_body (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1 h2 v w hw1 t1 acc)
          (fun _ => groupInv (F := F) c fH arg10 q tk id Acc (min (v.toNat + 16 * (t1.val + 1)) w.toNat)) := by
  have hb := Words.base_lt hv hw (lt_groups hv hw t1)
  have hT2 := Words.trips2 hv hw (lt_groups hv hw t1)
  rw [show min (v.toNat + 16 * t1.val) w.toNat = v.toNat + 16 * t1.val from min_eq_left (by omega),
    show min (v.toNat + 16 * (t1.val + 1)) w.toNat = v.toNat + 16 * t1.val + Words.rows v w t1.val from by unfold Words.rows; omega]
  unfold groupInv k0_t1_body
  iintro ⟨Htk, Hid, HO, Hout, Hs⟩
  sl_for (fun k (_ : Unit) => startInv (F := F) c fH q tk (v.toNat + 16 * t1.val) k) $$ [Htk Hs]
  · exact fun t2 acc => start_step (F := F) c fH i arg5 harg5 arg6 harg6 arg7 harg7 arg8 harg8 arg10 harg10 h2 v w hw1 q tk hv hw htk t1 t2 acc
  · unfold startInv
    isplitl [Htk]; · iexact Htk
    simp only [Nat.not_lt_zero, if_false]
    iexact Hs
  iintro %_ HI
  rw [show Scf.trips (k0_t2_loop v w t1).lb (k0_t2_loop v w t1).ub (k0_t2_loop v w t1).st = Words.rows v w t1.val from hT2]
  unfold startInv
  icases HI with ⟨Htk, Hs⟩
  sl_exec
  sl_for (fun k (_ : Unit) => addInv (F := F) c fH arg10 q tk id Acc (v.toNat + 16 * t1.val) (Words.rows v w t1.val) k) $$ [Htk Hid HO Hout Hs]
  · exact fun t4 acc => add_step (F := F) c fH i arg5 harg5 arg6 harg6 arg7 harg7 arg8 harg8 arg10 harg10 h2 v w hw1 q tk id hv hw htk hid hacc t1 t4 acc
  · unfold addInv
    isplitl [Htk]; · iexact Htk
    isplitl [Hid]; · iexact Hid
    isplitl [HO]; · iexact HO
    isplitl [Hout]; · iexact Hout
    simp only [Nat.zero_le, true_and]
    iexact Hs
  iintro %_ HI
  rw [show Scf.trips (k0_t4_loop v w t1).lb (k0_t4_loop v w t1).ub (k0_t4_loop v w t1).st = Words.rows v w t1.val from hT2]
  unfold addInv
  icases HI with ⟨Htk, Hid, HO, Hout, Hs⟩
  sl_exec
  iapply (le_wp_ret _ _ _ _ _)
  isplitl [Htk]; · iexact Htk
  isplitl [Hid]; · iexact Hid
  isplitl [HO]; · iexact HO
  isplitl [Hout]; · iexact Hout
  have e : ∀ r : Fin 16, ¬(Words.rows v w t1.val ≤ r.val ∧ r.val < Words.rows v w t1.val) := fun r h => by omega
  simp only [e, if_false]
  iexact Hs

end

end Cert.Kernel.Hand

end
-- ==== Proof.KernelBody.lean ====
/- The kernel's body of `Kernel` at one grid point: the tile's block product added into the output block, and at the
   last reduction step the additions of the tile's rows. -/
module

public import proofs.«01_k».proof.Proof.Gen.Kernel.Skeleton
public import proofs.«01_k».proof.Proof.KernelScatter

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (Pipeline.UD sig nD τ) ℕ

/-- The second operand of the block product: the codes times the rows' scales, by blocks of 128 columns. -/
def kHH (v44 : FVec F S512x128 .bf16) (v46 : FVec F S512x4608 .fp8e4m3) : FVec F S512x4608 .bf16 :=
  concatenate S512x4608 1 (⟨S512x128, k0_pay17 v44 v46⟩ :: ⟨S512x128, k0_pay18 v44 v46⟩ :: ⟨S512x128, k0_pay19 v44 v46⟩ :: ⟨S512x128, k0_pay20 v44 v46⟩ :: ⟨S512x128, k0_pay21 v44 v46⟩ :: ⟨S512x128, k0_pay22 v44 v46⟩ :: ⟨S512x128, k0_pay23 v44 v46⟩ :: ⟨S512x128, k0_pay24 v44 v46⟩ :: ⟨S512x128, k0_pay25 v44 v46⟩ :: ⟨S512x128, k0_pay26 v44 v46⟩ :: ⟨S512x128, k0_pay27 v44 v46⟩ :: ⟨S512x128, k0_pay28 v44 v46⟩ :: ⟨S512x128, k0_pay29 v44 v46⟩ :: ⟨S512x128, k0_pay30 v44 v46⟩ :: ⟨S512x128, k0_pay31 v44 v46⟩ :: ⟨S512x128, k0_pay32 v44 v46⟩ :: ⟨S512x128, k0_pay33 v44 v46⟩ :: ⟨S512x128, k0_pay34 v44 v46⟩ :: ⟨S512x128, k0_pay35 v44 v46⟩ :: ⟨S512x128, k0_pay36 v44 v46⟩ :: ⟨S512x128, k0_pay37 v44 v46⟩ :: ⟨S512x128, k0_pay38 v44 v46⟩ :: ⟨S512x128, k0_pay39 v44 v46⟩ :: ⟨S512x128, k0_pay40 v44 v46⟩ :: ⟨S512x128, k0_pay41 v44 v46⟩ :: ⟨S512x128, k0_pay42 v44 v46⟩ :: ⟨S512x128, k0_pay43 v44 v46⟩ :: ⟨S512x128, k0_pay44 v44 v46⟩ :: ⟨S512x128, k0_pay45 v44 v46⟩ :: ⟨S512x128, mulf (k0_pay46 v46) v44⟩ :: ⟨S512x128, k0_pay1 v44 (k0_pay16 v46)⟩ :: ⟨S512x128, k0_pay2 v44 (k0_pay16 v46)⟩ :: ⟨S512x128, k0_pay3 v44 (k0_pay16 v46)⟩ :: ⟨S512x128, k0_pay4 v44 (k0_pay16 v46)⟩ :: ⟨S512x128, k0_pay5 v44 (k0_pay16 v46)⟩ :: ⟨S512x128, k0_pay6 v44 (k0_pay16 v46)⟩ :: [])
    concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4608_d1

/-- The first reduction step of a tile. -/
abbrev first (i : grid0.Coords) : Prop := Scalar.cmpi .ne (Scalar.extui (Scalar.cmpi .eq (BitVec.ofNat 32 (i 1).val) 0#32) : BitVec 32) 0#32 = 1#1

/-- Reading one entry of the tile boundaries gives that entry. -/
theorem tab_read31 (c : Dev nD) (f : Buf (Elt F) (stM.view.loc (c : Thread nD τ))) {off : Fin 1 → ℕ} (p : Fin 31)
    (h : ∀ a, off a + S1.size a ≤ S31.size a) (e : off = ![p.val]) (x : S1.Idx) :
    (stM.access (Rect.unit (s := S31) off S1.size h)).read (Elt F) f x = (f : S31.Idx → BitVec 32) (.ofFin p) := by
  subst e
  show (f : S31.Idx → BitVec 32) _ = (f : S31.Idx → BitVec 32) _
  congr 1
  funext a
  match a with
  | 0 =>
    apply Fin.ext
    have hx : (x 0).val = 0 := by have := (x 0).isLt; show (x 0).val = 0; have h1 : S1.size 0 = 1 := rfl; omega
    show p.val + 1 * (x 0).val = p.val
    omega

/-- The first boundary a tile reads is its own number. -/
theorem off1_eq (i : grid0.Coords) : k0_off1 i = ![(i 0).val] := by
  have h : (i 0).val < 30 := (i 0).isLt
  show ![(BitVec.ofNat 32 (i 0).val).toNat] = _
  rw [BitVec.toNat_ofNat, Nat.mod_eq_of_lt (by omega)]

/-- The second boundary a tile reads is its number plus one. -/
theorem off2_eq (i : grid0.Coords) : k0_off2 i = ![(i 0).val + 1] := by
  have h : (i 0).val < 30 := (i 0).isLt
  show ![(Scalar.addi (BitVec.ofNat 32 (i 0).val) 1#32).toNat] = _
  rw [show (Scalar.addi (BitVec.ofNat 32 (i 0).val) 1#32).toNat = (i 0).val + 1 from
    Words.toNat_of_isInt (Affine.addi (e := (((i 0).val + 1 : ℕ) : Int)) (Affine.ofNat (e := ((i 0).val : Int)) (i 0).val ⟨rfl, by omega⟩) (Affine.ofNat 1 ⟨rfl, by decide⟩) (by omega)) (by omega)]

variable (c : Dev nD) (fH : Buf (Elt F) (hbM.view.loc (c : Thread nD τ)))

section
variable (i : grid0.Coords) (arg5 : Memref sig .tc .vmem S512x1024 .fp8e5m2) (harg5 : arg5.IsWhole) (arg6 : Memref sig .tc .vmem S8x512 .f32) (harg6 : arg6.IsWhole)
  (arg7 : Memref sig .tc .vmem S512x4608 .fp8e4m3) (harg7 : arg7.IsWhole) (arg8 : Memref sig .tc .vmem S512x128 .bf16) (harg8 : arg8.IsWhole)
  (arg10 : Memref sig .tc .vmem S1024x4608 .f32) (harg10 : arg10.IsWhole)
  (q : PosShare TreeShare) (st : S31.Idx → BitVec 32) (tk : S12800.Idx → BitVec 32) (id : S12800.Idx → BitVec 32)
  (b5 : Buf (Elt F) (arg5.view.loc (c : Thread nD τ))) (b6 : Buf (Elt F) (arg6.view.loc (c : Thread nD τ)))
  (b7 : Buf (Elt F) (arg7.view.loc (c : Thread nD τ))) (b8 : Buf (Elt F) (arg8.view.loc (c : Thread nD τ)))

/-- The output block's rectangle, the whole block. -/
abbrev RO : Rect S1024x4608 := Rect.unit (s := S1024x4608) ![0, 0] S1024x4608.size inb_S1024x4608_S1024x4608_0_0

/-- The output block with the step's block product added. -/
def prod (g : Buf (Elt F) (arg10.view.loc (c : Thread nD τ))) : Buf (Elt F) (arg10.view.loc (c : Thread nD τ)) :=
  (arg10.access RO).write (Elt F) g
    (k0_pay7 (k0_pay13 ((arg5.access (Rect.unit (s := S512x1024) ![0, 0] S512x1024.size inb_S512x1024_S512x1024_0_0)).read (Elt F) b5)
          ((arg6.access (Rect.unit (s := S8x512) ![0, 0] S8x512.size inb_S8x512_S8x512_0_0)).read (Elt F) b6))
        (kHH (k0_pay14 ((arg8.access (Rect.unit (s := S512x128) ![0, 0] S512x128.size inb_S512x128_S512x128_0_0)).read (Elt F) b8))
          (k0_pay15 ((arg7.access (Rect.unit (s := S512x4608) ![0, 0] S512x4608.size inb_S512x4608_S512x4608_0_0)).read (Elt F) b7)))
        ((arg10.access RO).read (Elt F) g)) Finset.univ

/-- The output block as a step finds it, zeroed at a tile's first step. -/
def start0 (g : Buf (Elt F) (arg10.view.loc (c : Thread nD τ))) : Buf (Elt F) (arg10.view.loc (c : Thread nD τ)) :=
  open Classical in if first i then (arg10.access RO).write (Elt F) g k0_pay12 Finset.univ else g

/-- The input blocks at a step. -/
def Ins : sProp 𝕄 :=
  iprop((arg5.view.loc (c : Thread nD τ) ↦[arg5.view.set]{fullShare} b5) ∗ (arg6.view.loc (c : Thread nD τ) ↦[arg6.view.set]{fullShare} b6)
      ∗ (arg7.view.loc (c : Thread nD τ) ↦[arg7.view.set]{fullShare} b7) ∗ (arg8.view.loc (c : Thread nD τ) ↦[arg8.view.set]{fullShare} b8))

/-- What a step holds beside its windows: the tables, the core's owed waits, the sixteen slots. -/
def Rest : sProp 𝕄 :=
  iprop((stM.view.loc (c : Thread nD τ) ↦{q} (show Buf (Elt F) (stM.view.loc (c : Thread nD τ)) from st))
    ∗ (tkM.view.loc (c : Thread nD τ) ↦{q} (show Buf (Elt F) (tkM.view.loc (c : Thread nD τ)) from tk))
    ∗ (idM.view.loc (c : Thread nD τ) ↦{q} (show Buf (Elt F) (idM.view.loc (c : Thread nD τ)) from id))
    ∗ (∃ W, owes (c : Thread nD τ) 0 W)
    ∗ bigSep Finset.univ (fun r : Fin 16 => Free (F := F) c fH r))

/-- The tile's first position and the next tile's. -/
abbrev lo : BitVec 32 := st (.ofFin ⟨(i 0).val, lt_trans (show (i 0).val < 30 from (i 0).isLt) (by decide)⟩)
abbrev hi : BitVec 32 := st (.ofFin ⟨(i 0).val + 1, Nat.succ_lt_succ (show (i 0).val < 30 from (i 0).isLt)⟩)

/-- The block products' operands of a step, as the body's first part returns them. -/
def parts : Σ' (_ : BitVec 32) (_ : BitVec 32) (_ : FVec F S1024x512 .bf16) (_ : FVec F S512x128 .bf16), FVec F S512x4608 .fp8e4m3 :=
  ⟨BitVec.ofNat 32 (i 0).val, BitVec.ofNat 32 (i 1).val,
    k0_pay13 ((arg5.access (Rect.unit (s := S512x1024) ![0, 0] S512x1024.size inb_S512x1024_S512x1024_0_0)).read (Elt F) b5)
      ((arg6.access (Rect.unit (s := S8x512) ![0, 0] S8x512.size inb_S8x512_S8x512_0_0)).read (Elt F) b6),
    k0_pay14 ((arg8.access (Rect.unit (s := S512x128) ![0, 0] S512x128.size inb_S512x128_S512x128_0_0)).read (Elt F) b8),
    k0_pay15 ((arg7.access (Rect.unit (s := S512x4608) ![0, 0] S512x4608.size inb_S512x4608_S512x4608_0_0)).read (Elt F) b7)⟩

/-- The body's first part: the output block zeroed at a tile's first step, the input blocks read. -/
theorem part1 (g : Buf (Elt F) (arg10.view.loc (c : Thread nD τ))) :
    iprop(Ins (F := F) c arg5 arg6 arg7 arg8 b5 b6 b7 b8 ∗ (arg10.view.loc (c : Thread nD τ) ↦[arg10.view.set]{fullShare} g))
    ⊢ wp frame (wpE (defs₀ (F := F)) Variants.none (c : Thread nD τ) none) Set.univ
        (k0_part1 (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1)
        (fun x => iprop(⌜x = parts c i arg5 arg6 arg7 arg8 b5 b6 b7 b8⌝ ∗ Ins (F := F) c arg5 arg6 arg7 arg8 b5 b6 b7 b8
          ∗ arg10.view.loc (c : Thread nD τ) ↦[arg10.view.set]{fullShare} (start0 c i arg10 g))) := by
  rw [k0_part1_eq_skeleton]
  unfold k0_part1_skel
  by_cases h1 : first i
  · refine BIBase.Entails.trans ?_ (Steps.pos Variants.none (c : Thread nD τ) none h1)
    have e : start0 c i arg10 g = (arg10.access RO).write (Elt F) g k0_pay12 Finset.univ := if_pos h1
    unfold Ins
    iintro ⟨⟨H5, H6, H7, H8⟩, Hout⟩
    iapply (Steps.load Variants.none (c : Thread nD τ) none (m := arg10) (View.set_slice_subset _ _)) $$ Hout
    iintro Hout
    iapply (Steps.store Variants.none (c : Thread nD τ) none (m := arg10) (View.set_slice_subset _ _)) $$ Hout
    iintro Hout
    iapply (Steps.load Variants.none (c : Thread nD τ) none (m := arg5) (View.set_slice_subset _ _)) $$ H5
    iintro H5
    iapply (Steps.load Variants.none (c : Thread nD τ) none (m := arg6) (View.set_slice_subset _ _)) $$ H6
    iintro H6
    iapply (Steps.load Variants.none (c : Thread nD τ) none (m := arg8) (View.set_slice_subset _ _)) $$ H8
    iintro H8
    iapply (Steps.load Variants.none (c : Thread nD τ) none (m := arg7) (View.set_slice_subset _ _)) $$ H7
    iintro H7
    iapply (le_wp_ret _ _ _ _ _)
    isplitr; · ipureintro; rfl
    isplitl [H5 H6 H7 H8]
    · isplitl [H5]; · iexact H5
      isplitl [H6]; · iexact H6
      isplitl [H7]; · iexact H7
      iexact H8
    rw [e]; iexact Hout
  · refine BIBase.Entails.trans ?_ (Steps.neg Variants.none (c : Thread nD τ) none h1)
    have e : start0 c i arg10 g = g := if_neg h1
    unfold Ins
    iintro ⟨⟨H5, H6, H7, H8⟩, Hout⟩
    iapply (Steps.load Variants.none (c : Thread nD τ) none (m := arg5) (View.set_slice_subset _ _)) $$ H5
    iintro H5
    iapply (Steps.load Variants.none (c : Thread nD τ) none (m := arg6) (View.set_slice_subset _ _)) $$ H6
    iintro H6
    iapply (Steps.load Variants.none (c : Thread nD τ) none (m := arg8) (View.set_slice_subset _ _)) $$ H8
    iintro H8
    iapply (Steps.load Variants.none (c : Thread nD τ) none (m := arg7) (View.set_slice_subset _ _)) $$ H7
    iintro H7
    iapply (le_wp_ret _ _ _ _ _)
    isplitr; · ipureintro; rfl
    isplitl [H5 H6 H7 H8]
    · isplitl [H5]; · iexact H5
      isplitl [H6]; · iexact H6
      isplitl [H7]; · iexact H7
      iexact H8
    rw [e]; iexact Hout

/-- One grid point of the kernel. -/
theorem body (g : Buf (Elt F) (arg10.view.loc (c : Thread nD τ))) (Post : Buf (Elt F) (arg10.view.loc (c : Thread nD τ)) → Prop)
    (hv : (lo i st).toNat ≤ (hi i st).toNat) (hw : (hi i st).toNat ≤ 12800) (htk : ∀ p, p < 12800 → (wordAt tk p).toNat < 12800)
    (hid : ∀ p, (lo i st).toNat ≤ p → p < (hi i st).toNat → (1024 * (i 0).val : Int) ≤ (wordAt id p).toInt ∧ (wordAt id p).toInt < 1024 * ((i 0).val + 1 : Int))
    (hP0 : ¬ k0_cond2 i = 1#1 → Post (prod c arg5 arg6 arg7 arg8 arg10 b5 b6 b7 b8 (start0 c i arg10 g)))
    (hP1 : ∀ h2 : k0_cond2 i = 1#1, ∃ Acc : ℕ → Buf (Elt F) (arg10.view.loc (c : Thread nD τ)) → Prop,
      Adds (F := F) c fH i arg10 h2 (lo i st) (hi i st) tk id Acc
        ∧ Acc (lo i st).toNat (prod c arg5 arg6 arg7 arg8 arg10 b5 b6 b7 b8 (start0 c i arg10 g)) ∧ ∀ g', Acc (hi i st).toNat g' → Post g') :
    iprop(Ins (F := F) c arg5 arg6 arg7 arg8 b5 b6 b7 b8 ∗ (arg10.view.loc (c : Thread nD τ) ↦[arg10.view.set]{fullShare} g) ∗ Rest (F := F) c fH q st tk id)
    ⊢ wp frame (wpE (defs₀ (F := F)) Variants.none (c : Thread nD τ) none) Set.univ
        (cc0_tied_grad (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1)
        (fun _ => iprop(Ins (F := F) c arg5 arg6 arg7 arg8 b5 b6 b7 b8
          ∗ (∃ g' : Buf (Elt F) (arg10.view.loc (c : Thread nD τ)), ⌜Post g'⌝ ∗ arg10.view.loc (c : Thread nD τ) ↦[arg10.view.set]{fullShare} g')
          ∗ Rest (F := F) c fH q st tk id)) := by
  generalize hMM : prod c arg5 arg6 arg7 arg8 arg10 b5 b6 b7 b8 (start0 c i arg10 g) = MM at hP0 hP1
  have finish : iprop(Ins (F := F) c arg5 arg6 arg7 arg8 b5 b6 b7 b8 ∗ (arg10.view.loc (c : Thread nD τ) ↦[arg10.view.set]{fullShare} MM) ∗ Rest (F := F) c fH q st tk id)
      ⊢ wp frame (wpE (defs₀ (F := F)) Variants.none (c : Thread nD τ) none) Set.univ
        (if h : k0_cond2 i = 1#1 then do
            let v130 ← smemLoad stM (Rect.unit (s := S31) (k0_off1 i) S1.size (k0_off1_inb i h)) numel1_S1 rfl
            let v133 ← smemLoad stM (Rect.unit (s := S31) (k0_off2 i) S1.size (k0_off2_inb i h)) numel1_S1 rfl
            let a ← Prog.lift (TpuEff.assume (k0_chk1 i v130 v133) (k0_chk1.dec i v130 v133))
            Scf.Loop.for (k0_t1_loop v130 v133) (k0_t1_ok i v130 v133 a.down h) (PUnit.unit : PUnit) (k0_t1_body (F := F) i stM (Memref.isWhole_whole _) idM (Memref.isWhole_whole _) tkM (Memref.isWhole_whole _) arg5 harg5 arg6 harg6 arg7 harg7 arg8 harg8
              hbM (Memref.isWhole_whole _) arg10 harg10 scM (Memref.isWhole_whole _) cc0_scratch1 h v130 v133 a.down)
            Scf.Loop.for (k0_t6_loop v130 v133) (k0_t6_ok i v130 v133 a.down h) (PUnit.unit : PUnit) (k0_t6_body (F := F) i stM (Memref.isWhole_whole _) idM (Memref.isWhole_whole _) tkM (Memref.isWhole_whole _) arg5 harg5 arg6 harg6 arg7 harg7 arg8 harg8
              hbM (Memref.isWhole_whole _) arg10 harg10 scM (Memref.isWhole_whole _) cc0_scratch1 h v130 v133 a.down)
            pure (PUnit.unit : PUnit)
          else pure (PUnit.unit : PUnit))
        (fun _ => iprop(Ins (F := F) c arg5 arg6 arg7 arg8 b5 b6 b7 b8
          ∗ (∃ g' : Buf (Elt F) (arg10.view.loc (c : Thread nD τ)), ⌜Post g'⌝ ∗ arg10.view.loc (c : Thread nD τ) ↦[arg10.view.set]{fullShare} g')
          ∗ Rest (F := F) c fH q st tk id)) := by
    by_cases h2 : k0_cond2 i = 1#1
    · rw [dif_pos h2]
      obtain ⟨Acc, hA, hA0, hA1⟩ := hP1 h2
      unfold Rest
      iintro ⟨HI, Hout, Hst, Htk, Hid, HO, Hs⟩
      iapply (Steps.smem Variants.none (c : Thread nD τ) none (m := stM) (f := st)) $$ Hst
      iintro Hst
      rw [tab_read31 (F := F) c _ ⟨(i 0).val, lt_trans (show (i 0).val < 30 from (i 0).isLt) (by decide)⟩ _ (off1_eq i)]
      iapply (Steps.smem Variants.none (c : Thread nD τ) none (m := stM) (f := st)) $$ Hst
      iintro Hst
      rw [tab_read31 (F := F) c _ ⟨(i 0).val + 1, Nat.succ_lt_succ (show (i 0).val < 30 from (i 0).isLt)⟩ _ (off2_eq i)]
      iapply (Steps.assm Variants.none (c : Thread nD τ) none (chk1_of hv hw i))
      sl_for (fun k (_ : Unit) => groupInv (F := F) c fH arg10 q tk id Acc (min ((lo i st).toNat + 16 * k) (hi i st).toNat)) $$ [Htk Hid HO Hout Hs]
      · exact fun t1 acc => group_step (F := F) c fH i arg5 harg5 arg6 harg6 arg7 harg7 arg8 harg8 arg10 harg10 h2 (lo i st) (hi i st) (chk1_of hv hw i) q tk id hv hw htk hid hA t1 acc
      · unfold groupInv
        isplitl [Htk]; · iexact Htk
        isplitl [Hid]; · iexact Hid
        isplitl [HO]; · iexact HO
        isplitl [Hout]
        · iexists MM
          isplitr
          · ipureintro
            rw [Nat.mul_zero, Nat.add_zero, min_eq_left hv]; exact hA0
          · iexact Hout
        · iexact Hs
      iintro %_ HI2
      rw [show min ((lo i st).toNat + 16 * Scf.trips (k0_t1_loop (lo i st) (hi i st)).lb (k0_t1_loop (lo i st) (hi i st)).ub (k0_t1_loop (lo i st) (hi i st)).st) (hi i st).toNat = (hi i st).toNat from by
        rw [show Scf.trips (k0_t1_loop (lo i st) (hi i st)).lb (k0_t1_loop (lo i st) (hi i st)).ub (k0_t1_loop (lo i st) (hi i st)).st = Words.groups (lo i st) (hi i st) from Words.trips1 hv hw]
        unfold Words.groups; omega]
      unfold groupInv
      icases HI2 with ⟨Htk, Hid, HO, ⟨%g', %hg', Hout⟩, Hs⟩
      sl_exec
      iapply (le_wp_ret _ _ _ _ _)
      isplitl [HI]; · iexact HI
      isplitl [Hout]
      · iexists g'
        isplitr
        · ipureintro; exact hA1 _ hg'
        · iexact Hout
      isplitl [Hst]; · iexact Hst
      isplitl [Htk]; · iexact Htk
      isplitl [Hid]; · iexact Hid
      isplitl [HO]; · iexact HO
      iexact Hs
    · rw [dif_neg h2]
      iintro ⟨HI, Hout, HR⟩
      iapply (le_wp_ret _ _ _ _ _)
      isplitl [HI]; · iexact HI
      isplitl [Hout]
      · iexists MM
        isplitr
        · ipureintro; exact hP0 h2
        · iexact Hout
      iexact HR
  rw [cc0_tied_grad_eq_skeleton]
  unfold cc0_tied_grad_skel
  rw [wp_bind]
  refine BIBase.Entails.trans ?_ (Idealize.SL.Sem.wp_mono _ _ _ (Q := fun x => iprop((⌜x = parts c i arg5 arg6 arg7 arg8 b5 b6 b7 b8⌝ ∗ Ins (F := F) c arg5 arg6 arg7 arg8 b5 b6 b7 b8
          ∗ arg10.view.loc (c : Thread nD τ) ↦[arg10.view.set]{fullShare} (start0 c i arg10 g)) ∗ Rest (F := F) c fH q st tk id)) fun x => ?_)
  · iintro ⟨HI, Hout, HR⟩
    iapply (wp_frame_r _ _ _)
    isplitr [HR]
    · iapply (part1 (F := F) c i arg5 harg5 arg6 harg6 arg7 harg7 arg8 harg8 arg10 harg10 b5 b6 b7 b8 g)
      isplitl [HI]; · iexact HI
      iexact Hout
    · iexact HR
  iintro ⟨⟨%hx, HI, Hout⟩, HR⟩
  subst hx
  unfold parts
  rw [k0_part2_eq_skeleton]
  unfold k0_part2_skel
  iapply (Steps.load Variants.none (c : Thread nD τ) none (m := arg10) (View.set_slice_subset _ _)) $$ Hout
  iintro Hout
  iapply (Steps.load Variants.none (c : Thread nD τ) none (m := arg10) (View.set_slice_subset _ _)) $$ Hout
  iintro Hout
  iapply (Steps.store Variants.none (c : Thread nD τ) none (m := arg10) (View.set_slice_subset _ _)) $$ Hout
  iintro Hout
  iapply finish
  isplitl [HI]; · iexact HI
  isplitl [Hout]
  · rw [← hMM]; iexact Hout
  iexact HR

end

end Cert.Kernel.Hand

end
-- ==== Proof.KernelFrame.lean ====
/- The launch of `Kernel`: what the pipeline hands the kernel's body dealt into sixteen slots and taken back, the proof
   data, the run, and the frame claim. -/
module

public import proofs.«01_k».proof.Proof.KernelBody
public import Idealize.ShloMosaic.Lib.Pipeline.FrameBody
public import Idealize.ShloMosaic.Lib.Claim
public import Idealize.ShloMosaic.Lib.IndicatorCount
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [BitOps F]

local notation "𝕄" => MT nD τ sig Unit (Elt F) ℕ (Pipeline.UD sig nD τ) ℕ

/-! ## The sixteen slots -/

section Slots
variable (c : Dev nD) (fH : Buf (Elt F) (hbM.view.loc (c : Thread nD τ)))

/-- The elements of the scratch buffer in its row `r`. -/
abbrev rowSet (r : Fin 16) : Finset (Idx (scM.view.loc (c : Thread nD τ))) := (row r).view.set

/-- Different rows of the scratch buffer do not overlap. -/
theorem rowSet_disj (r r' : Fin 16) (h : r ≠ r') : Disjoint (rowSet c r) (rowSet c r') := by
  rw [Finset.disjoint_left]
  intro y hy hy'
  obtain ⟨x, -, hx⟩ := Finset.mem_map.mp hy
  obtain ⟨x', -, hx'⟩ := Finset.mem_map.mp hy'
  have e := congrArg (fun z : S16x4608.Idx => (z 0).val) (hx.trans hx'.symm)
  have e' : r.val + 1 * (x 0).val = r'.val + 1 * (x' 0).val := e
  have h0 : (x 0).val < 1 := (x 0).isLt
  have h0' : (x' 0).val < 1 := (x' 0).isLt
  exact h (Fin.ext (by omega))

/-- What is left of the scratch buffer and of the copied array's share once the slots are dealt. -/
def Left : sProp 𝕄 :=
  iprop((hbM.view.loc (c : Thread nD τ) ↦{Transfers.shareDrop fullShare 16} fH)
    ∗ (∃ f : Buf (Elt F) (scM.view.loc (c : Thread nD τ)), scM.view.loc (c : Thread nD τ) ↦[Finset.univ \ (Finset.univ : Finset (Fin 16)).biUnion (rowSet c)]{fullShare} f))

/-- The scratch buffer, its semaphores and the copied array divide into sixteen free slots and what is left over. -/
theorem slots_deal :
    iprop((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} fH))
    ⊢ iprop(bigSep Finset.univ (fun r : Fin 16 => Free (F := F) c fH r) ∗ Left (F := F) c fH) := by
  unfold Free Left Pipeline.ownSems0
  rw [bigSep_sep', bigSep_sep']
  iintro ⟨⟨%f, Hs⟩, Hsem, Hh⟩
  ihave Hs := (pointsTo_split_subset (Finset.subset_univ ((Finset.univ : Finset (Fin 16)).biUnion (rowSet c)))).1 $$ Hs
  icases Hs with ⟨Hs, Hr⟩
  ihave Hs := (BIBase.Entails.of_eq (pointsTo_biUnion Finset.univ (rowSet c) (fun r _ r' _ h => rowSet_disj c r r' h))) $$ Hs
  ihave Hh := (Transfers.pointsTo_toks_split fullShare 16) $$ Hh
  icases Hh with ⟨Hd, Ht⟩
  isplitl [Hs Hsem Ht]
  · isplitl [Hs]
    · have e : ∀ r : Fin 16, iprop(scM.view.loc (c : Thread nD τ) ↦[rowSet c r]{fullShare} f)
          ⊢ (iprop(∃ f : Buf (Elt F) (scM.view.loc (c : Thread nD τ)), scM.view.loc (c : Thread nD τ) ↦[(row r).view.set]{fullShare} f) : sProp 𝕄) := fun r => by
        iintro H; iexists f; iexact H
      have e' : iprop(bigSep Finset.univ (fun r : Fin 16 => iprop(scM.view.loc (c : Thread nD τ) ↦[rowSet c r]{fullShare} f)))
          ⊢ (iprop(bigSep Finset.univ (fun r : Fin 16 => iprop(∃ f : Buf (Elt F) (scM.view.loc (c : Thread nD τ)), scM.view.loc (c : Thread nD τ) ↦[(row r).view.set]{fullShare} f))) : sProp 𝕄) :=
        bigSep_mono fun r _ => e r
      iapply e'
      iexact Hs
    isplitl [Hsem]; · iexact Hsem
    iexact Ht
  isplitl [Hd]; · iexact Hd
  iexists f; iexact Hr

/-- Sixteen free slots and what is left over make the scratch buffer, its semaphores and the copied array whole again. -/
theorem slots_back :
    iprop(bigSep Finset.univ (fun r : Fin 16 => Free (F := F) c fH r) ∗ Left (F := F) c fH)
    ⊢ iprop((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} fH)) := by
  unfold Free Left Pipeline.ownSems0
  rw [bigSep_sep', bigSep_sep']
  iintro ⟨⟨Hs, Hsem, Ht⟩, Hd, ⟨%f, Hr⟩⟩
  isplitl [Hs Hr]
  · haveI : Nonempty (Buf (Elt F) (scM.view.loc (c : Thread nD τ))) := ⟨f⟩
    ihave Hs := (bigSep_exists_pi (Y := fun _ : Fin 16 => Buf (Elt F) (scM.view.loc (c : Thread nD τ))) Finset.univ
      (fun r f => (scM.view.loc (c : Thread nD τ) ↦[rowSet c r]{fullShare} f : sProp 𝕄))) $$ Hs
    icases Hs with ⟨%fs, Hs⟩
    ihave Hs := (pointsTo_biUnion_join Finset.univ (rowSet c) fs f (fun r _ r' _ h => rowSet_disj c r r' h)) $$ Hs
    icases Hs with ⟨%g, -, Hs⟩
    iexists ((Finset.univ \ (Finset.univ : Finset (Fin 16)).biUnion (rowSet c)).piecewise f g)
    ihave H := (pointsTo_join (ℓ := scM.view.loc (c : Thread nD τ)) (f := g) (g := f) (Finset.disjoint_sdiff : Disjoint ((Finset.univ : Finset (Fin 16)).biUnion (rowSet c)) (Finset.univ \ (Finset.univ : Finset (Fin 16)).biUnion (rowSet c)))) $$ [Hs Hr]
    · isplitl [Hs]; · iexact Hs
      iexact Hr
    rw [Finset.union_sdiff_of_subset (Finset.subset_univ _)]
    iexact H
  isplitl [Hsem]; · iexact Hsem
  iapply (Transfers.pointsTo_toks_join fullShare 16)
  isplitl [Hd]; · iexact Hd
  iexact Ht

end Slots

/-! ## The contents at the region's entry -/

section Entry
variable (m : (ℓ : Loc nD τ sig) → Buf (Elt F) ℓ)

/-- A buffer's contents when the region starts. -/
abbrev V (c : Dev nD) (b : Ref sig .tc) : Buf (Elt F) ((c : Thread nD τ).loc b) := StableHlo.after (hostOps0 (F := F)) (fun b => m (c, b)) b

/-- The host's operations before the kernel run and leave the arrays at `V`. -/
theorem main_at : Pipeline.HMainP (Ix := Unit) (Name := ℕ) (U := Pipeline.UD sig nD τ) (Lvl := ℕ) (pcfgs (F := F)) 0 (defs₀ (F := F)) Variants.none m main (V m) :=
  Pipeline.hmainP_prefix (pcfgs (F := F)) 0 (defs₀ (F := F)) Variants.none m main hostOps0 hostOps0_sub (by simp only [List.Forall]; repeat' constructor) (fun c => main_chain c)

/-- The host's operations leave argument 0 as it was. -/
theorem V_arg0 (c : Dev nD) : V m c main_arg0 = m ((c : Thread nD τ).loc main_arg0) := by entry_read; rfl
/-- The host's operations leave argument 1 as it was. -/
theorem V_arg1 (c : Dev nD) : V m c main_arg1 = m ((c : Thread nD τ).loc main_arg1) := by entry_read; rfl
/-- The host's operations leave argument 2 as it was. -/
theorem V_arg2 (c : Dev nD) : V m c main_arg2 = m ((c : Thread nD τ).loc main_arg2) := by entry_read; rfl
/-- The host's operations leave argument 3 as it was. -/
theorem V_arg3 (c : Dev nD) : V m c main_arg3 = m ((c : Thread nD τ).loc main_arg3) := by entry_read; rfl
/-- The host's operations leave argument 4 as it was. -/
theorem V_arg4 (c : Dev nD) : V m c main_arg4 = m ((c : Thread nD τ).loc main_arg4) := by entry_read; rfl
/-- The host's operations leave argument 5 as it was. -/
theorem V_arg5 (c : Dev nD) : V m c main_arg5 = m ((c : Thread nD τ).loc main_arg5) := by entry_read; rfl

/-- The token ids in one line. -/
abbrev ids (c : Dev nD) : S12800.Idx → BitVec 32 := shapeCast S12800 (m ((c : Thread nD τ).loc main_arg4) : S5x2560.Idx → BitVec 32) shapeCasts_S5x2560_S12800

/-- The three tables are the boundaries and the sorted ids of the token ids. -/
theorem tables_ok (c : Dev nD) : Tables.Ok (V m c main_v12) (V m c main_v2_0) (V m c main_v2_1) (ids m c) := by
  entry_read
  refine Tables.ok_of _ _ _ ?_ ?_ _ ?_
  · intro a b
    show BitVec.ofBool (decide (a.1.toInt < b.1.toInt)) = 1#1 ↔ _
    exact WordCmp.ofBool_decide_eq_one_iff _
  · intro p
    show (BitVec.ofNat 32 p.val).toNat = p.val
    rw [BitVec.toNat_ofNat]; exact Nat.mod_eq_of_lt (lt_trans p.isLt (by decide))
  · intro j
    rw [Host.reduce_eq_fold_single IntOp.addi _ _ reducesTo_S31x12800_S31_d1 (by decide) h_S_]
    refine (congrArg BitVec.toNat (IndicatorCount.fold_addi_setWidth_eq_card (w := 32) (fun k : Fin 12800 => BitVec.ofBool (decide (
      ((Host.sort2 S12800 0 comparator_i32_i32_d0 (ids m c) (iotaInDim S12800 32 0)).1 (.ofFin k)).toInt
        < (BitVec.ofNat 32 j.val * 1024#32).toInt))) Finset.univ)).trans ?_
    have hj : (BitVec.ofNat 32 j.val * 1024#32).toInt = 1024 * (j.val : Int) := by
      revert j; decide
    simp only [hj, WordCmp.ofBool_decide_eq_one_iff]
    rw [BitVec.toNat_ofNat, Nat.mod_eq_of_lt]
    · rfl
    exact (Finset.card_le_univ _).trans_lt (lt_of_le_of_lt (Fintype.card_fin 12800).le (by show 12800 < 2 ^ 32; decide))

/-- The one device. -/
abbrev c0 : Dev nD := ⟨0, by decide⟩

/-- The tables' contents. -/
abbrev pf : (pre0 : Pipeline.Prefetch sig).Contents (Elt F) := fun k => V m c0 (pre0.ref k)

/-- The tables' contents, admissible. -/
abbrev adm (_ : Fin 1) : (pcfg0 (F := F)).Adm := ⟨pf m, trivial⟩

/-- The pipeline at the tables' contents. -/
abbrev cfgA : Cfg sig Λ₀ := cfg0 (F := F) (adm m 0)

/-- Each table the kernel is given is what the host computed. -/
theorem pf_eq (c : Dev nD) (k : Fin 3) : V m c (pre0.ref k) = pf m k := by
  obtain rfl : c = c0 := Subsingleton.elim _ _
  rfl

/-- The invariant between two points: the scratch, the slots' semaphores, the copied array and the tables. -/
abbrev inv (c : Dev nD) : sProp 𝕄 :=
  iprop(Pipeline.ΦD osem spec0 {main_v20} (V m) c ∗ Pipeline.ΦT (U := Pipeline.UD sig nD τ) (pre0 : Pipeline.Prefetch sig) (pf m) c)

/-- A separating conjunction over three indices, written out. -/
theorem bigSep_three {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), 1, 2] (by decide) (by decide) Φ

/-- The invariant holds the scratch buffer, its semaphores, the copied array and the tables. -/
theorem inv_open (c : Dev nD) :
    inv m c ⊢ iprop((((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} (V m c main_v20)))
      ∗ (∃ r, prngReg c r)
      ∗ (stM.view.loc (c : Thread nD τ) ↦{fullShare.right} (V m c main_v12))
      ∗ (idM.view.loc (c : Thread nD τ) ↦{fullShare.right} (V m c main_v2_0))
      ∗ (tkM.view.loc (c : Thread nD τ) ↦{fullShare.right} (V m c main_v2_1)))) := by
  obtain rfl : c = c0 := Subsingleton.elim _ _
  unfold inv Pipeline.ΦT Pipeline.prefHeld
  rw [Pipeline.ΦD_eq, scopedRest0_eq, bigSep_singleton, bigSep_three]
  iintro ⟨⟨HS, Hg, Hq, Hh⟩, H0, H1, H2⟩
  isplitl [HS Hq Hh]
  · isplitl [HS]; · iexact HS
    isplitl [Hq]; · iexact Hq
    iexact Hh
  isplitl [Hg]; · iexact Hg
  isplitl [H0]; · iexact H0
  isplitl [H1]; · iexact H1
  iexact H2

/-- The scratch buffer, its semaphores, the copied array and the tables make the invariant. -/
theorem inv_close (c : Dev nD) :
    iprop((((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} (V m c main_v20)))
      ∗ (∃ r, prngReg c r)
      ∗ (stM.view.loc (c : Thread nD τ) ↦{fullShare.right} (V m c main_v12))
      ∗ (idM.view.loc (c : Thread nD τ) ↦{fullShare.right} (V m c main_v2_0))
      ∗ (tkM.view.loc (c : Thread nD τ) ↦{fullShare.right} (V m c main_v2_1)))) ⊢ inv m c := by
  obtain rfl : c = c0 := Subsingleton.elim _ _
  unfold inv Pipeline.ΦT Pipeline.prefHeld
  rw [Pipeline.ΦD_eq, scopedRest0_eq, bigSep_singleton, bigSep_three]
  iintro ⟨⟨HS, Hq, Hh⟩, Hg, H0, H1, H2⟩
  isplitl [HS Hg Hq Hh]
  · isplitl [HS]; · iexact HS
    isplitl [Hg]; · iexact Hg
    isplitl [Hq]; · iexact Hq
    iexact Hh
  isplitl [H0]; · iexact H0
  isplitl [H1]; · iexact H1
  iexact H2

/-! ## One point -/

/-- The staging buffers of a point. -/
abbrev a5 (t : Fin (cfgA m).N) := (spec0 0).stage ((cfgA m).slots t 0)
abbrev a6 (t : Fin (cfgA m).N) := (spec0 1).stage ((cfgA m).slots t 1)
abbrev a7 (t : Fin (cfgA m).N) := (spec0 2).stage ((cfgA m).slots t 2)
abbrev a8 (t : Fin (cfgA m).N) := (spec0 3).stage ((cfgA m).slots t 3)
abbrev a10 (t : Fin (cfgA m).N) := (spec0 4).stage ((cfgA m).slots t 4)

/-- The kernel's body at a point. -/
abbrev bodyAt (t : Fin (cfgA m).N) :=
  cc0_tied_grad (F := F) (grid0.coords t) stM (Memref.isWhole_whole _) idM (Memref.isWhole_whole _) tkM (Memref.isWhole_whole _)
    (a5 m t) (stage_whole0 0 _) (a6 m t) (stage_whole0 1 _) (a7 m t) (stage_whole0 2 _) (a8 m t) (stage_whole0 3 _)
    hbM (Memref.isWhole_whole _) (a10 m t) (stage_whole0 4 _) scM (Memref.isWhole_whole _) cc0_scratch1

/-- The body the grid calls at a point is the kernel's body on the point's blocks. -/
theorem body_row (t : Fin (cfgA m).N) : defs₀ (F := F) .tc (cfgA m).body ((cfgA m).bodyArgs t ((cfgA m).slots t)) = bodyAt m t := by
  unfold defs₀; rw [Defs.onTc_tc]

/-- One grid point: the invariant and the windows' buffers are given back, the output block at contents of which `Post` holds. -/
theorem point (c : Dev nD) (t : Fin (cfgA m).N)
    (b5 : Buf (Elt F) ((a5 m t).view.loc (c : Thread nD τ))) (b6 : Buf (Elt F) ((a6 m t).view.loc (c : Thread nD τ)))
    (b7 : Buf (Elt F) ((a7 m t).view.loc (c : Thread nD τ))) (b8 : Buf (Elt F) ((a8 m t).view.loc (c : Thread nD τ)))
    (g : Buf (Elt F) ((a10 m t).view.loc (c : Thread nD τ))) (Post : Buf (Elt F) ((a10 m t).view.loc (c : Thread nD τ)) → Prop)
    (hP0 : ¬ k0_cond2 (grid0.coords t) = 1#1 → Post (prod c (a5 m t) (a6 m t) (a7 m t) (a8 m t) (a10 m t) b5 b6 b7 b8 (start0 c (grid0.coords t) (a10 m t) g)))
    (hP1 : ∀ h2 : k0_cond2 (grid0.coords t) = 1#1, ∃ Acc : ℕ → Buf (Elt F) ((a10 m t).view.loc (c : Thread nD τ)) → Prop,
      Adds (F := F) c (V m c main_v20) (grid0.coords t) (a10 m t) h2 (lo (grid0.coords t) (V m c main_v12)) (hi (grid0.coords t) (V m c main_v12)) (V m c main_v2_1) (V m c main_v2_0) Acc
        ∧ Acc (lo (grid0.coords t) (V m c main_v12)).toNat (prod c (a5 m t) (a6 m t) (a7 m t) (a8 m t) (a10 m t) b5 b6 b7 b8 (start0 c (grid0.coords t) (a10 m t) g))
        ∧ ∀ g', Acc (hi (grid0.coords t) (V m c main_v12)).toNat g' → Post g') :
    iprop(inv m c ∗ (∃ W, owes (c : Thread nD τ) 0 W) ∗ Ins (F := F) c (a5 m t) (a6 m t) (a7 m t) (a8 m t) b5 b6 b7 b8
      ∗ ((a10 m t).view.loc (c : Thread nD τ) ↦[(a10 m t).view.set]{fullShare} g))
    ⊢ wp frame (wpE (defs₀ (F := F)) Variants.none (c : Thread nD τ) none) Set.univ (bodyAt m t)
      (fun _ => iprop(inv m c ∗ (∃ W, owes (c : Thread nD τ) 0 W) ∗ Ins (F := F) c (a5 m t) (a6 m t) (a7 m t) (a8 m t) b5 b6 b7 b8
        ∗ (∃ g' : Buf (Elt F) ((a10 m t).view.loc (c : Thread nD τ)), ⌜Post g'⌝ ∗ ((a10 m t).view.loc (c : Thread nD τ) ↦[(a10 m t).view.set]{fullShare} g')))) := by
  have hT := tables_ok m c
  have hb := body (F := F) c (V m c main_v20) (grid0.coords t) (a5 m t) (stage_whole0 0 _) (a6 m t) (stage_whole0 1 _) (a7 m t) (stage_whole0 2 _) (a8 m t) (stage_whole0 3 _)
    (a10 m t) (stage_whole0 4 _) fullShare.right (V m c main_v12) (V m c main_v2_1) (V m c main_v2_0) b5 b6 b7 b8 g Post
    (hT.mono (by show (grid0.coords t 0).val ≤ (grid0.coords t 0).val + 1; omega)) (hT.le _)
    (fun p hp => by unfold wordAt; rw [dif_pos hp]; exact hT.tk_lt ⟨p, hp⟩)
    (fun p h1 h2 => by
      have hp : p < 12800 := lt_of_lt_of_le h2 (hT.le _)
      unfold wordAt; rw [dif_pos hp]
      have e1 := (hT.cut ⟨_, lt_trans (show (grid0.coords t 0).val < 30 from (grid0.coords t 0).isLt) (by decide)⟩ ⟨p, hp⟩).not.mp (not_lt.mpr h1)
      have e2 := (hT.cut _ ⟨p, hp⟩).mp h2
      exact ⟨by push_cast at e1 ⊢; exact not_lt.mp e1, by push_cast at e2 ⊢; exact e2⟩)
    hP0 hP1
  iintro ⟨HI, HO, Hins, Hout⟩
  ihave HI := (inv_open m c) $$ HI
  icases HI with ⟨Hs, Hg, Hst, Hid, Htk⟩
  ihave Hs := (slots_deal (F := F) c (V m c main_v20)) $$ Hs
  icases Hs with ⟨Hs, Hl⟩
  iapply (wp_wand_r _ _ _)
  isplitl [HO Hins Hout Hst Hid Htk Hs]
  · iapply hb
    unfold Rest
    isplitl [Hins]; · iexact Hins
    isplitl [Hout]; · iexact Hout
    isplitl [Hst]; · iexact Hst
    isplitl [Htk]; · iexact Htk
    isplitl [Hid]; · iexact Hid
    isplitl [HO]; · iexact HO
    iexact Hs
  iintro %_ H
  unfold Rest
  icases H with ⟨Hins, Hout, Hst, Htk, Hid, HO, Hs⟩
  isplitl [Hg Hst Htk Hid Hs Hl]
  · iapply (inv_close m c)
    isplitl [Hs Hl]
    · iapply (slots_back (F := F) c (V m c main_v20))
      isplitl [Hs]; · iexact Hs
      iexact Hl
    isplitl [Hg]; · iexact Hg
    isplitl [Hst]; · iexact Hst
    isplitl [Hid]; · iexact Hid
    iexact Htk
  isplitl [HO]; · iexact HO
  isplitl [Hins]; · iexact Hins
  iexact Hout

/-! ## The proof data -/

/-- The block of window `w`'s array at a point. -/
abbrev iblk (c : Dev nD) (w : Fin 5) (t : Fin (cfgA m).N) : ((cfgA m).win w).block.Idx → Elt F ((cfgA m).win w).elt :=
  (((cfgA m).win w).blk t).view.read (Elt F) (V m c (Pipeline.arrRef spec0 w))

/-- The proof data, the result's block after a point at `out`. -/
def dats (out : (c : Dev nD) → Fin (cfgA m).N → FVec F S1024x4608 .f32) (_ : Fin 1) (c : Dev nD) :
    Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out c t
  Φ _ := inv m c
  q _ := fullShare
  owed _ := 0

variable (out : (c : Dev nD) → Fin (cfgA m).N → FVec F S1024x4608 .f32)

/-- Each window's array starts as the host left it. -/
theorem A_eq (c : Dev nD) (w : Fin 5) : (dats m out 0 c).A w = V m c (Pipeline.arrRef spec0 w) := by dsimp only [dats]
/-- Input window 0's block after a point. -/
theorem after_0 (c : Dev nD) (t : Fin (cfgA m).N) : (dats m out 0 c).after 0 t = iblk m c 0 t := rfl
/-- Input window 1's block after a point. -/
theorem after_1 (c : Dev nD) (t : Fin (cfgA m).N) : (dats m out 0 c).after 1 t = iblk m c 1 t := rfl
/-- Input window 2's block after a point. -/
theorem after_2 (c : Dev nD) (t : Fin (cfgA m).N) : (dats m out 0 c).after 2 t = iblk m c 2 t := rfl
/-- Input window 3's block after a point. -/
theorem after_3 (c : Dev nD) (t : Fin (cfgA m).N) : (dats m out 0 c).after 3 t = iblk m c 3 t := rfl
/-- The output window's block after a point. -/
theorem after_4 (c : Dev nD) (t : Fin (cfgA m).N) : (dats m out 0 c).after 4 t = out c t := rfl

/-- Input window 0's block before a point. -/
theorem before_0 (c : Dev nD) (t : Fin (cfgA m).N) (d) : (dats m out 0 c).before 0 t d = iblk m c 0 t :=
  ((dats m out 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's block before a point. -/
theorem before_1 (c : Dev nD) (t : Fin (cfgA m).N) (d) : (dats m out 0 c).before 1 t d = iblk m c 1 t :=
  ((dats m out 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's block before a point. -/
theorem before_2 (c : Dev nD) (t : Fin (cfgA m).N) (d) : (dats m out 0 c).before 2 t d = iblk m c 2 t :=
  ((dats m out 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's block before a point. -/
theorem before_3 (c : Dev nD) (t : Fin (cfgA m).N) (d) : (dats m out 0 c).before 3 t d = iblk m c 3 t :=
  ((dats m out 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The run with the result forgotten, and the frame -/

/-- Only the result's window is forgotten. -/
abbrev fgt : Fin 5 → Bool := fun | 0 => false | 1 => false | 2 => false | 3 => false | 4 => true

/-- One grid point, saying nothing of what the output block holds. -/
theorem point_forget (c : Dev nD) (t : Fin (cfgA m).N) :
    iprop((dats m out 0 c).Φ t.castSucc ∗ (dats m out 0 c).owesAt () t.castSucc
      ∗ (∃ d, owns (c : Thread nD τ) (a5 m t) fullShare ((dats m out 0 c).before 0 t d))
      ∗ (∃ d, owns (c : Thread nD τ) (a6 m t) fullShare ((dats m out 0 c).before 1 t d))
      ∗ (∃ d, owns (c : Thread nD τ) (a7 m t) fullShare ((dats m out 0 c).before 2 t d))
      ∗ (∃ d, owns (c : Thread nD τ) (a8 m t) fullShare ((dats m out 0 c).before 3 t d))
      ∗ (∃ X, owns (c : Thread nD τ) (a10 m t) fullShare X))
    ⊢ wp frame (wpE (defs₀ (F := F)) Variants.none (c : Thread nD τ) none) Set.univ (bodyAt m t)
      (fun _ => iprop((dats m out 0 c).Φ t.succ ∗ (dats m out 0 c).owesAt () t.succ
        ∗ owns (c : Thread nD τ) (a5 m t) fullShare ((dats m out 0 c).after 0 t)
        ∗ owns (c : Thread nD τ) (a6 m t) fullShare ((dats m out 0 c).after 1 t)
        ∗ owns (c : Thread nD τ) (a7 m t) fullShare ((dats m out 0 c).after 2 t)
        ∗ owns (c : Thread nD τ) (a8 m t) fullShare ((dats m out 0 c).after 3 t)
        ∗ (∃ X, owns (c : Thread nD τ) (a10 m t) fullShare X))) := by
  rw [show (dats m out 0 c).Φ t.succ = inv m c from rfl, show (dats m out 0 c).Φ t.castSucc = inv m c from rfl, after_0, after_1, after_2, after_3]
  simp only [before_0, before_1, before_2, before_3]
  unfold Dat.owesAt Pipeline.owesWithin
  rw [show (dats m out 0 c).owed t.castSucc = 0 from rfl, show (dats m out 0 c).owed t.succ = 0 from rfl]
  unfold owns
  iintro ⟨HI, ⟨%W, -, HW⟩, ⟨%d0, %b5, %h5, H5⟩, ⟨%d1, %b6, %h6, H6⟩, ⟨%d2, %b7, %h7, H7⟩, ⟨%d3, %b8, %h8, H8⟩, ⟨%X, %g, %hg, Hout⟩⟩
  iapply (wp_wand_r _ _ _)
  isplitl [HI HW H5 H6 H7 H8 Hout]
  · iapply (point m c t b5 b6 b7 b8 g (fun _ => True) (fun _ => trivial) (fun h2 => ⟨fun _ _ => True, by unfold Adds; intros; trivial, trivial, fun _ _ => trivial⟩))
    isplitl [HI]; · iexact HI
    isplitl [HW]; · iexists W; iexact HW
    unfold Ins
    isplitl [H5 H6 H7 H8]
    · isplitl [H5]; · iexact H5
      isplitl [H6]; · iexact H6
      isplitl [H7]; · iexact H7
      iexact H8
    iexact Hout
  iintro %_ H
  unfold Ins
  icases H with ⟨HI, ⟨%W', HW'⟩, ⟨H5, H6, H7, H8⟩, ⟨%g', -, Hout⟩⟩
  isplitl [HI]; · iexact HI
  isplitl [HW']
  · iexists W'; isplitr; · ipureintro; exact fun _ _ => Or.inl trivial
    iexact HW'
  isplitl [H5]
  · iexists b5; isplitr; · ipureintro; exact h5
    iexact H5
  isplitl [H6]
  · iexists b6; isplitr; · ipureintro; exact h6
    iexact H6
  isplitl [H7]
  · iexists b7; isplitr; · ipureintro; exact h7
    iexact H7
  isplitl [H8]
  · iexists b8; isplitr; · ipureintro; exact h8
    iexact H8
  iexists _, g'; isplitr; · ipureintro; rfl
  iexact Hout

/-- The body's obligation at every point, saying nothing of what the output block holds. -/
theorem forget_obligation (c : Dev nD) : BodyObligationLoose (dats m out 0 c) (defs₀ (F := F)) Variants.none () Set.univ fgt := fun t => by
  rw [bigSep_W0, bigSep_W0, body_row]
  exact triple_restated (point_forget m out c t) rfl .rfl fun _ => .rfl

/-- The kernel's own semaphores are none of the pipeline's. -/
theorem own_facts : Pipeline.OwnSemFacts spec0 osem := by decide
/-- The copied array is not one the pipeline moves. -/
theorem copied_rest : ({main_v20} : Finset (Ref sig .tc)) ⊆ Pipeline.restRefsP sig pre0 spec0 := by decide

set_option backward.isDefEq.respectTransparency.types false in
/-- The whole program runs; the arrays the kernel does not write are as the host left them. -/
theorem run_forget (ρ : Dev nD → PrngReg) : θ_run defs (onTc (τ := τ) (main (F := F))) (s₀ m ρ)
    (fun r => Pipeline.RDat.FramePost (cfgA m) (fun c => (dats m out 0 c).toRForget fgt) (V m) r ∧ r.2.sem = fun _ => 0) :=
  Pipeline.θ_run_frameP_dma_forget (Q' := _) pcfgs (adm m) (dats m out) (0 : Fin 1) launch0 osem defs₀ Variants.none fgt
    own_facts {main_v20} copied_rest m ρ main
    (hbody := fun c => forget_obligation m out c) (hshare := fun c => (dats m out 0 c).share_full fun _ => rfl)
    (howed := fun _ _ => rfl) (V := V m) (hmain := main_at m) (hA := A_eq m out) (hpf := pf_eq m)
    (hin := fun _ => .rfl) (hout := fun c => by
      show inv m c ⊢ _
      iintro ⟨H, -⟩; iexact H)

/-- Argument 0 is not an array the pipeline moves. -/
theorem rest_arg0 : main_arg0 ∈ Pipeline.restRefs sig spec0 := Pipeline.mem_restRefs_of main_arg0 (by decide) (by decide)
/-- Argument 1 is not an array the pipeline moves. -/
theorem rest_arg1 : main_arg1 ∈ Pipeline.restRefs sig spec0 := Pipeline.mem_restRefs_of main_arg1 (by decide) (by decide)
/-- Argument 2 is not an array the pipeline moves. -/
theorem rest_arg2 : main_arg2 ∈ Pipeline.restRefs sig spec0 := Pipeline.mem_restRefs_of main_arg2 (by decide) (by decide)
/-- Argument 3 is not an array the pipeline moves. -/
theorem rest_arg3 : main_arg3 ∈ Pipeline.restRefs sig spec0 := Pipeline.mem_restRefs_of main_arg3 (by decide) (by decide)
/-- Argument 4 is not an array the pipeline moves. -/
theorem rest_arg4 : main_arg4 ∈ Pipeline.restRefs sig spec0 := Pipeline.mem_restRefs_of main_arg4 (by decide) (by decide)
/-- Argument 5 is not an array the pipeline moves. -/
theorem rest_arg5 : main_arg5 ∈ Pipeline.restRefs sig spec0 := Pipeline.mem_restRefs_of main_arg5 (by decide) (by decide)

/-- The kernel program ends, at every launch contents, with its arguments unchanged and every semaphore at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run _ _ _).mono (fun r h => ⟨fun c =>
    ⟨((h.1 c).2 main_arg0 rest_arg0).trans (V_arg0 m c),
      ((h.1 c).2 main_arg1 rest_arg1).trans (V_arg1 m c),
      ((h.1 c).2 main_arg2 rest_arg2).trans (V_arg2 m c),
      ((h.1 c).2 main_arg3 rest_arg3).trans (V_arg3 m c),
      ((h.1 c).2 main_arg4 rest_arg4).trans (V_arg4 m c),
      ((h.1 c).2 main_arg5 rest_arg5).trans (V_arg5 m c)⟩, h.2⟩)
    (run_forget m (fun _ _ => k0_pay12) ρ)

end Entry

end Cert.Kernel.Hand

end
-- ==== Proof.KernelIdealScatter.lean ====
/- The scatter loops of `KernelIdeal`: a group of up to sixteen row copies is started, each on its own semaphore into its own
   row of the scratch, then each is awaited and its row added into the output block. Every row, its semaphore and its
   share of the source array form a slot, free or with a copy in flight. -/
module

public import proofs.«01_k».proof.Proof.Gen.KernelIdeal.Launch
public import proofs.«01_k».proof.Proof.Gen.KernelIdeal.Loops
public import proofs.«01_k».proof.Proof.Words
public import proofs.«01_k».proof.Proof.Tables
public import proofs.«01_k».proof.Proof.Steps
public import Idealize.ShloMosaic.Lib.LoopRemainder
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

abbrev EC : UEmb Counters 𝕄 := countersEmb (U := Pipeline.UD sig nD τ)

/-! ## The operands -/

abbrev scM : Memref sig .tc .vmem S16x2x4608 .bf16 := Memref.whole cc0_scratch0
abbrev hbM : Memref sig .tc .hbm S12800x4608 .bf16 := Memref.whole main_v20
abbrev stM : Memref sig .tc .smem S31 .i32 := Memref.whole main_v12
abbrev idM : Memref sig .tc .smem S12800 .i32 := Memref.whole main_v2_0
abbrev tkM : Memref sig .tc .smem S12800 .i32 := Memref.whole main_v2_1

/-- Slot `r`'s semaphore. -/
abbrev osem : Fin 16 → SemLoc sig := fun r => SemLoc.dma ⟨10 + r.val, by have := r.isLt; show _ < 26; omega⟩

/-- Each row lies inside the scratch buffer. -/
theorem row_inb (r : Fin 16) : ∀ a, (![r.val, 0, 0] : Fin 3 → Nat) a + S1x2x4608.size a ≤ S16x2x4608.size a := fun a => by
  have := r.isLt
  match a with
  | 0 => show r.val + 1 ≤ 16; omega
  | 1 => show 0 + 2 ≤ 2; omega
  | 2 => show 0 + 4608 ≤ 4608; omega

/-- Row `r` of the scratch. -/
abbrev row (r : Fin 16) : Memref sig .tc .vmem S1x2x4608 .bf16 :=
  scM.slice (Rect.unit (s := S16x2x4608) ![r.val, 0, 0] S1x2x4608.size (row_inb r)) (fun _ => rfl)

/-- The amount of one copy. -/
abbrev credit : ℕ := (row 0).view.dmaCredit

/-- A row's copy has a positive size. -/
theorem credit_pos : 0 < credit := by decide

/-- A semaphore taken at an offset is the slot's semaphore. -/
theorem sem_eq (r : Fin 16) (off : Fin 1 → Nat) (h : ∀ a, off a + S1.size a ≤ S16.size a) (e : off = ![r.val]) :
    SemLoc.dma ((cc0_scratch1.slice (Rect.unit (s := S16) off S1.size h)).squeeze S_ squeezes_S1_S_).sem = osem r := by
  subst e
  revert r; decide

variable (c : Dev nD) (fH : Buf (Elt F) (hbM.view.loc (c : Thread nD τ)))

/-- Slot `r` at rest: its row at some contents, its semaphore at zero, its share of the source. -/
def Free (r : Fin 16) : sProp 𝕄 :=
  iprop((∃ f : Buf (Elt F) (scM.view.loc (c : Thread nD τ)), scM.view.loc (c : Thread nD τ) ↦[(row r).view.set]{fullShare} f)
    ∗ semVal ((c : Thread nD τ), osem r) 0
    ∗ (hbM.view.loc (c : Thread nD τ) ↦{Transfers.shareTokN fullShare r.val} fH))

/-- Slot `r` with a copy in flight that leaves its row at contents of which `Φ` holds. -/
def Busy (Φ : Buf (Elt F) (scM.view.loc (c : Thread nD τ)) → Prop) (r : Fin 16) : sProp 𝕄 :=
  iprop(∃ I : Finset (Idx (hbM.view.loc (c : Thread nD τ))),
    Transfers.Flight (Ix := Unit) EC (c : Thread nD τ) (osem r) () credit
      iprop((∃ f : Buf (Elt F) (scM.view.loc (c : Thread nD τ)), ⌜Φ f⌝ ∗ scM.view.loc (c : Thread nD τ) ↦[(row r).view.set]{fullShare} f)
        ∗ (hbM.view.loc (c : Thread nD τ) ↦[I]{Transfers.shareTokN fullShare r.val} fH))
    ∗ (hbM.view.loc (c : Thread nD τ) ↦[Finset.univ \ I]{Transfers.shareTokN fullShare r.val} fH))

/-! ## The loops' trips and offsets -/

section Offsets
variable {v w : BitVec 32} (hv : v.toNat ≤ w.toNat) (hw : w.toNat ≤ 12800)
include hv hw

/-- A trip of the loop over groups is below the number of groups. -/
theorem lt_groups (t1 : Fin (k0_t1_loop v w).trips) : t1.val < Words.groups v w :=
  lt_of_lt_of_eq t1.isLt (Words.trips1 hv hw)

/-- A trip of the starting loop is below the group's number of rows. -/
theorem lt_rows (t1 : Fin (k0_t1_loop v w).trips) (t2 : Fin (k0_t2_loop v w t1).trips) : t2.val < Words.rows v w t1.val :=
  lt_of_lt_of_eq t2.isLt (Words.trips2 hv hw (lt_groups hv hw t1))

/-- A trip of the adding loop is below the group's number of rows. -/
theorem lt_rows' (t1 : Fin (k0_t1_loop v w).trips) (t4 : Fin (k0_t4_loop v w t1).trips) : t4.val < Words.rows v w t1.val :=
  lt_of_lt_of_eq t4.isLt (Words.trips2 hv hw (lt_groups hv hw t1))

/-- A group has at most sixteen rows. -/
theorem lt_sixteen {t1 : Fin (k0_t1_loop v w).trips} {r : ℕ} (h : r < Words.rows v w t1.val) : r < 16 :=
  lt_of_lt_of_le h (Words.rows_le hv hw)

/-- A row's position is below the end. -/
theorem pos_lt {t1 : Fin (k0_t1_loop v w).trips} {r : ℕ} (h : r < Words.rows v w t1.val) : v.toNat + 16 * t1.val + r < 12800 :=
  lt_of_lt_of_le (Words.pos_lt hv hw (lt_groups hv hw t1) h) hw

/-- The loop's word at a trip is the trip's number. -/
theorem iv_eq {r : ℕ} {t1 : Fin (k0_t1_loop v w).trips} (h : r < Words.rows v w t1.val) : (Scf.iv 0#32 1#32 r).toNat = r :=
  Words.iv_toNat _ (by have := lt_sixteen hv hw h; omega)

/-- Where it lies: the token read to start a copy. -/
theorem off3 (t1 : Fin (k0_t1_loop v w).trips) (t2 : Fin (k0_t2_loop v w t1).trips) : k0_off3 v w t1 t2 = ![v.toNat + 16 * t1.val + t2.val] := by
  show ![(Scalar.indexCast (Scalar.addi (Words.base v t1.val) (Scf.iv 0#32 1#32 t2.val))).toNat] = _
  rw [Words.pos_toNat hv hw (lt_groups hv hw t1) (lt_rows hv hw t1 t2)]
/-- Where it lies: the semaphore a copy is started on. -/
theorem off4 (t1 : Fin (k0_t1_loop v w).trips) (t2 : Fin (k0_t2_loop v w t1).trips) : k0_off4 v w t1 t2 = ![t2.val] := by
  show ![(Scf.iv 0#32 1#32 t2.val).toNat] = _
  rw [iv_eq hv hw (lt_rows hv hw t1 t2)]
/-- Where it lies: the row a copy is started into. -/
theorem off5 (t1 : Fin (k0_t1_loop v w).trips) (t2 : Fin (k0_t2_loop v w t1).trips) : k0_off5 v w t1 t2 = ![t2.val, 0, 0] := by
  show ![(Scf.iv 0#32 1#32 t2.val).toNat, 0, 0] = _
  rw [iv_eq hv hw (lt_rows hv hw t1 t2)]
/-- Where it lies: the token read when a copy is awaited. -/
theorem off11 (t1 : Fin (k0_t1_loop v w).trips) (t4 : Fin (k0_t4_loop v w t1).trips) : k0_off11 v w t1 t4 = ![v.toNat + 16 * t1.val + t4.val] := by
  show ![(Scalar.indexCast (Scalar.addi (Words.base v t1.val) (Scf.iv 0#32 1#32 t4.val))).toNat] = _
  rw [Words.pos_toNat hv hw (lt_groups hv hw t1) (lt_rows' hv hw t1 t4)]
/-- Where it lies: the semaphore a copy is awaited on. -/
theorem off12 (t1 : Fin (k0_t1_loop v w).trips) (t4 : Fin (k0_t4_loop v w t1).trips) : k0_off12 v w t1 t4 = ![t4.val] := by
  show ![(Scf.iv 0#32 1#32 t4.val).toNat] = _
  rw [iv_eq hv hw (lt_rows' hv hw t1 t4)]
/-- Where it lies: the row a copy is awaited in. -/
theorem off13 (t1 : Fin (k0_t1_loop v w).trips) (t4 : Fin (k0_t4_loop v w t1).trips) : k0_off13 v w t1 t4 = ![t4.val, 0, 0] := by
  show ![(Scf.iv 0#32 1#32 t4.val).toNat, 0, 0] = _
  rw [iv_eq hv hw (lt_rows' hv hw t1 t4)]
/-- Where it lies: the token and the id of the row added. -/
theorem off15 (t1 : Fin (k0_t1_loop v w).trips) (t4 : Fin (k0_t4_loop v w t1).trips) : k0_off15 v w t1 t4 = ![v.toNat + 16 * t1.val + t4.val] := off11 hv hw t1 t4
/-- Where it lies: the row that is added. -/
theorem off16 (t1 : Fin (k0_t1_loop v w).trips) (t4 : Fin (k0_t4_loop v w t1).trips) : k0_off16 v w t1 t4 = ![t4.val, 0, 0] := by
  show ![(Scalar.indexCast (Scf.iv 0#32 1#32 t4.val)).toNat, 0, 0] = _
  rw [show (Scalar.indexCast (Scf.iv 0#32 1#32 t4.val)).toNat = _ from iv_eq hv hw (lt_rows' hv hw t1 t4)]

/-- The remainder loop of the starting loop makes no trip. -/
theorem no_t3 (t1 : Fin (k0_t1_loop v w).trips) (t3 : Fin (k0_t3_loop v w t1).trips) : False := Scf.rem_no_trip _ _ t3
/-- The remainder loop of the adding loop makes no trip. -/
theorem no_t5 (t1 : Fin (k0_t1_loop v w).trips) (t5 : Fin (k0_t5_loop v w t1).trips) : False := Scf.rem_no_trip _ _ t5
/-- The remainder loop over groups makes no trip. -/
theorem no_t6 (t6 : Fin (k0_t6_loop v w).trips) : False := Scf.rem_no_trip _ _ t6

omit hv hw in
/-- A position below the table's length can be read. -/
theorem pos_inb {off : Fin 1 → ℕ} {p : ℕ} (e : off = ![p]) (hp : p < 12800) : ∀ a, off a + S1.size a ≤ S12800.size a := fun a => by
  subst e
  match a with
  | 0 => show p + 1 ≤ 12800; omega
omit hv hw in
/-- A slot below sixteen has a semaphore. -/
theorem sem_inb {off : Fin 1 → ℕ} {p : ℕ} (e : off = ![p]) (hp : p < 16) : ∀ a, off a + S1.size a ≤ S16.size a := fun a => by
  subst e
  match a with
  | 0 => show p + 1 ≤ 16; omega
omit hv hw in
/-- A slot below sixteen has a row. -/
theorem row_inb' {off : Fin 3 → ℕ} {p : ℕ} (e : off = ![p, 0, 0]) (hp : p < 16) : ∀ a, off a + S1x2x4608.size a ≤ S16x2x4608.size a := by
  subst e; exact row_inb ⟨p, hp⟩

/-- The checks on the two bounds of the tile's positions hold. -/
theorem chk1_of (i : grid0.Coords) : k0_chk1 i v w := by
  unfold k0_chk1 k0_chk1_0 k0_chk1_1
  exact ⟨⟨fun _ => Words.ok1 hv hw, fun t1 _ => Words.ok2 hv hw (lt_groups hv hw t1),
    fun t1 t2 _ => pos_inb (off3 hv hw t1 t2) (pos_lt hv hw (lt_rows hv hw t1 t2)),
    fun t1 t2 _ => sem_inb (off4 hv hw t1 t2) (lt_sixteen hv hw (lt_rows hv hw t1 t2)),
    fun t1 t2 _ => row_inb' (off5 hv hw t1 t2) (lt_sixteen hv hw (lt_rows hv hw t1 t2)),
    fun _ _ => Scf.rem_ok _ _, fun t1 t3 => (no_t3 hv hw t1 t3).elim, fun t1 t3 => (no_t3 hv hw t1 t3).elim, fun t1 t3 => (no_t3 hv hw t1 t3).elim,
    fun t1 _ => Words.ok2 hv hw (lt_groups hv hw t1),
    fun t1 t4 _ => pos_inb (off11 hv hw t1 t4) (pos_lt hv hw (lt_rows' hv hw t1 t4)),
    fun t1 t4 _ => sem_inb (off12 hv hw t1 t4) (lt_sixteen hv hw (lt_rows' hv hw t1 t4)),
    fun t1 t4 _ => row_inb' (off13 hv hw t1 t4) (lt_sixteen hv hw (lt_rows' hv hw t1 t4)),
    fun t1 t4 _ => pos_inb (off15 hv hw t1 t4) (pos_lt hv hw (lt_rows' hv hw t1 t4)),
    fun t1 t4 _ => row_inb' (off16 hv hw t1 t4) (lt_sixteen hv hw (lt_rows' hv hw t1 t4)),
    fun _ _ => Scf.rem_ok _ _, fun t1 t5 => (no_t5 hv hw t1 t5).elim, fun t1 t5 => (no_t5 hv hw t1 t5).elim, fun t1 t5 => (no_t5 hv hw t1 t5).elim,
    fun t1 t5 => (no_t5 hv hw t1 t5).elim, fun t1 t5 => (no_t5 hv hw t1 t5).elim,
    fun _ => Scf.rem_ok _ _,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim⟩,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim, fun t6 => (no_t6 hv hw t6).elim, fun t6 => (no_t6 hv hw t6).elim,
    fun t6 => (no_t6 hv hw t6).elim, fun t6 => (no_t6 hv hw t6).elim⟩

end Offsets

/-- A copy takes the pair of rows a token lies in. -/
theorem off6 (x : BitVec 32) : k0_off6 x = ![2 * (x.toNat / 2), 0] := by
  show ![2 * (Scalar.shrui x 1#32).toNat, 0] = _
  rw [Words.shrui_one]

/-- The pair of rows of a token in range lies inside the copied array. -/
theorem off6_inb (x : BitVec 32) (h : x.toNat < 12800) : ∀ a, k0_off6 x a + S2x4608.size a ≤ S12800x4608.size a := fun a => by
  rw [off6]
  match a with
  | 0 => show 2 * (x.toNat / 2) + 2 ≤ 12800; omega
  | 1 => show 0 + 4608 ≤ 4608; omega

/-- A row pair starts at an even row and spans whole rows. -/
theorem off6_words (x : BitVec 32) (hinb : ∀ a, k0_off6 x a + S2x4608.size a ≤ S12800x4608.size a) :
    (Rect.unit (s := S12800x4608) (k0_off6 x) S2x4608.size hinb).WholeWords (EltTy.packing .bf16) := by
  refine Or.inl (Or.inr ⟨by decide, rfl, Or.inl ⟨?_, ?_⟩⟩)
  · show 2 ∣ k0_off6 x 0
    rw [off6]; exact ⟨x.toNat / 2, rfl⟩
  · exact ⟨1, rfl⟩

/-- A row pair is a leading block: whole rows, one after the other. -/
theorem off6_leading (x : BitVec 32) (hinb : ∀ a, k0_off6 x a + S2x4608.size a ≤ S12800x4608.size a) :
    (Rect.unit (s := S12800x4608) (k0_off6 x) S2x4608.size hinb).LeadingBlock :=
  ⟨fun _ => rfl, Or.inr fun a => by
    match a with
    | 0 => exact ⟨rfl, rfl⟩⟩

/-- The check before a copy is started holds of a token in range. -/
theorem chk2_of (i : grid0.Coords) (x : BitVec 32) (h : x.toNat < 12800) : k0_chk2 i x :=
  ⟨fun _ => off6_inb x h, fun _ hinb => off6_words x hinb, fun _ hinb => off6_leading x hinb⟩

/-- The check before a copy is awaited holds of a token in range. -/
theorem chk4_of (i : grid0.Coords) (x : BitVec 32) (h : x.toNat < 12800) : k0_chk4 i x :=
  ⟨fun _ => off6_inb x h, fun _ hinb => off6_words x hinb⟩

/-- The row of the output block, for a row number of the block's tile. -/
theorem off17 (i : grid0.Coords) (y : BitVec 32) (hl : (1024 * (i 0).val : Int) ≤ y.toInt) (hu : y.toInt < 1024 * ((i 0).val + 1 : Int)) :
    k0_off17 i y = ![y.toNat - 1024 * (i 0).val, 0] ∧ y.toNat - 1024 * (i 0).val < 1024 ∧ 1024 * (i 0).val ≤ y.toNat := by
  have h := Words.row_toNat (i 0).isLt y hl hu
  refine ⟨?_, h.2⟩
  show ![(Scalar.indexCast (Scalar.subi y (Scalar.muli (BitVec.ofNat 32 (i 0).val) 1024#32))).toNat, 0] = _
  rw [h.1]

/-- The check before a row is added holds of an id inside the tile. -/
theorem chk5_of (i : grid0.Coords) (y : BitVec 32) (hl : (1024 * (i 0).val : Int) ≤ y.toInt) (hu : y.toInt < 1024 * ((i 0).val + 1 : Int)) :
    k0_chk5 i y := fun _ a => by
  obtain ⟨e, h, -⟩ := off17 i y hl hu
  rw [e]
  match a with
  | 0 => show y.toNat - 1024 * (i 0).val + 1 ≤ 1024; omega
  | 1 => show 0 + 4608 ≤ 4608; omega

/-! ## Starting a group's copies -/

/-- The memref of the row pair that word `x` names, read as a pair. -/
abbrev pairM (x : BitVec 32) (hX : ∀ a, k0_off6 x a + S2x4608.size a ≤ S12800x4608.size a)
    (hC : (hbM.slice (Rect.unit (s := S12800x4608) (k0_off6 x) S2x4608.size hX) (fun _ => rfl)).view.Contiguous) : Memref sig .tc .hbm S1x2x4608 .bf16 :=
  (hbM.slice (Rect.unit (s := S12800x4608) (k0_off6 x) S2x4608.size hX) (fun _ => rfl)).reshape S1x2x4608 reshapes_S2x4608_S1x2x4608.1 reshapes_S2x4608_S1x2x4608.2 hC

/-- The row pair of the source that word `x` names, as a copy reads it. -/
def Pair (fH : Buf (Elt F) (hbM.view.loc (c : Thread nD τ))) (x : BitVec 32) (pr : Vec F S1x2x4608 .bf16) : Prop :=
  ∃ hX hC, pr = (pairM x hX hC).view.read (Elt F) fH

/-- Row `r` of scratch contents `f` is the row pair that word `x` names. -/
def Landed (r : Fin 16) (x : BitVec 32) (f : Buf (Elt F) (scM.view.loc (c : Thread nD τ))) : Prop :=
  Pair (F := F) c fH x ((row r).view.read (Elt F) f)

/-- What a started copy delivers is its row at contents that hold the pair. -/
theorem landed (r : Fin 16) (x : BitVec 32) (f : Buf (Elt F) (scM.view.loc (c : Thread nD τ)))
    (hX : ∀ a, k0_off6 x a + S2x4608.size a ≤ S12800x4608.size a)
    (hC : (hbM.slice (Rect.unit (s := S12800x4608) (k0_off6 x) S2x4608.size hX) (fun _ => rfl)).view.Contiguous)
    (hR : ∀ a, (![r.val, 0, 0] : Fin 3 → ℕ) a + S1x2x4608.size a ≤ S16x2x4608.size a) (R : sProp 𝕄) :
    iprop((scM.view.loc (c : Thread nD τ) ↦[(row r).view.set]{fullShare}
        ((row r).view.write (Elt F) f (ReadAs.same.apply ((pairM x hX hC).view.read (Elt F) fH)) Finset.univ)) ∗ R)
      ⊢ iprop((∃ f : Buf (Elt F) (scM.view.loc (c : Thread nD τ)), ⌜Landed (F := F) c fH r x f⌝ ∗ scM.view.loc (c : Thread nD τ) ↦[(row r).view.set]{fullShare} f) ∗ R) := by
  iintro ⟨H, HR⟩
  isplitl [H]
  · iexists _
    isplitr
    swap
    · iexact H
    · ipureintro
      exact ⟨hX, hC, View.read_write_univ _ _⟩
  · iexact HR

/-- Starting a copy turns a free slot into a busy one. -/
theorem start_slot (r : Fin 16) (x : BitVec 32) {α : Type} {Q : α → sProp 𝕄}
    {offS : Fin 1 → ℕ} (hS : ∀ a, offS a + S1.size a ≤ S16.size a) (eS : offS = ![r.val])
    {offR : Fin 3 → ℕ} (hR : ∀ a, offR a + S1x2x4608.size a ≤ S16x2x4608.size a) (eR : offR = ![r.val, 0, 0])
    (hX : ∀ a, k0_off6 x a + S2x4608.size a ≤ S12800x4608.size a)
    (hC : (hbM.slice (Rect.unit (s := S12800x4608) (k0_off6 x) S2x4608.size hX) (fun _ => rfl)).view.Contiguous) {hsrc hdst hsem}
    {K : PUnit → Prog (TpuEff nD τ sig (Elt F) Λ₀ .tc) α} :
    Free (F := F) c fH r ⊢ iprop((Busy (F := F) c fH (Landed (F := F) c fH r x) r -∗ wp frame (wpE (defs₀ (F := F)) Variants.none (c : Thread nD τ) none) Set.univ (K ⟨⟩) Q)
      -∗ wp frame (wpE (defs₀ (F := F)) Variants.none (c : Thread nD τ) none) Set.univ
        (Prog.lift (.enqueueDmaAs (pairM x hX hC)
          (.here (scM.slice (Rect.unit (s := S16x2x4608) offR S1x2x4608.size hR) (fun _ => rfl)))
          .same (.dma ((cc0_scratch1.slice (Rect.unit (s := S16) offS S1.size hS)).squeeze S_ squeezes_S1_S_).sem) hsrc hdst hsem) >>= K) Q) := by
  subst eR
  have e := sem_eq r offS hS eS
  revert hsem
  rw [e]
  intro hsem
  unfold Free Busy
  iintro ⟨⟨%f, Hrow⟩, Hsem, Htok⟩ Hk
  ihave H := (pointsTo_split_subset (Finset.subset_univ (pairM x hX hC).view.set)).1 $$ Htok
  icases H with ⟨Ht1, Ht2⟩
  iapply (Steps.start Variants.none (c : Thread nD τ) none EC () credit rfl credit_pos) $$ [Ht1 Hrow Hsem]
  · isplitl [Ht1]; · iexact Ht1
    isplitl [Hrow]; · iexact Hrow
    iexact Hsem
  iintro Hf
  iapply Hk
  iexists (pairM x hX hC).view.set
  isplitl [Hf]
  · iapply (Transfers.Flight_mono EC (c : Thread nD τ) (landed (F := F) c fH r x f hX hC hR
      iprop(hbM.view.loc (c : Thread nD τ) ↦[(pairM x hX hC).view.set]{Transfers.shareTokN fullShare r.val} fH))) $$ Hf
  · iexact Ht2

/-- The wait for slot `r`'s copy hands the slot back, its row at the contents the copy left. -/
theorem wait_slot (r : Fin 16) (Φ : Buf (Elt F) (scM.view.loc (c : Thread nD τ)) → Prop) {α : Type} {Q : α → sProp 𝕄}
    {offS : Fin 1 → ℕ} (hS : ∀ a, offS a + S1.size a ≤ S16.size a) (eS : offS = ![r.val])
    {offR : Fin 3 → ℕ} (hR : ∀ a, offR a + S1x2x4608.size a ≤ S16x2x4608.size a)
    {srcw : Memref sig .tc .hbm S2x4608 .bf16} {hsrc hdst} {W : Waits sig Unit}
    {K : PUnit → Prog (TpuEff nD τ sig (Elt F) Λ₀ .tc) α} :
    iprop(Busy (F := F) c fH Φ r ∗ owes (c : Thread nD τ) 0 W) ⊢ iprop((iprop((∃ f : Buf (Elt F) (scM.view.loc (c : Thread nD τ)), ⌜Φ f⌝ ∗ scM.view.loc (c : Thread nD τ) ↦[(row r).view.set]{fullShare} f)
        ∗ semVal ((c : Thread nD τ), osem r) 0 ∗ (hbM.view.loc (c : Thread nD τ) ↦{Transfers.shareTokN fullShare r.val} fH)
        ∗ owes (c : Thread nD τ) 0 (insert (osem r, ()) W)) -∗ wp frame (wpE (defs₀ (F := F)) Variants.none (c : Thread nD τ) none) Set.univ (K ⟨⟩) Q)
      -∗ wp frame (wpE (defs₀ (F := F)) Variants.none (c : Thread nD τ) none) Set.univ
        (Prog.lift (.waitDma2 ((cc0_scratch1.slice (Rect.unit (s := S16) offS S1.size hS)).squeeze S_ squeezes_S1_S_).sem srcw
          (scM.slice (Rect.unit (s := S16x2x4608) offR S1x2x4608.size hR) (fun _ => rfl)) hsrc hdst) >>= K) Q) := by
  have e := sem_eq r offS hS eS
  have hs := fun D => Steps.wait (D := D) (Name := ℕ) (Lvl := ℕ) (defs := defs₀ (F := F)) Variants.none (c : Thread nD τ) none (EC (F := F)) (sem := ((cc0_scratch1.slice (Rect.unit (s := S16) offS S1.size hS)).squeeze S_ squeezes_S1_S_).sem)
    (srcw := srcw) (dstw := scM.slice (Rect.unit (s := S16x2x4608) offR S1x2x4608.size hR) (fun _ => rfl)) (hsrc := hsrc) (hdst := hdst) (K := K) (Q := Q) (W := W) () (N := credit) rfl
  simp only [e] at hs
  unfold Busy
  iintro ⟨⟨%I, Hf, Ht2⟩, HO⟩ Hk
  iapply (hs _) $$ [Hf HO]
  · isplitl [Hf]; · iexact Hf
    iexact HO
  iintro ⟨⟨Hrow, Ht1⟩, Hsem, HO⟩
  iapply Hk
  isplitl [Hrow]; · iexact Hrow
  isplitl [Hsem]; · iexact Hsem
  isplitl [Ht1 Ht2]
  · iapply (pointsTo_split_subset (Finset.subset_univ I)).2 $$ [Ht1 Ht2]
    isplitl [Ht1]; · iexact Ht1
    iexact Ht2
  · iexact HO

/-- A load of slot `r`'s row. -/
theorem load_slot (r : Fin 16) {f : Buf (Elt F) (scM.view.loc (c : Thread nD τ))} {α : Type} {Q : α → sProp 𝕄}
    {offR : Fin 3 → ℕ} (hR : ∀ a, offR a + S1x2x4608.size a ≤ S16x2x4608.size a) (eR : offR = ![r.val, 0, 0]) {hl}
    {K : Vec F S1x2x4608 .bf16 → Prog (TpuEff nD τ sig (Elt F) Λ₀ .tc) α} :
    (scM.view.loc (c : Thread nD τ) ↦[(row r).view.set]{fullShare} f)
      ⊢ iprop(((scM.view.loc (c : Thread nD τ) ↦[(row r).view.set]{fullShare} f) -∗
          wp frame (wpE (defs₀ (F := F)) Variants.none (c : Thread nD τ) none) Set.univ (K ((row r).view.read (Elt F) f)) Q)
      -∗ wp frame (wpE (defs₀ (F := F)) Variants.none (c : Thread nD τ) none) Set.univ
        (Prog.lift (.load scM (Rect.unit (s := S16x2x4608) offR S1x2x4608.size hR).toLoadRect hl) >>= K) Q) := by
  subst eR
  exact Steps.load Variants.none (c : Thread nD τ) none (Finset.Subset.refl _)

/-! ## Reading the tables -/

/-- The word of a table at position `p` (zero past its end). -/
def wordAt (f : S12800.Idx → BitVec 32) (p : ℕ) : BitVec 32 := if h : p < 12800 then f (.ofFin ⟨p, h⟩) else 0#32

/-- Reading one entry of a table gives that entry. -/
theorem tab_read {m : Memref sig .tc .smem S12800 .i32} (f : Buf (Elt F) (m.view.loc (c : Thread nD τ))) {off : Fin 1 → ℕ} {p : ℕ}
    (h : ∀ a, off a + S1.size a ≤ S12800.size a) (e : off = ![p]) (x : S1.Idx) :
    (m.access (Rect.unit (s := S12800) off S1.size h)).read (Elt F) f x = wordAt (m.view.read (Elt F) f) p := by
  subst e
  have hp : p < 12800 := by have h0 : p + 1 ≤ 12800 := h 0; omega
  unfold wordAt
  rw [dif_pos hp]
  show m.view.read (Elt F) f _ = m.view.read (Elt F) f _
  congr 1
  funext a
  match a with
  | 0 =>
    apply Fin.ext
    have hx : (x 0).val = 0 := by have := (x 0).isLt; show (x 0).val = 0; have h1 : S1.size 0 = 1 := rfl; omega
    show p + 1 * (x 0).val = p
    omega

section
variable (i : grid0.Coords) (arg5 : Memref sig .tc .vmem S512x1024 .fp8e5m2) (harg5 : arg5.IsWhole) (arg6 : Memref sig .tc .vmem S8x512 .f32) (harg6 : arg6.IsWhole)
  (arg7 : Memref sig .tc .vmem S512x4608 .fp8e4m3) (harg7 : arg7.IsWhole) (arg8 : Memref sig .tc .vmem S512x128 .bf16) (harg8 : arg8.IsWhole)
  (arg10 : Memref sig .tc .vmem S1024x4608 .f32) (harg10 : arg10.IsWhole)
  (h2 : k0_cond2 i = 1#1) (v w : BitVec 32) (hw1 : k0_chk1 i v w)
  (q : PosShare TreeShare) (tk : S12800.Idx → BitVec 32) (id : S12800.Idx → BitVec 32)

/-- The row additions, one position after the other: `Acc p g` before position `p` gives it before the next with the
    row pair of the position's token added into the row the position's number names. -/
def Adds (Acc : ℕ → Buf (Elt F) (arg10.view.loc (c : Thread nD τ)) → Prop) : Prop :=
  ∀ p, v.toNat ≤ p → p < w.toNat → ∀ (h5 : k0_chk5 i (wordAt id p)) (pr : Vec F S1x2x4608 .bf16) (g : Buf (Elt F) (arg10.view.loc (c : Thread nD τ))),
    Pair (F := F) c fH (wordAt tk p) pr → Acc p g →
    Acc (p + 1) ((arg10.access (Rect.unit (s := S1024x4608) (k0_off17 i (wordAt id p)) S1x4608.size (k0_off17_inb i _ h5 h2))).write (Elt F) g
      (k0_pay8 (wordAt tk p) pr ((arg10.access (Rect.unit (s := S1024x4608) (k0_off17 i (wordAt id p)) S1x4608.size (k0_off17_inb i _ h5 h2))).read (Elt F) g)) Finset.univ)

/-- Before trip `k` of the starting loop: the slots below `k` busy, the others free. -/
def startInv (p0 k : ℕ) : sProp 𝕄 :=
  iprop((tkM.view.loc (c : Thread nD τ) ↦{q} (show Buf (Elt F) (tkM.view.loc (c : Thread nD τ)) from tk))
    ∗ bigSep Finset.univ (fun r : Fin 16 => if r.val < k then Busy (F := F) c fH (Landed (F := F) c fH r (wordAt tk (p0 + r.val))) r else Free (F := F) c fH r))

variable (hv : v.toNat ≤ w.toNat) (hw : w.toNat ≤ 12800)
  (htk : ∀ p, p < 12800 → (wordAt tk p).toNat < 12800)

include hv hw htk in
/-- One trip of the starting loop. -/
theorem start_step (t1 : Fin (k0_t1_loop v w).trips) (t2 : Fin (k0_t2_loop v w t1).trips) (acc : Unit) :
    startInv (F := F) c fH q tk (v.toNat + 16 * t1.val) t2.val
      ⊢ wp frame (wpE (defs₀ (F := F)) Variants.none (c : Thread nD τ) none) Set.univ
          (k0_t2_body (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1 h2 v w hw1 t1 t2 acc)
          (fun _ => startInv (F := F) c fH q tk (v.toNat + 16 * t1.val) (t2.val + 1)) := by
  have hr : t2.val < 16 := lt_sixteen hv hw (lt_rows hv hw t1 t2)
  have hp := pos_lt hv hw (lt_rows hv hw t1 t2)
  unfold startInv
  iintro ⟨Htk, Hs⟩
  ihave Hs' := (bigSep_univ_update (Ψ := fun r : Fin 16 => if r.val < t2.val + 1 then Busy (F := F) c fH (Landed (F := F) c fH r (wordAt tk (v.toNat + 16 * t1.val + r.val))) r else Free (F := F) c fH r)
    (⟨t2.val, hr⟩ : Fin 16) (fun r hne => by
      have : r.val ≠ t2.val := fun e => hne (Fin.ext e)
      by_cases h : r.val < t2.val
      · rw [if_pos h, if_pos (by omega)]
      · rw [if_neg h, if_neg (by omega)])) $$ Hs
  simp only [lt_irrefl, if_false, Nat.lt_succ_self, if_true]
  icases Hs' with ⟨Hf, Hback⟩
  unfold k0_t2_body
  iapply (Steps.smem Variants.none (c : Thread nD τ) none (m := tkM) (f := tk)) $$ Htk
  iintro Htk
  rw [tab_read (F := F) c (m := tkM) _ _ (off3 hv hw t1 t2)]
  iapply (Steps.assm Variants.none (c : Thread nD τ) none (chk2_of i _ (htk _ hp)))
  iapply (start_slot (F := F) c fH ⟨t2.val, hr⟩ (wordAt tk (v.toNat + 16 * t1.val + t2.val)) _ (off4 hv hw t1 t2) _ (off5 hv hw t1 t2) _ _) $$ Hf
  iintro Hb
  iapply (le_wp_ret _ _ _ _ _)
  isplitl [Htk]; · iexact Htk
  iapply Hback $$ Hb

/-- Before trip `k` of the adding loop over `n` positions from `p0`: the slots from `k` to `n` busy, the others free, and
    the output block at contents of which `Acc` holds at the position reached. -/
def addInv (Acc : ℕ → Buf (Elt F) (arg10.view.loc (c : Thread nD τ)) → Prop) (p0 n k : ℕ) : sProp 𝕄 :=
  iprop((tkM.view.loc (c : Thread nD τ) ↦{q} (show Buf (Elt F) (tkM.view.loc (c : Thread nD τ)) from tk))
    ∗ (idM.view.loc (c : Thread nD τ) ↦{q} (show Buf (Elt F) (idM.view.loc (c : Thread nD τ)) from id))
    ∗ (∃ W, owes (c : Thread nD τ) 0 W)
    ∗ (∃ g : Buf (Elt F) (arg10.view.loc (c : Thread nD τ)), ⌜Acc (p0 + k) g⌝ ∗ arg10.view.loc (c : Thread nD τ) ↦[arg10.view.set]{fullShare} g)
    ∗ bigSep Finset.univ (fun r : Fin 16 => if k ≤ r.val ∧ r.val < n then Busy (F := F) c fH (Landed (F := F) c fH r (wordAt tk (p0 + r.val))) r else Free (F := F) c fH r))

variable (hid : ∀ p, v.toNat ≤ p → p < w.toNat → (1024 * (i 0).val : Int) ≤ (wordAt id p).toInt ∧ (wordAt id p).toInt < 1024 * ((i 0).val + 1 : Int))
  {Acc : ℕ → Buf (Elt F) (arg10.view.loc (c : Thread nD τ)) → Prop} (hacc : Adds (F := F) c fH i arg10 h2 v w tk id Acc)

include hv hw htk hid hacc in
/-- One trip of the adding loop: its copy is awaited and its row added. -/
theorem add_step (t1 : Fin (k0_t1_loop v w).trips) (t4 : Fin (k0_t4_loop v w t1).trips) (acc : Unit) :
    addInv (F := F) c fH arg10 q tk id Acc (v.toNat + 16 * t1.val) (Words.rows v w t1.val) t4.val
      ⊢ wp frame (wpE (defs₀ (F := F)) Variants.none (c : Thread nD τ) none) Set.univ
          (k0_t4_body (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1 h2 v w hw1 t1 t4 acc)
          (fun _ => addInv (F := F) c fH arg10 q tk id Acc (v.toNat + 16 * t1.val) (Words.rows v w t1.val) (t4.val + 1)) := by
  have hrow := lt_rows' hv hw t1 t4
  have hr : t4.val < 16 := lt_sixteen hv hw hrow
  have hp := pos_lt hv hw hrow
  have hpw : v.toNat + 16 * t1.val + t4.val < w.toNat := Words.pos_lt hv hw (lt_groups hv hw t1) hrow
  have hI := hid (v.toNat + 16 * t1.val + t4.val) (by omega) hpw
  have h5 := chk5_of i _ hI.1 hI.2
  unfold addInv
  iintro ⟨Htk, Hid, ⟨%W, HO⟩, ⟨%g, %hg, Hout⟩, Hs⟩
  ihave Hs' := (bigSep_univ_update (Ψ := fun r : Fin 16 => if t4.val + 1 ≤ r.val ∧ r.val < Words.rows v w t1.val then Busy (F := F) c fH (Landed (F := F) c fH r (wordAt tk (v.toNat + 16 * t1.val + r.val))) r else Free (F := F) c fH r)
    (⟨t4.val, hr⟩ : Fin 16) (fun r hne => by
      have : r.val ≠ t4.val := fun e => hne (Fin.ext e)
      by_cases h : t4.val ≤ r.val ∧ r.val < Words.rows v w t1.val
      · rw [if_pos h, if_pos (by omega)]
      · rw [if_neg h, if_neg (by omega)])) $$ Hs
  rw [if_pos (show t4.val ≤ (⟨t4.val, hr⟩ : Fin 16).val ∧ (⟨t4.val, hr⟩ : Fin 16).val < Words.rows v w t1.val from ⟨le_rfl, hrow⟩),
    if_neg (show ¬(t4.val + 1 ≤ (⟨t4.val, hr⟩ : Fin 16).val ∧ (⟨t4.val, hr⟩ : Fin 16).val < Words.rows v w t1.val) from by simp)]
  icases Hs' with ⟨Hb, Hback⟩
  unfold k0_t4_body
  iapply (Steps.smem Variants.none (c : Thread nD τ) none (m := tkM) (f := tk)) $$ Htk
  iintro Htk
  rw [tab_read (F := F) c (m := tkM) _ _ (off11 hv hw t1 t4)]
  iapply (Steps.assm Variants.none (c : Thread nD τ) none (chk4_of i _ (htk _ hp)))
  iapply (wait_slot (F := F) c fH ⟨t4.val, hr⟩ _ _ (off12 hv hw t1 t4) _) $$ [Hb HO]
  · isplitl [Hb]; · iexact Hb
    iexact HO
  iintro ⟨⟨%f, %hf, Hrow⟩, Hsem, Htok, HO⟩
  iapply (Steps.smem Variants.none (c : Thread nD τ) none (m := tkM) (f := tk)) $$ Htk
  iintro Htk
  rw [tab_read (F := F) c (m := tkM) _ _ (off15 hv hw t1 t4)]
  iapply (load_slot (F := F) c ⟨t4.val, hr⟩ _ (off16 hv hw t1 t4)) $$ Hrow
  iintro Hrow
  iapply (Steps.smem Variants.none (c : Thread nD τ) none (m := idM) (f := id)) $$ Hid
  iintro Hid
  rw [tab_read (F := F) c (m := idM) _ _ (off15 hv hw t1 t4)]
  iapply (Steps.assm Variants.none (c : Thread nD τ) none h5)
  iapply (Steps.load Variants.none (c : Thread nD τ) none (m := arg10) (View.set_slice_subset _ _)) $$ Hout
  iintro Hout
  iapply (Steps.load Variants.none (c : Thread nD τ) none (m := arg10) (View.set_slice_subset _ _)) $$ Hout
  iintro Hout
  iapply (Steps.store Variants.none (c : Thread nD τ) none (m := arg10) (View.set_slice_subset _ _)) $$ Hout
  iintro Hout
  iapply (le_wp_ret _ _ _ _ _)
  isplitl [Htk]; · iexact Htk
  isplitl [Hid]; · iexact Hid
  isplitl [HO]; · iexists _; iexact HO
  isplitl [Hout]
  · iexists _
    isplitr
    swap
    · iexact Hout
    · ipureintro
      exact hacc _ (by omega) hpw h5 _ _ hf hg
  iapply Hback
  unfold Free
  isplitl [Hrow]; · iexists _; iexact Hrow
  isplitl [Hsem]; · iexact Hsem
  iexact Htok

/-- Before group `k`: every slot free, the output block at contents of which `Acc` holds at the group's first position. -/
def groupInv (Acc : ℕ → Buf (Elt F) (arg10.view.loc (c : Thread nD τ)) → Prop) (p : ℕ) : sProp 𝕄 :=
  iprop((tkM.view.loc (c : Thread nD τ) ↦{q} (show Buf (Elt F) (tkM.view.loc (c : Thread nD τ)) from tk))
    ∗ (idM.view.loc (c : Thread nD τ) ↦{q} (show Buf (Elt F) (idM.view.loc (c : Thread nD τ)) from id))
    ∗ (∃ W, owes (c : Thread nD τ) 0 W)
    ∗ (∃ g : Buf (Elt F) (arg10.view.loc (c : Thread nD τ)), ⌜Acc p g⌝ ∗ arg10.view.loc (c : Thread nD τ) ↦[arg10.view.set]{fullShare} g)
    ∗ bigSep Finset.univ (fun r : Fin 16 => Free (F := F) c fH r))

include hv hw htk hid hacc in
/-- One group: its copies are started, then awaited and added. -/
theorem group_step (t1 : Fin (k0_t1_loop v w).trips) (acc : Unit) :
    groupInv (F := F) c fH arg10 q tk id Acc (min (v.toNat + 16 * t1.val) w.toNat)
      ⊢ wp frame (wpE (defs₀ (F := F)) Variants.none (c : Thread nD τ) none) Set.univ
          (k0_t1_body (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1 h2 v w hw1 t1 acc)
          (fun _ => groupInv (F := F) c fH arg10 q tk id Acc (min (v.toNat + 16 * (t1.val + 1)) w.toNat)) := by
  have hb := Words.base_lt hv hw (lt_groups hv hw t1)
  have hT2 := Words.trips2 hv hw (lt_groups hv hw t1)
  rw [show min (v.toNat + 16 * t1.val) w.toNat = v.toNat + 16 * t1.val from min_eq_left (by omega),
    show min (v.toNat + 16 * (t1.val + 1)) w.toNat = v.toNat + 16 * t1.val + Words.rows v w t1.val from by unfold Words.rows; omega]
  unfold groupInv k0_t1_body
  iintro ⟨Htk, Hid, HO, Hout, Hs⟩
  sl_for (fun k (_ : Unit) => startInv (F := F) c fH q tk (v.toNat + 16 * t1.val) k) $$ [Htk Hs]
  · exact fun t2 acc => start_step (F := F) c fH i arg5 harg5 arg6 harg6 arg7 harg7 arg8 harg8 arg10 harg10 h2 v w hw1 q tk hv hw htk t1 t2 acc
  · unfold startInv
    isplitl [Htk]; · iexact Htk
    simp only [Nat.not_lt_zero, if_false]
    iexact Hs
  iintro %_ HI
  rw [show Scf.trips (k0_t2_loop v w t1).lb (k0_t2_loop v w t1).ub (k0_t2_loop v w t1).st = Words.rows v w t1.val from hT2]
  unfold startInv
  icases HI with ⟨Htk, Hs⟩
  sl_exec
  sl_for (fun k (_ : Unit) => addInv (F := F) c fH arg10 q tk id Acc (v.toNat + 16 * t1.val) (Words.rows v w t1.val) k) $$ [Htk Hid HO Hout Hs]
  · exact fun t4 acc => add_step (F := F) c fH i arg5 harg5 arg6 harg6 arg7 harg7 arg8 harg8 arg10 harg10 h2 v w hw1 q tk id hv hw htk hid hacc t1 t4 acc
  · unfold addInv
    isplitl [Htk]; · iexact Htk
    isplitl [Hid]; · iexact Hid
    isplitl [HO]; · iexact HO
    isplitl [Hout]; · iexact Hout
    simp only [Nat.zero_le, true_and]
    iexact Hs
  iintro %_ HI
  rw [show Scf.trips (k0_t4_loop v w t1).lb (k0_t4_loop v w t1).ub (k0_t4_loop v w t1).st = Words.rows v w t1.val from hT2]
  unfold addInv
  icases HI with ⟨Htk, Hid, HO, Hout, Hs⟩
  sl_exec
  iapply (le_wp_ret _ _ _ _ _)
  isplitl [Htk]; · iexact Htk
  isplitl [Hid]; · iexact Hid
  isplitl [HO]; · iexact HO
  isplitl [Hout]; · iexact Hout
  have e : ∀ r : Fin 16, ¬(Words.rows v w t1.val ≤ r.val ∧ r.val < Words.rows v w t1.val) := fun r h => by omega
  simp only [e, if_false]
  iexact Hs

end

end Cert.KernelIdeal.Hand

end
-- ==== Proof.KernelIdealBody.lean ====
/- The kernel's body of `KernelIdeal` at one grid point: the tile's block product added into the output block, and at the
   last reduction step the additions of the tile's rows. -/
module

public import proofs.«01_k».proof.Proof.Gen.KernelIdeal.Skeleton
public import proofs.«01_k».proof.Proof.KernelIdealScatter

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The second operand of the block product: the codes times the rows' scales, by blocks of 128 columns. -/
def kHH (v44 : FVec F S512x128 .bf16) (v46 : FVec F S512x4608 .fp8e4m3) : FVec F S512x4608 .bf16 :=
  concatenate S512x4608 1 (⟨S512x128, k0_pay17 v44 v46⟩ :: ⟨S512x128, k0_pay18 v44 v46⟩ :: ⟨S512x128, k0_pay19 v44 v46⟩ :: ⟨S512x128, k0_pay20 v44 v46⟩ :: ⟨S512x128, k0_pay21 v44 v46⟩ :: ⟨S512x128, k0_pay22 v44 v46⟩ :: ⟨S512x128, k0_pay23 v44 v46⟩ :: ⟨S512x128, k0_pay24 v44 v46⟩ :: ⟨S512x128, k0_pay25 v44 v46⟩ :: ⟨S512x128, k0_pay26 v44 v46⟩ :: ⟨S512x128, k0_pay27 v44 v46⟩ :: ⟨S512x128, k0_pay28 v44 v46⟩ :: ⟨S512x128, k0_pay29 v44 v46⟩ :: ⟨S512x128, k0_pay30 v44 v46⟩ :: ⟨S512x128, k0_pay31 v44 v46⟩ :: ⟨S512x128, k0_pay32 v44 v46⟩ :: ⟨S512x128, k0_pay33 v44 v46⟩ :: ⟨S512x128, k0_pay34 v44 v46⟩ :: ⟨S512x128, k0_pay35 v44 v46⟩ :: ⟨S512x128, k0_pay36 v44 v46⟩ :: ⟨S512x128, k0_pay37 v44 v46⟩ :: ⟨S512x128, k0_pay38 v44 v46⟩ :: ⟨S512x128, k0_pay39 v44 v46⟩ :: ⟨S512x128, k0_pay40 v44 v46⟩ :: ⟨S512x128, k0_pay41 v44 v46⟩ :: ⟨S512x128, k0_pay42 v44 v46⟩ :: ⟨S512x128, k0_pay43 v44 v46⟩ :: ⟨S512x128, k0_pay44 v44 v46⟩ :: ⟨S512x128, k0_pay45 v44 v46⟩ :: ⟨S512x128, mulf (k0_pay46 v46) v44⟩ :: ⟨S512x128, k0_pay1 v44 (k0_pay16 v46)⟩ :: ⟨S512x128, k0_pay2 v44 (k0_pay16 v46)⟩ :: ⟨S512x128, k0_pay3 v44 (k0_pay16 v46)⟩ :: ⟨S512x128, k0_pay4 v44 (k0_pay16 v46)⟩ :: ⟨S512x128, k0_pay5 v44 (k0_pay16 v46)⟩ :: ⟨S512x128, k0_pay6 v44 (k0_pay16 v46)⟩ :: [])
    concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x4608_d1

/-- The first reduction step of a tile. -/
abbrev first (i : grid0.Coords) : Prop := Scalar.cmpi .ne (Scalar.extui (Scalar.cmpi .eq (BitVec.ofNat 32 (i 1).val) 0#32) : BitVec 32) 0#32 = 1#1

/-- Reading one entry of the tile boundaries gives that entry. -/
theorem tab_read31 (c : Dev nD) (f : Buf (Elt F) (stM.view.loc (c : Thread nD τ))) {off : Fin 1 → ℕ} (p : Fin 31)
    (h : ∀ a, off a + S1.size a ≤ S31.size a) (e : off = ![p.val]) (x : S1.Idx) :
    (stM.access (Rect.unit (s := S31) off S1.size h)).read (Elt F) f x = (f : S31.Idx → BitVec 32) (.ofFin p) := by
  subst e
  show (f : S31.Idx → BitVec 32) _ = (f : S31.Idx → BitVec 32) _
  congr 1
  funext a
  match a with
  | 0 =>
    apply Fin.ext
    have hx : (x 0).val = 0 := by have := (x 0).isLt; show (x 0).val = 0; have h1 : S1.size 0 = 1 := rfl; omega
    show p.val + 1 * (x 0).val = p.val
    omega

/-- The first boundary a tile reads is its own number. -/
theorem off1_eq (i : grid0.Coords) : k0_off1 i = ![(i 0).val] := by
  have h : (i 0).val < 30 := (i 0).isLt
  show ![(BitVec.ofNat 32 (i 0).val).toNat] = _
  rw [BitVec.toNat_ofNat, Nat.mod_eq_of_lt (by omega)]

/-- The second boundary a tile reads is its number plus one. -/
theorem off2_eq (i : grid0.Coords) : k0_off2 i = ![(i 0).val + 1] := by
  have h : (i 0).val < 30 := (i 0).isLt
  show ![(Scalar.addi (BitVec.ofNat 32 (i 0).val) 1#32).toNat] = _
  rw [show (Scalar.addi (BitVec.ofNat 32 (i 0).val) 1#32).toNat = (i 0).val + 1 from
    Words.toNat_of_isInt (Affine.addi (e := (((i 0).val + 1 : ℕ) : Int)) (Affine.ofNat (e := ((i 0).val : Int)) (i 0).val ⟨rfl, by omega⟩) (Affine.ofNat 1 ⟨rfl, by decide⟩) (by omega)) (by omega)]

variable (c : Dev nD) (fH : Buf (Elt F) (hbM.view.loc (c : Thread nD τ)))

section
variable (i : grid0.Coords) (arg5 : Memref sig .tc .vmem S512x1024 .fp8e5m2) (harg5 : arg5.IsWhole) (arg6 : Memref sig .tc .vmem S8x512 .f32) (harg6 : arg6.IsWhole)
  (arg7 : Memref sig .tc .vmem S512x4608 .fp8e4m3) (harg7 : arg7.IsWhole) (arg8 : Memref sig .tc .vmem S512x128 .bf16) (harg8 : arg8.IsWhole)
  (arg10 : Memref sig .tc .vmem S1024x4608 .f32) (harg10 : arg10.IsWhole)
  (q : PosShare TreeShare) (st : S31.Idx → BitVec 32) (tk : S12800.Idx → BitVec 32) (id : S12800.Idx → BitVec 32)
  (b5 : Buf (Elt F) (arg5.view.loc (c : Thread nD τ))) (b6 : Buf (Elt F) (arg6.view.loc (c : Thread nD τ)))
  (b7 : Buf (Elt F) (arg7.view.loc (c : Thread nD τ))) (b8 : Buf (Elt F) (arg8.view.loc (c : Thread nD τ)))

/-- The output block's rectangle, the whole block. -/
abbrev RO : Rect S1024x4608 := Rect.unit (s := S1024x4608) ![0, 0] S1024x4608.size inb_S1024x4608_S1024x4608_0_0

/-- The output block with the step's block product added. -/
def prod (g : Buf (Elt F) (arg10.view.loc (c : Thread nD τ))) : Buf (Elt F) (arg10.view.loc (c : Thread nD τ)) :=
  (arg10.access RO).write (Elt F) g
    (k0_pay7 (k0_pay13 ((arg5.access (Rect.unit (s := S512x1024) ![0, 0] S512x1024.size inb_S512x1024_S512x1024_0_0)).read (Elt F) b5)
          ((arg6.access (Rect.unit (s := S8x512) ![0, 0] S8x512.size inb_S8x512_S8x512_0_0)).read (Elt F) b6))
        (kHH (k0_pay14 ((arg8.access (Rect.unit (s := S512x128) ![0, 0] S512x128.size inb_S512x128_S512x128_0_0)).read (Elt F) b8))
          (k0_pay15 ((arg7.access (Rect.unit (s := S512x4608) ![0, 0] S512x4608.size inb_S512x4608_S512x4608_0_0)).read (Elt F) b7)))
        ((arg10.access RO).read (Elt F) g)) Finset.univ

/-- The output block as a step finds it, zeroed at a tile's first step. -/
def start0 (g : Buf (Elt F) (arg10.view.loc (c : Thread nD τ))) : Buf (Elt F) (arg10.view.loc (c : Thread nD τ)) :=
  open Classical in if first i then (arg10.access RO).write (Elt F) g k0_pay12 Finset.univ else g

/-- The input blocks at a step. -/
def Ins : sProp 𝕄 :=
  iprop((arg5.view.loc (c : Thread nD τ) ↦[arg5.view.set]{fullShare} b5) ∗ (arg6.view.loc (c : Thread nD τ) ↦[arg6.view.set]{fullShare} b6)
      ∗ (arg7.view.loc (c : Thread nD τ) ↦[arg7.view.set]{fullShare} b7) ∗ (arg8.view.loc (c : Thread nD τ) ↦[arg8.view.set]{fullShare} b8))

/-- What a step holds beside its windows: the tables, the core's owed waits, the sixteen slots. -/
def Rest : sProp 𝕄 :=
  iprop((stM.view.loc (c : Thread nD τ) ↦{q} (show Buf (Elt F) (stM.view.loc (c : Thread nD τ)) from st))
    ∗ (tkM.view.loc (c : Thread nD τ) ↦{q} (show Buf (Elt F) (tkM.view.loc (c : Thread nD τ)) from tk))
    ∗ (idM.view.loc (c : Thread nD τ) ↦{q} (show Buf (Elt F) (idM.view.loc (c : Thread nD τ)) from id))
    ∗ (∃ W, owes (c : Thread nD τ) 0 W)
    ∗ bigSep Finset.univ (fun r : Fin 16 => Free (F := F) c fH r))

/-- The tile's first position and the next tile's. -/
abbrev lo : BitVec 32 := st (.ofFin ⟨(i 0).val, lt_trans (show (i 0).val < 30 from (i 0).isLt) (by decide)⟩)
abbrev hi : BitVec 32 := st (.ofFin ⟨(i 0).val + 1, Nat.succ_lt_succ (show (i 0).val < 30 from (i 0).isLt)⟩)

/-- The block products' operands of a step, as the body's first part returns them. -/
def parts : Σ' (_ : BitVec 32) (_ : BitVec 32) (_ : FVec F S1024x512 .bf16) (_ : FVec F S512x128 .bf16), FVec F S512x4608 .fp8e4m3 :=
  ⟨BitVec.ofNat 32 (i 0).val, BitVec.ofNat 32 (i 1).val,
    k0_pay13 ((arg5.access (Rect.unit (s := S512x1024) ![0, 0] S512x1024.size inb_S512x1024_S512x1024_0_0)).read (Elt F) b5)
      ((arg6.access (Rect.unit (s := S8x512) ![0, 0] S8x512.size inb_S8x512_S8x512_0_0)).read (Elt F) b6),
    k0_pay14 ((arg8.access (Rect.unit (s := S512x128) ![0, 0] S512x128.size inb_S512x128_S512x128_0_0)).read (Elt F) b8),
    k0_pay15 ((arg7.access (Rect.unit (s := S512x4608) ![0, 0] S512x4608.size inb_S512x4608_S512x4608_0_0)).read (Elt F) b7)⟩

/-- The body's first part: the output block zeroed at a tile's first step, the input blocks read. -/
theorem part1 (g : Buf (Elt F) (arg10.view.loc (c : Thread nD τ))) :
    iprop(Ins (F := F) c arg5 arg6 arg7 arg8 b5 b6 b7 b8 ∗ (arg10.view.loc (c : Thread nD τ) ↦[arg10.view.set]{fullShare} g))
    ⊢ wp frame (wpE (defs₀ (F := F)) Variants.none (c : Thread nD τ) none) Set.univ
        (k0_part1 (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1)
        (fun x => iprop(⌜x = parts c i arg5 arg6 arg7 arg8 b5 b6 b7 b8⌝ ∗ Ins (F := F) c arg5 arg6 arg7 arg8 b5 b6 b7 b8
          ∗ arg10.view.loc (c : Thread nD τ) ↦[arg10.view.set]{fullShare} (start0 c i arg10 g))) := by
  rw [k0_part1_eq_skeleton]
  unfold k0_part1_skel
  by_cases h1 : first i
  · refine BIBase.Entails.trans ?_ (Steps.pos Variants.none (c : Thread nD τ) none h1)
    have e : start0 c i arg10 g = (arg10.access RO).write (Elt F) g k0_pay12 Finset.univ := if_pos h1
    unfold Ins
    iintro ⟨⟨H5, H6, H7, H8⟩, Hout⟩
    iapply (Steps.load Variants.none (c : Thread nD τ) none (m := arg10) (View.set_slice_subset _ _)) $$ Hout
    iintro Hout
    iapply (Steps.store Variants.none (c : Thread nD τ) none (m := arg10) (View.set_slice_subset _ _)) $$ Hout
    iintro Hout
    iapply (Steps.load Variants.none (c : Thread nD τ) none (m := arg5) (View.set_slice_subset _ _)) $$ H5
    iintro H5
    iapply (Steps.load Variants.none (c : Thread nD τ) none (m := arg6) (View.set_slice_subset _ _)) $$ H6
    iintro H6
    iapply (Steps.load Variants.none (c : Thread nD τ) none (m := arg8) (View.set_slice_subset _ _)) $$ H8
    iintro H8
    iapply (Steps.load Variants.none (c : Thread nD τ) none (m := arg7) (View.set_slice_subset _ _)) $$ H7
    iintro H7
    iapply (le_wp_ret _ _ _ _ _)
    isplitr; · ipureintro; rfl
    isplitl [H5 H6 H7 H8]
    · isplitl [H5]; · iexact H5
      isplitl [H6]; · iexact H6
      isplitl [H7]; · iexact H7
      iexact H8
    rw [e]; iexact Hout
  · refine BIBase.Entails.trans ?_ (Steps.neg Variants.none (c : Thread nD τ) none h1)
    have e : start0 c i arg10 g = g := if_neg h1
    unfold Ins
    iintro ⟨⟨H5, H6, H7, H8⟩, Hout⟩
    iapply (Steps.load Variants.none (c : Thread nD τ) none (m := arg5) (View.set_slice_subset _ _)) $$ H5
    iintro H5
    iapply (Steps.load Variants.none (c : Thread nD τ) none (m := arg6) (View.set_slice_subset _ _)) $$ H6
    iintro H6
    iapply (Steps.load Variants.none (c : Thread nD τ) none (m := arg8) (View.set_slice_subset _ _)) $$ H8
    iintro H8
    iapply (Steps.load Variants.none (c : Thread nD τ) none (m := arg7) (View.set_slice_subset _ _)) $$ H7
    iintro H7
    iapply (le_wp_ret _ _ _ _ _)
    isplitr; · ipureintro; rfl
    isplitl [H5 H6 H7 H8]
    · isplitl [H5]; · iexact H5
      isplitl [H6]; · iexact H6
      isplitl [H7]; · iexact H7
      iexact H8
    rw [e]; iexact Hout

/-- One grid point of the kernel. -/
theorem body (g : Buf (Elt F) (arg10.view.loc (c : Thread nD τ))) (Post : Buf (Elt F) (arg10.view.loc (c : Thread nD τ)) → Prop)
    (hv : (lo i st).toNat ≤ (hi i st).toNat) (hw : (hi i st).toNat ≤ 12800) (htk : ∀ p, p < 12800 → (wordAt tk p).toNat < 12800)
    (hid : ∀ p, (lo i st).toNat ≤ p → p < (hi i st).toNat → (1024 * (i 0).val : Int) ≤ (wordAt id p).toInt ∧ (wordAt id p).toInt < 1024 * ((i 0).val + 1 : Int))
    (hP0 : ¬ k0_cond2 i = 1#1 → Post (prod c arg5 arg6 arg7 arg8 arg10 b5 b6 b7 b8 (start0 c i arg10 g)))
    (hP1 : ∀ h2 : k0_cond2 i = 1#1, ∃ Acc : ℕ → Buf (Elt F) (arg10.view.loc (c : Thread nD τ)) → Prop,
      Adds (F := F) c fH i arg10 h2 (lo i st) (hi i st) tk id Acc
        ∧ Acc (lo i st).toNat (prod c arg5 arg6 arg7 arg8 arg10 b5 b6 b7 b8 (start0 c i arg10 g)) ∧ ∀ g', Acc (hi i st).toNat g' → Post g') :
    iprop(Ins (F := F) c arg5 arg6 arg7 arg8 b5 b6 b7 b8 ∗ (arg10.view.loc (c : Thread nD τ) ↦[arg10.view.set]{fullShare} g) ∗ Rest (F := F) c fH q st tk id)
    ⊢ wp frame (wpE (defs₀ (F := F)) Variants.none (c : Thread nD τ) none) Set.univ
        (cc0_tied_grad (F := F) i stM (Memref.isWhole_whole _) idM (Memref.isWhole_whole _) tkM (Memref.isWhole_whole _) arg5 harg5 arg6 harg6 arg7 harg7 arg8 harg8
            hbM (Memref.isWhole_whole _) arg10 harg10 scM (Memref.isWhole_whole _) cc0_scratch1)
        (fun _ => iprop(Ins (F := F) c arg5 arg6 arg7 arg8 b5 b6 b7 b8
          ∗ (∃ g' : Buf (Elt F) (arg10.view.loc (c : Thread nD τ)), ⌜Post g'⌝ ∗ arg10.view.loc (c : Thread nD τ) ↦[arg10.view.set]{fullShare} g')
          ∗ Rest (F := F) c fH q st tk id)) := by
  generalize hMM : prod c arg5 arg6 arg7 arg8 arg10 b5 b6 b7 b8 (start0 c i arg10 g) = MM at hP0 hP1
  have finish : iprop(Ins (F := F) c arg5 arg6 arg7 arg8 b5 b6 b7 b8 ∗ (arg10.view.loc (c : Thread nD τ) ↦[arg10.view.set]{fullShare} MM) ∗ Rest (F := F) c fH q st tk id)
      ⊢ wp frame (wpE (defs₀ (F := F)) Variants.none (c : Thread nD τ) none) Set.univ
        (if h : k0_cond2 i = 1#1 then do
            let v130 ← smemLoad stM (Rect.unit (s := S31) (k0_off1 i) S1.size (k0_off1_inb i h)) numel1_S1 rfl
            let v133 ← smemLoad stM (Rect.unit (s := S31) (k0_off2 i) S1.size (k0_off2_inb i h)) numel1_S1 rfl
            let a ← Prog.lift (TpuEff.assume (k0_chk1 i v130 v133) (k0_chk1.dec i v130 v133))
            Scf.Loop.for (k0_t1_loop v130 v133) (k0_t1_ok i v130 v133 a.down h) (PUnit.unit : PUnit) (k0_t1_body (F := F) i stM (Memref.isWhole_whole _) idM (Memref.isWhole_whole _) tkM (Memref.isWhole_whole _) arg5 harg5 arg6 harg6 arg7 harg7 arg8 harg8
              hbM (Memref.isWhole_whole _) arg10 harg10 scM (Memref.isWhole_whole _) cc0_scratch1 h v130 v133 a.down)
            Scf.Loop.for (k0_t6_loop v130 v133) (k0_t6_ok i v130 v133 a.down h) (PUnit.unit : PUnit) (k0_t6_body (F := F) i stM (Memref.isWhole_whole _) idM (Memref.isWhole_whole _) tkM (Memref.isWhole_whole _) arg5 harg5 arg6 harg6 arg7 harg7 arg8 harg8
              hbM (Memref.isWhole_whole _) arg10 harg10 scM (Memref.isWhole_whole _) cc0_scratch1 h v130 v133 a.down)
            pure (PUnit.unit : PUnit)
          else pure (PUnit.unit : PUnit))
        (fun _ => iprop(Ins (F := F) c arg5 arg6 arg7 arg8 b5 b6 b7 b8
          ∗ (∃ g' : Buf (Elt F) (arg10.view.loc (c : Thread nD τ)), ⌜Post g'⌝ ∗ arg10.view.loc (c : Thread nD τ) ↦[arg10.view.set]{fullShare} g')
          ∗ Rest (F := F) c fH q st tk id)) := by
    by_cases h2 : k0_cond2 i = 1#1
    · rw [dif_pos h2]
      obtain ⟨Acc, hA, hA0, hA1⟩ := hP1 h2
      unfold Rest
      iintro ⟨HI, Hout, Hst, Htk, Hid, HO, Hs⟩
      iapply (Steps.smem Variants.none (c : Thread nD τ) none (m := stM) (f := st)) $$ Hst
      iintro Hst
      rw [tab_read31 (F := F) c _ ⟨(i 0).val, lt_trans (show (i 0).val < 30 from (i 0).isLt) (by decide)⟩ _ (off1_eq i)]
      iapply (Steps.smem Variants.none (c : Thread nD τ) none (m := stM) (f := st)) $$ Hst
      iintro Hst
      rw [tab_read31 (F := F) c _ ⟨(i 0).val + 1, Nat.succ_lt_succ (show (i 0).val < 30 from (i 0).isLt)⟩ _ (off2_eq i)]
      iapply (Steps.assm Variants.none (c : Thread nD τ) none (chk1_of hv hw i))
      sl_for (fun k (_ : Unit) => groupInv (F := F) c fH arg10 q tk id Acc (min ((lo i st).toNat + 16 * k) (hi i st).toNat)) $$ [Htk Hid HO Hout Hs]
      · exact fun t1 acc => group_step (F := F) c fH i arg5 harg5 arg6 harg6 arg7 harg7 arg8 harg8 arg10 harg10 h2 (lo i st) (hi i st) (chk1_of hv hw i) q tk id hv hw htk hid hA t1 acc
      · unfold groupInv
        isplitl [Htk]; · iexact Htk
        isplitl [Hid]; · iexact Hid
        isplitl [HO]; · iexact HO
        isplitl [Hout]
        · iexists MM
          isplitr
          · ipureintro
            rw [Nat.mul_zero, Nat.add_zero, min_eq_left hv]; exact hA0
          · iexact Hout
        · iexact Hs
      iintro %_ HI2
      rw [show min ((lo i st).toNat + 16 * Scf.trips (k0_t1_loop (lo i st) (hi i st)).lb (k0_t1_loop (lo i st) (hi i st)).ub (k0_t1_loop (lo i st) (hi i st)).st) (hi i st).toNat = (hi i st).toNat from by
        rw [show Scf.trips (k0_t1_loop (lo i st) (hi i st)).lb (k0_t1_loop (lo i st) (hi i st)).ub (k0_t1_loop (lo i st) (hi i st)).st = Words.groups (lo i st) (hi i st) from Words.trips1 hv hw]
        unfold Words.groups; omega]
      unfold groupInv
      icases HI2 with ⟨Htk, Hid, HO, ⟨%g', %hg', Hout⟩, Hs⟩
      sl_exec
      iapply (le_wp_ret _ _ _ _ _)
      isplitl [HI]; · iexact HI
      isplitl [Hout]
      · iexists g'
        isplitr
        · ipureintro; exact hA1 _ hg'
        · iexact Hout
      isplitl [Hst]; · iexact Hst
      isplitl [Htk]; · iexact Htk
      isplitl [Hid]; · iexact Hid
      isplitl [HO]; · iexact HO
      iexact Hs
    · rw [dif_neg h2]
      iintro ⟨HI, Hout, HR⟩
      iapply (le_wp_ret _ _ _ _ _)
      isplitl [HI]; · iexact HI
      isplitl [Hout]
      · iexists MM
        isplitr
        · ipureintro; exact hP0 h2
        · iexact Hout
      iexact HR
  rw [cc0_tied_grad_eq_skeleton]
  unfold cc0_tied_grad_skel
  rw [wp_bind]
  refine BIBase.Entails.trans ?_ (Idealize.SL.Sem.wp_mono _ _ _ (Q := fun x => iprop((⌜x = parts c i arg5 arg6 arg7 arg8 b5 b6 b7 b8⌝ ∗ Ins (F := F) c arg5 arg6 arg7 arg8 b5 b6 b7 b8
          ∗ arg10.view.loc (c : Thread nD τ) ↦[arg10.view.set]{fullShare} (start0 c i arg10 g)) ∗ Rest (F := F) c fH q st tk id)) fun x => ?_)
  · iintro ⟨HI, Hout, HR⟩
    iapply (wp_frame_r _ _ _)
    isplitr [HR]
    · iapply (part1 (F := F) c i arg5 harg5 arg6 harg6 arg7 harg7 arg8 harg8 arg10 harg10 b5 b6 b7 b8 g)
      isplitl [HI]; · iexact HI
      iexact Hout
    · iexact HR
  iintro ⟨⟨%hx, HI, Hout⟩, HR⟩
  subst hx
  unfold parts
  rw [k0_part2_eq_skeleton]
  unfold k0_part2_skel
  iapply (Steps.load Variants.none (c : Thread nD τ) none (m := arg10) (View.set_slice_subset _ _)) $$ Hout
  iintro Hout
  iapply (Steps.load Variants.none (c : Thread nD τ) none (m := arg10) (View.set_slice_subset _ _)) $$ Hout
  iintro Hout
  iapply (Steps.store Variants.none (c : Thread nD τ) none (m := arg10) (View.set_slice_subset _ _)) $$ Hout
  iintro Hout
  iapply finish
  isplitl [HI]; · iexact HI
  isplitl [Hout]
  · rw [← hMM]; iexact Hout
  iexact HR

end

end Cert.KernelIdeal.Hand

end
-- ==== Proof.KernelIdealFrame.lean ====
/- The launch of `KernelIdeal`: what the pipeline hands the kernel's body dealt into sixteen slots and taken back, the proof
   data, the run, and the frame claim. -/
module

public import proofs.«01_k».proof.Proof.KernelIdealBody
public import Idealize.ShloMosaic.Lib.Pipeline.FrameBody
public import Idealize.ShloMosaic.Lib.Claim
public import Idealize.ShloMosaic.Lib.IndicatorCount
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The sixteen slots -/

section Slots
variable (c : Dev nD) (fH : Buf (Elt F) (hbM.view.loc (c : Thread nD τ)))

/-- The elements of the scratch buffer in its row `r`. -/
abbrev rowSet (r : Fin 16) : Finset (Idx (scM.view.loc (c : Thread nD τ))) := (row r).view.set

/-- Different rows of the scratch buffer do not overlap. -/
theorem rowSet_disj (r r' : Fin 16) (h : r ≠ r') : Disjoint (rowSet c r) (rowSet c r') := by
  rw [Finset.disjoint_left]
  intro y hy hy'
  obtain ⟨x, -, hx⟩ := Finset.mem_map.mp hy
  obtain ⟨x', -, hx'⟩ := Finset.mem_map.mp hy'
  have e := congrArg (fun z : S16x2x4608.Idx => (z 0).val) (hx.trans hx'.symm)
  have e' : r.val + 1 * (x 0).val = r'.val + 1 * (x' 0).val := e
  have h0 : (x 0).val < 1 := (x 0).isLt
  have h0' : (x' 0).val < 1 := (x' 0).isLt
  exact h (Fin.ext (by omega))

/-- What is left of the scratch buffer and of the copied array's share once the slots are dealt. -/
def Left : sProp 𝕄 :=
  iprop((hbM.view.loc (c : Thread nD τ) ↦{Transfers.shareDrop fullShare 16} fH)
    ∗ (∃ f : Buf (Elt F) (scM.view.loc (c : Thread nD τ)), scM.view.loc (c : Thread nD τ) ↦[Finset.univ \ (Finset.univ : Finset (Fin 16)).biUnion (rowSet c)]{fullShare} f))

/-- The scratch buffer, its semaphores and the copied array divide into sixteen free slots and what is left over. -/
theorem slots_deal :
    iprop((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} fH))
    ⊢ iprop(bigSep Finset.univ (fun r : Fin 16 => Free (F := F) c fH r) ∗ Left (F := F) c fH) := by
  unfold Free Left Pipeline.ownSems0
  rw [bigSep_sep', bigSep_sep']
  iintro ⟨⟨%f, Hs⟩, Hsem, Hh⟩
  ihave Hs := (pointsTo_split_subset (Finset.subset_univ ((Finset.univ : Finset (Fin 16)).biUnion (rowSet c)))).1 $$ Hs
  icases Hs with ⟨Hs, Hr⟩
  ihave Hs := (BIBase.Entails.of_eq (pointsTo_biUnion Finset.univ (rowSet c) (fun r _ r' _ h => rowSet_disj c r r' h))) $$ Hs
  ihave Hh := (Transfers.pointsTo_toks_split fullShare 16) $$ Hh
  icases Hh with ⟨Hd, Ht⟩
  isplitl [Hs Hsem Ht]
  · isplitl [Hs]
    · have e : ∀ r : Fin 16, iprop(scM.view.loc (c : Thread nD τ) ↦[rowSet c r]{fullShare} f)
          ⊢ (iprop(∃ f : Buf (Elt F) (scM.view.loc (c : Thread nD τ)), scM.view.loc (c : Thread nD τ) ↦[(row r).view.set]{fullShare} f) : sProp 𝕄) := fun r => by
        iintro H; iexists f; iexact H
      have e' : iprop(bigSep Finset.univ (fun r : Fin 16 => iprop(scM.view.loc (c : Thread nD τ) ↦[rowSet c r]{fullShare} f)))
          ⊢ (iprop(bigSep Finset.univ (fun r : Fin 16 => iprop(∃ f : Buf (Elt F) (scM.view.loc (c : Thread nD τ)), scM.view.loc (c : Thread nD τ) ↦[(row r).view.set]{fullShare} f))) : sProp 𝕄) :=
        bigSep_mono fun r _ => e r
      iapply e'
      iexact Hs
    isplitl [Hsem]; · iexact Hsem
    iexact Ht
  isplitl [Hd]; · iexact Hd
  iexists f; iexact Hr

/-- Sixteen free slots and what is left over make the scratch buffer, its semaphores and the copied array whole again. -/
theorem slots_back :
    iprop(bigSep Finset.univ (fun r : Fin 16 => Free (F := F) c fH r) ∗ Left (F := F) c fH)
    ⊢ iprop((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} fH)) := by
  unfold Free Left Pipeline.ownSems0
  rw [bigSep_sep', bigSep_sep']
  iintro ⟨⟨Hs, Hsem, Ht⟩, Hd, ⟨%f, Hr⟩⟩
  isplitl [Hs Hr]
  · haveI : Nonempty (Buf (Elt F) (scM.view.loc (c : Thread nD τ))) := ⟨f⟩
    ihave Hs := (bigSep_exists_pi (Y := fun _ : Fin 16 => Buf (Elt F) (scM.view.loc (c : Thread nD τ))) Finset.univ
      (fun r f => (scM.view.loc (c : Thread nD τ) ↦[rowSet c r]{fullShare} f : sProp 𝕄))) $$ Hs
    icases Hs with ⟨%fs, Hs⟩
    ihave Hs := (pointsTo_biUnion_join Finset.univ (rowSet c) fs f (fun r _ r' _ h => rowSet_disj c r r' h)) $$ Hs
    icases Hs with ⟨%g, -, Hs⟩
    iexists ((Finset.univ \ (Finset.univ : Finset (Fin 16)).biUnion (rowSet c)).piecewise f g)
    ihave H := (pointsTo_join (ℓ := scM.view.loc (c : Thread nD τ)) (f := g) (g := f) (Finset.disjoint_sdiff : Disjoint ((Finset.univ : Finset (Fin 16)).biUnion (rowSet c)) (Finset.univ \ (Finset.univ : Finset (Fin 16)).biUnion (rowSet c)))) $$ [Hs Hr]
    · isplitl [Hs]; · iexact Hs
      iexact Hr
    rw [Finset.union_sdiff_of_subset (Finset.subset_univ _)]
    iexact H
  isplitl [Hsem]; · iexact Hsem
  iapply (Transfers.pointsTo_toks_join fullShare 16)
  isplitl [Hd]; · iexact Hd
  iexact Ht

end Slots

/-! ## The contents at the region's entry -/

section Entry
variable (m : (ℓ : Loc nD τ sig) → Buf (Elt F) ℓ)

/-- A buffer's contents when the region starts. -/
abbrev V (c : Dev nD) (b : Ref sig .tc) : Buf (Elt F) ((c : Thread nD τ).loc b) := StableHlo.after (hostOps0 (F := F)) (fun b => m (c, b)) b

/-- The host's operations before the kernel run and leave the arrays at `V`. -/
theorem main_at : Pipeline.HMainP (Ix := Unit) (Name := ℕ) (U := Pipeline.UD sig nD τ) (Lvl := ℕ) (pcfgs (F := F)) 0 (defs₀ (F := F)) Variants.none m main (V m) :=
  Pipeline.hmainP_prefix (pcfgs (F := F)) 0 (defs₀ (F := F)) Variants.none m main hostOps0 hostOps0_sub (by simp only [List.Forall]; repeat' constructor) (fun c => main_chain c)

/-- The host's operations leave argument 0 as it was. -/
theorem V_arg0 (c : Dev nD) : V m c main_arg0 = m ((c : Thread nD τ).loc main_arg0) := by entry_read; rfl
/-- The host's operations leave argument 1 as it was. -/
theorem V_arg1 (c : Dev nD) : V m c main_arg1 = m ((c : Thread nD τ).loc main_arg1) := by entry_read; rfl
/-- The host's operations leave argument 2 as it was. -/
theorem V_arg2 (c : Dev nD) : V m c main_arg2 = m ((c : Thread nD τ).loc main_arg2) := by entry_read; rfl
/-- The host's operations leave argument 3 as it was. -/
theorem V_arg3 (c : Dev nD) : V m c main_arg3 = m ((c : Thread nD τ).loc main_arg3) := by entry_read; rfl
/-- The host's operations leave argument 4 as it was. -/
theorem V_arg4 (c : Dev nD) : V m c main_arg4 = m ((c : Thread nD τ).loc main_arg4) := by entry_read; rfl
/-- The host's operations leave argument 5 as it was. -/
theorem V_arg5 (c : Dev nD) : V m c main_arg5 = m ((c : Thread nD τ).loc main_arg5) := by entry_read; rfl

/-- The token ids in one line. -/
abbrev ids (c : Dev nD) : S12800.Idx → BitVec 32 := shapeCast S12800 (m ((c : Thread nD τ).loc main_arg4) : S5x2560.Idx → BitVec 32) shapeCasts_S5x2560_S12800

/-- The three tables are the boundaries and the sorted ids of the token ids. -/
theorem tables_ok (c : Dev nD) : Tables.Ok (V m c main_v12) (V m c main_v2_0) (V m c main_v2_1) (ids m c) := by
  entry_read
  refine Tables.ok_of _ _ _ ?_ ?_ _ ?_
  · intro a b
    show BitVec.ofBool (decide (a.1.toInt < b.1.toInt)) = 1#1 ↔ _
    exact WordCmp.ofBool_decide_eq_one_iff _
  · intro p
    show (BitVec.ofNat 32 p.val).toNat = p.val
    rw [BitVec.toNat_ofNat]; exact Nat.mod_eq_of_lt (lt_trans p.isLt (by decide))
  · intro j
    rw [Host.reduce_eq_fold_single IntOp.addi _ _ reducesTo_S31x12800_S31_d1 (by decide) h_S_]
    refine (congrArg BitVec.toNat (IndicatorCount.fold_addi_setWidth_eq_card (w := 32) (fun k : Fin 12800 => BitVec.ofBool (decide (
      ((Host.sort2 S12800 0 comparator_i32_i32_d0 (ids m c) (iotaInDim S12800 32 0)).1 (.ofFin k)).toInt
        < (BitVec.ofNat 32 j.val * 1024#32).toInt))) Finset.univ)).trans ?_
    have hj : (BitVec.ofNat 32 j.val * 1024#32).toInt = 1024 * (j.val : Int) := by
      revert j; decide
    simp only [hj, WordCmp.ofBool_decide_eq_one_iff]
    rw [BitVec.toNat_ofNat, Nat.mod_eq_of_lt]
    · rfl
    exact (Finset.card_le_univ _).trans_lt (lt_of_le_of_lt (Fintype.card_fin 12800).le (by show 12800 < 2 ^ 32; decide))

/-- The one device. -/
abbrev c0 : Dev nD := ⟨0, by decide⟩

/-- The tables' contents. -/
abbrev pf : (pre0 : Pipeline.Prefetch sig).Contents (Elt F) := fun k => V m c0 (pre0.ref k)

/-- The tables' contents, admissible. -/
abbrev adm (_ : Fin 1) : (pcfg0 (F := F)).Adm := ⟨pf m, trivial⟩

/-- The pipeline at the tables' contents. -/
abbrev cfgA : Cfg sig Λ₀ := cfg0 (F := F) (adm m 0)

/-- Each table the kernel is given is what the host computed. -/
theorem pf_eq (c : Dev nD) (k : Fin 3) : V m c (pre0.ref k) = pf m k := by
  obtain rfl : c = c0 := Subsingleton.elim _ _
  rfl

/-- The invariant between two points: the scratch, the slots' semaphores, the copied array and the tables. -/
abbrev inv (c : Dev nD) : sProp 𝕄 :=
  iprop(Pipeline.ΦD osem spec0 {main_v20} (V m) c ∗ Pipeline.ΦT (U := Pipeline.UD sig nD τ) (pre0 : Pipeline.Prefetch sig) (pf m) c)

/-- A separating conjunction over three indices, written out. -/
theorem bigSep_three {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), 1, 2] (by decide) (by decide) Φ

/-- The invariant holds the scratch buffer, its semaphores, the copied array and the tables. -/
theorem inv_open (c : Dev nD) :
    inv m c ⊢ iprop((((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} (V m c main_v20)))
      ∗ (∃ r, prngReg c r)
      ∗ (stM.view.loc (c : Thread nD τ) ↦{fullShare.right} (V m c main_v12))
      ∗ (idM.view.loc (c : Thread nD τ) ↦{fullShare.right} (V m c main_v2_0))
      ∗ (tkM.view.loc (c : Thread nD τ) ↦{fullShare.right} (V m c main_v2_1)))) := by
  obtain rfl : c = c0 := Subsingleton.elim _ _
  unfold inv Pipeline.ΦT Pipeline.prefHeld
  rw [Pipeline.ΦD_eq, scopedRest0_eq, bigSep_singleton, bigSep_three]
  iintro ⟨⟨HS, Hg, Hq, Hh⟩, H0, H1, H2⟩
  isplitl [HS Hq Hh]
  · isplitl [HS]; · iexact HS
    isplitl [Hq]; · iexact Hq
    iexact Hh
  isplitl [Hg]; · iexact Hg
  isplitl [H0]; · iexact H0
  isplitl [H1]; · iexact H1
  iexact H2

/-- The scratch buffer, its semaphores, the copied array and the tables make the invariant. -/
theorem inv_close (c : Dev nD) :
    iprop((((∃ f : Buf (Elt F) (scM.view.loc (c : Thread nD τ)), scM.view.loc (c : Thread nD τ) ↦{fullShare} f)
      ∗ Pipeline.ownSems0 (Ix := Unit) (Name := ℕ) (U := Pipeline.UD sig nD τ) (Lvl := ℕ) (Val := Elt F) (τ := τ) osem c
      ∗ (hbM.view.loc (c : Thread nD τ) ↦{fullShare} (V m c main_v20)))
      ∗ (∃ r, prngReg c r)
      ∗ (stM.view.loc (c : Thread nD τ) ↦{fullShare.right} (V m c main_v12))
      ∗ (idM.view.loc (c : Thread nD τ) ↦{fullShare.right} (V m c main_v2_0))
      ∗ (tkM.view.loc (c : Thread nD τ) ↦{fullShare.right} (V m c main_v2_1)))) ⊢ inv m c := by
  obtain rfl : c = c0 := Subsingleton.elim _ _
  unfold inv Pipeline.ΦT Pipeline.prefHeld
  rw [Pipeline.ΦD_eq, scopedRest0_eq, bigSep_singleton, bigSep_three]
  iintro ⟨⟨HS, Hq, Hh⟩, Hg, H0, H1, H2⟩
  isplitl [HS Hg Hq Hh]
  · isplitl [HS]; · iexact HS
    isplitl [Hg]; · iexact Hg
    isplitl [Hq]; · iexact Hq
    iexact Hh
  isplitl [H0]; · iexact H0
  isplitl [H1]; · iexact H1
  iexact H2

/-! ## One point -/

/-- The staging buffers of a point. -/
abbrev a5 (t : Fin (cfgA m).N) := (spec0 0).stage ((cfgA m).slots t 0)
abbrev a6 (t : Fin (cfgA m).N) := (spec0 1).stage ((cfgA m).slots t 1)
abbrev a7 (t : Fin (cfgA m).N) := (spec0 2).stage ((cfgA m).slots t 2)
abbrev a8 (t : Fin (cfgA m).N) := (spec0 3).stage ((cfgA m).slots t 3)
abbrev a10 (t : Fin (cfgA m).N) := (spec0 4).stage ((cfgA m).slots t 4)

/-- The kernel's body at a point. -/
abbrev bodyAt (t : Fin (cfgA m).N) :=
  cc0_tied_grad (F := F) (grid0.coords t) stM (Memref.isWhole_whole _) idM (Memref.isWhole_whole _) tkM (Memref.isWhole_whole _)
    (a5 m t) (stage_whole0 0 _) (a6 m t) (stage_whole0 1 _) (a7 m t) (stage_whole0 2 _) (a8 m t) (stage_whole0 3 _)
    hbM (Memref.isWhole_whole _) (a10 m t) (stage_whole0 4 _) scM (Memref.isWhole_whole _) cc0_scratch1

/-- The body the grid calls at a point is the kernel's body on the point's blocks. -/
theorem body_row (t : Fin (cfgA m).N) : defs₀ (F := F) .tc (cfgA m).body ((cfgA m).bodyArgs t ((cfgA m).slots t)) = bodyAt m t := by
  unfold defs₀; rw [Defs.onTc_tc]

/-- One grid point: the invariant and the windows' buffers are given back, the output block at contents of which `Post` holds. -/
theorem point (c : Dev nD) (t : Fin (cfgA m).N)
    (b5 : Buf (Elt F) ((a5 m t).view.loc (c : Thread nD τ))) (b6 : Buf (Elt F) ((a6 m t).view.loc (c : Thread nD τ)))
    (b7 : Buf (Elt F) ((a7 m t).view.loc (c : Thread nD τ))) (b8 : Buf (Elt F) ((a8 m t).view.loc (c : Thread nD τ)))
    (g : Buf (Elt F) ((a10 m t).view.loc (c : Thread nD τ))) (Post : Buf (Elt F) ((a10 m t).view.loc (c : Thread nD τ)) → Prop)
    (hP0 : ¬ k0_cond2 (grid0.coords t) = 1#1 → Post (prod c (a5 m t) (a6 m t) (a7 m t) (a8 m t) (a10 m t) b5 b6 b7 b8 (start0 c (grid0.coords t) (a10 m t) g)))
    (hP1 : ∀ h2 : k0_cond2 (grid0.coords t) = 1#1, ∃ Acc : ℕ → Buf (Elt F) ((a10 m t).view.loc (c : Thread nD τ)) → Prop,
      Adds (F := F) c (V m c main_v20) (grid0.coords t) (a10 m t) h2 (lo (grid0.coords t) (V m c main_v12)) (hi (grid0.coords t) (V m c main_v12)) (V m c main_v2_1) (V m c main_v2_0) Acc
        ∧ Acc (lo (grid0.coords t) (V m c main_v12)).toNat (prod c (a5 m t) (a6 m t) (a7 m t) (a8 m t) (a10 m t) b5 b6 b7 b8 (start0 c (grid0.coords t) (a10 m t) g))
        ∧ ∀ g', Acc (hi (grid0.coords t) (V m c main_v12)).toNat g' → Post g') :
    iprop(inv m c ∗ (∃ W, owes (c : Thread nD τ) 0 W) ∗ Ins (F := F) c (a5 m t) (a6 m t) (a7 m t) (a8 m t) b5 b6 b7 b8
      ∗ ((a10 m t).view.loc (c : Thread nD τ) ↦[(a10 m t).view.set]{fullShare} g))
    ⊢ wp frame (wpE (defs₀ (F := F)) Variants.none (c : Thread nD τ) none) Set.univ (bodyAt m t)
      (fun _ => iprop(inv m c ∗ (∃ W, owes (c : Thread nD τ) 0 W) ∗ Ins (F := F) c (a5 m t) (a6 m t) (a7 m t) (a8 m t) b5 b6 b7 b8
        ∗ (∃ g' : Buf (Elt F) ((a10 m t).view.loc (c : Thread nD τ)), ⌜Post g'⌝ ∗ ((a10 m t).view.loc (c : Thread nD τ) ↦[(a10 m t).view.set]{fullShare} g')))) := by
  have hT := tables_ok m c
  have hb := body (F := F) c (V m c main_v20) (grid0.coords t) (a5 m t) (stage_whole0 0 _) (a6 m t) (stage_whole0 1 _) (a7 m t) (stage_whole0 2 _) (a8 m t) (stage_whole0 3 _)
    (a10 m t) (stage_whole0 4 _) fullShare.right (V m c main_v12) (V m c main_v2_1) (V m c main_v2_0) b5 b6 b7 b8 g Post
    (hT.mono (by show (grid0.coords t 0).val ≤ (grid0.coords t 0).val + 1; omega)) (hT.le _)
    (fun p hp => by unfold wordAt; rw [dif_pos hp]; exact hT.tk_lt ⟨p, hp⟩)
    (fun p h1 h2 => by
      have hp : p < 12800 := lt_of_lt_of_le h2 (hT.le _)
      unfold wordAt; rw [dif_pos hp]
      have e1 := (hT.cut ⟨_, lt_trans (show (grid0.coords t 0).val < 30 from (grid0.coords t 0).isLt) (by decide)⟩ ⟨p, hp⟩).not.mp (not_lt.mpr h1)
      have e2 := (hT.cut _ ⟨p, hp⟩).mp h2
      exact ⟨by push_cast at e1 ⊢; exact not_lt.mp e1, by push_cast at e2 ⊢; exact e2⟩)
    hP0 hP1
  iintro ⟨HI, HO, Hins, Hout⟩
  ihave HI := (inv_open m c) $$ HI
  icases HI with ⟨Hs, Hg, Hst, Hid, Htk⟩
  ihave Hs := (slots_deal (F := F) c (V m c main_v20)) $$ Hs
  icases Hs with ⟨Hs, Hl⟩
  iapply (wp_wand_r _ _ _)
  isplitl [HO Hins Hout Hst Hid Htk Hs]
  · iapply hb
    unfold Rest
    isplitl [Hins]; · iexact Hins
    isplitl [Hout]; · iexact Hout
    isplitl [Hst]; · iexact Hst
    isplitl [Htk]; · iexact Htk
    isplitl [Hid]; · iexact Hid
    isplitl [HO]; · iexact HO
    iexact Hs
  iintro %_ H
  unfold Rest
  icases H with ⟨Hins, Hout, Hst, Htk, Hid, HO, Hs⟩
  isplitl [Hg Hst Htk Hid Hs Hl]
  · iapply (inv_close m c)
    isplitl [Hs Hl]
    · iapply (slots_back (F := F) c (V m c main_v20))
      isplitl [Hs]; · iexact Hs
      iexact Hl
    isplitl [Hg]; · iexact Hg
    isplitl [Hst]; · iexact Hst
    isplitl [Hid]; · iexact Hid
    iexact Htk
  isplitl [HO]; · iexact HO
  isplitl [Hins]; · iexact Hins
  iexact Hout

/-! ## The proof data -/

/-- The block of window `w`'s array at a point. -/
abbrev iblk (c : Dev nD) (w : Fin 5) (t : Fin (cfgA m).N) : ((cfgA m).win w).block.Idx → Elt F ((cfgA m).win w).elt :=
  (((cfgA m).win w).blk t).view.read (Elt F) (V m c (Pipeline.arrRef spec0 w))

/-- The proof data, the result's block after a point at `out`. -/
def dats (out : (c : Dev nD) → Fin (cfgA m).N → FVec F S1024x4608 .f32) (_ : Fin 1) (c : Dev nD) :
    Dat τ (Elt F) Unit ℕ (Pipeline.UD sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out c t
  Φ _ := inv m c
  q _ := fullShare
  owed _ := 0

variable (out : (c : Dev nD) → Fin (cfgA m).N → FVec F S1024x4608 .f32)

/-- Each window's array starts as the host left it. -/
theorem A_eq (c : Dev nD) (w : Fin 5) : (dats m out 0 c).A w = V m c (Pipeline.arrRef spec0 w) := by dsimp only [dats]
/-- Input window 0's block after a point. -/
theorem after_0 (c : Dev nD) (t : Fin (cfgA m).N) : (dats m out 0 c).after 0 t = iblk m c 0 t := rfl
/-- Input window 1's block after a point. -/
theorem after_1 (c : Dev nD) (t : Fin (cfgA m).N) : (dats m out 0 c).after 1 t = iblk m c 1 t := rfl
/-- Input window 2's block after a point. -/
theorem after_2 (c : Dev nD) (t : Fin (cfgA m).N) : (dats m out 0 c).after 2 t = iblk m c 2 t := rfl
/-- Input window 3's block after a point. -/
theorem after_3 (c : Dev nD) (t : Fin (cfgA m).N) : (dats m out 0 c).after 3 t = iblk m c 3 t := rfl
/-- The output window's block after a point. -/
theorem after_4 (c : Dev nD) (t : Fin (cfgA m).N) : (dats m out 0 c).after 4 t = out c t := rfl

/-- Input window 0's block before a point. -/
theorem before_0 (c : Dev nD) (t : Fin (cfgA m).N) (d) : (dats m out 0 c).before 0 t d = iblk m c 0 t :=
  ((dats m out 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's block before a point. -/
theorem before_1 (c : Dev nD) (t : Fin (cfgA m).N) (d) : (dats m out 0 c).before 1 t d = iblk m c 1 t :=
  ((dats m out 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's block before a point. -/
theorem before_2 (c : Dev nD) (t : Fin (cfgA m).N) (d) : (dats m out 0 c).before 2 t d = iblk m c 2 t :=
  ((dats m out 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's block before a point. -/
theorem before_3 (c : Dev nD) (t : Fin (cfgA m).N) (d) : (dats m out 0 c).before 3 t d = iblk m c 3 t :=
  ((dats m out 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The run with the result forgotten, and the frame -/

/-- Only the result's window is forgotten. -/
abbrev fgt : Fin 5 → Bool := fun | 0 => false | 1 => false | 2 => false | 3 => false | 4 => true

/-- One grid point, saying nothing of what the output block holds. -/
theorem point_forget (c : Dev nD) (t : Fin (cfgA m).N) :
    iprop((dats m out 0 c).Φ t.castSucc ∗ (dats m out 0 c).owesAt () t.castSucc
      ∗ (∃ d, owns (c : Thread nD τ) (a5 m t) fullShare ((dats m out 0 c).before 0 t d))
      ∗ (∃ d, owns (c : Thread nD τ) (a6 m t) fullShare ((dats m out 0 c).before 1 t d))
      ∗ (∃ d, owns (c : Thread nD τ) (a7 m t) fullShare ((dats m out 0 c).before 2 t d))
      ∗ (∃ d, owns (c : Thread nD τ) (a8 m t) fullShare ((dats m out 0 c).before 3 t d))
      ∗ (∃ X, owns (c : Thread nD τ) (a10 m t) fullShare X))
    ⊢ wp frame (wpE (defs₀ (F := F)) Variants.none (c : Thread nD τ) none) Set.univ (bodyAt m t)
      (fun _ => iprop((dats m out 0 c).Φ t.succ ∗ (dats m out 0 c).owesAt () t.succ
        ∗ owns (c : Thread nD τ) (a5 m t) fullShare ((dats m out 0 c).after 0 t)
        ∗ owns (c : Thread nD τ) (a6 m t) fullShare ((dats m out 0 c).after 1 t)
        ∗ owns (c : Thread nD τ) (a7 m t) fullShare ((dats m out 0 c).after 2 t)
        ∗ owns (c : Thread nD τ) (a8 m t) fullShare ((dats m out 0 c).after 3 t)
        ∗ (∃ X, owns (c : Thread nD τ) (a10 m t) fullShare X))) := by
  rw [show (dats m out 0 c).Φ t.succ = inv m c from rfl, show (dats m out 0 c).Φ t.castSucc = inv m c from rfl, after_0, after_1, after_2, after_3]
  simp only [before_0, before_1, before_2, before_3]
  unfold Dat.owesAt Pipeline.owesWithin
  rw [show (dats m out 0 c).owed t.castSucc = 0 from rfl, show (dats m out 0 c).owed t.succ = 0 from rfl]
  unfold owns
  iintro ⟨HI, ⟨%W, -, HW⟩, ⟨%d0, %b5, %h5, H5⟩, ⟨%d1, %b6, %h6, H6⟩, ⟨%d2, %b7, %h7, H7⟩, ⟨%d3, %b8, %h8, H8⟩, ⟨%X, %g, %hg, Hout⟩⟩
  iapply (wp_wand_r _ _ _)
  isplitl [HI HW H5 H6 H7 H8 Hout]
  · iapply (point m c t b5 b6 b7 b8 g (fun _ => True) (fun _ => trivial) (fun h2 => ⟨fun _ _ => True, by unfold Adds; intros; trivial, trivial, fun _ _ => trivial⟩))
    isplitl [HI]; · iexact HI
    isplitl [HW]; · iexists W; iexact HW
    unfold Ins
    isplitl [H5 H6 H7 H8]
    · isplitl [H5]; · iexact H5
      isplitl [H6]; · iexact H6
      isplitl [H7]; · iexact H7
      iexact H8
    iexact Hout
  iintro %_ H
  unfold Ins
  icases H with ⟨HI, ⟨%W', HW'⟩, ⟨H5, H6, H7, H8⟩, ⟨%g', -, Hout⟩⟩
  isplitl [HI]; · iexact HI
  isplitl [HW']
  · iexists W'; isplitr; · ipureintro; exact fun _ _ => Or.inl trivial
    iexact HW'
  isplitl [H5]
  · iexists b5; isplitr; · ipureintro; exact h5
    iexact H5
  isplitl [H6]
  · iexists b6; isplitr; · ipureintro; exact h6
    iexact H6
  isplitl [H7]
  · iexists b7; isplitr; · ipureintro; exact h7
    iexact H7
  isplitl [H8]
  · iexists b8; isplitr; · ipureintro; exact h8
    iexact H8
  iexists _, g'; isplitr; · ipureintro; rfl
  iexact Hout

/-- The body's obligation at every point, saying nothing of what the output block holds. -/
theorem forget_obligation (c : Dev nD) : BodyObligationLoose (dats m out 0 c) (defs₀ (F := F)) Variants.none () Set.univ fgt := fun t => by
  rw [bigSep_W0, bigSep_W0, body_row]
  exact triple_restated (point_forget m out c t) rfl .rfl fun _ => .rfl

/-- The kernel's own semaphores are none of the pipeline's. -/
theorem own_facts : Pipeline.OwnSemFacts spec0 osem := by decide
/-- The copied array is not one the pipeline moves. -/
theorem copied_rest : ({main_v20} : Finset (Ref sig .tc)) ⊆ Pipeline.restRefsP sig pre0 spec0 := by decide

set_option backward.isDefEq.respectTransparency.types false in
/-- The whole program runs; the arrays the kernel does not write are as the host left them. -/
theorem run_forget (ρ : Dev nD → PrngReg) : θ_run defs (onTc (τ := τ) (main (F := F))) (s₀ m ρ)
    (fun r => Pipeline.RDat.FramePost (cfgA m) (fun c => (dats m out 0 c).toRForget fgt) (V m) r ∧ r.2.sem = fun _ => 0) :=
  Pipeline.θ_run_frameP_dma_forget (Q' := _) pcfgs (adm m) (dats m out) (0 : Fin 1) launch0 osem defs₀ Variants.none fgt
    own_facts {main_v20} copied_rest m ρ main
    (hbody := fun c => forget_obligation m out c) (hshare := fun c => (dats m out 0 c).share_full fun _ => rfl)
    (howed := fun _ _ => rfl) (V := V m) (hmain := main_at m) (hA := A_eq m out) (hpf := pf_eq m)
    (hin := fun _ => .rfl) (hout := fun c => by
      show inv m c ⊢ _
      iintro ⟨H, -⟩; iexact H)

/-- Argument 0 is not an array the pipeline moves. -/
theorem rest_arg0 : main_arg0 ∈ Pipeline.restRefs sig spec0 := Pipeline.mem_restRefs_of main_arg0 (by decide) (by decide)
/-- Argument 1 is not an array the pipeline moves. -/
theorem rest_arg1 : main_arg1 ∈ Pipeline.restRefs sig spec0 := Pipeline.mem_restRefs_of main_arg1 (by decide) (by decide)
/-- Argument 2 is not an array the pipeline moves. -/
theorem rest_arg2 : main_arg2 ∈ Pipeline.restRefs sig spec0 := Pipeline.mem_restRefs_of main_arg2 (by decide) (by decide)
/-- Argument 3 is not an array the pipeline moves. -/
theorem rest_arg3 : main_arg3 ∈ Pipeline.restRefs sig spec0 := Pipeline.mem_restRefs_of main_arg3 (by decide) (by decide)
/-- Argument 4 is not an array the pipeline moves. -/
theorem rest_arg4 : main_arg4 ∈ Pipeline.restRefs sig spec0 := Pipeline.mem_restRefs_of main_arg4 (by decide) (by decide)
/-- Argument 5 is not an array the pipeline moves. -/
theorem rest_arg5 : main_arg5 ∈ Pipeline.restRefs sig spec0 := Pipeline.mem_restRefs_of main_arg5 (by decide) (by decide)

/-- The kernel program ends, at every launch contents, with its arguments unchanged and every semaphore at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run _ _ _).mono (fun r h => ⟨fun c =>
    ⟨((h.1 c).2 main_arg0 rest_arg0).trans (V_arg0 m c),
      ((h.1 c).2 main_arg1 rest_arg1).trans (V_arg1 m c),
      ((h.1 c).2 main_arg2 rest_arg2).trans (V_arg2 m c),
      ((h.1 c).2 main_arg3 rest_arg3).trans (V_arg3 m c),
      ((h.1 c).2 main_arg4 rest_arg4).trans (V_arg4 m c),
      ((h.1 c).2 main_arg5 rest_arg5).trans (V_arg5 m c)⟩, h.2⟩)
    (run_forget m (fun _ _ => k0_pay12) ρ)

end Entry

end Cert.KernelIdeal.Hand

end
-- ==== Proof.KernelIdealPay.lean ====
/- The kernel's payloads at the ideal instance, read at an index. -/
module

public import proofs.«01_k».proof.Proof.KernelIdealBody
public import Idealize.ShloMosaic.PureOps.Ideal.Laws
public import Idealize.ShloMosaic.Lib.Pointwise
public import Idealize.ShloMosaic.Lib.ValueIdx
public import Idealize.ShloMosaic.Lib.MatmulPlain
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The first operand of the block product at row `r`, reduction index `s`: the code times the scale of the row's group of 128. -/
theorem pay13_at (x : Vec Ideal S512x1024 .fp8e5m2) (y : Vec Ideal S8x512 .f32) (r : Fin 1024) (s : Fin 512) :
    (k0_pay13 (F := Ideal) x y (ix2 r s) : EReal) = x (ix2 s r) * y (ix2 (⟨r.val / 128, by omega⟩ : Fin 8) s) := by
  have e : ∀ (r' : Fin 1024) (p : Fin 8), r'.val = r.val → p.val = r.val / 128 →
      (x (ix2 s r') * y (ix2 p s) : EReal) = x (ix2 s r) * y (ix2 (⟨r.val / 128, by omega⟩ : Fin 8) s) := fun r' p h1 h2 => by
    obtain rfl : r' = r := Fin.ext h1
    rw [show p = (⟨r'.val / 128, by omega⟩ : Fin 8) from Fin.ext h2]
  pointwise [k0_pay13]
  repeat' split
  all_goals first
    | (refine e _ 0 rfl (by show (0 : ℕ) = _; omega); done)
    | (refine e _ 0 (by show (_ : ℕ) = _; simp only; omega) (by show (0 : ℕ) = _; omega); done)
    | (refine e _ 1 (by show (_ : ℕ) = _; simp only; omega) (by show (1 : ℕ) = _; omega); done)
    | (refine e _ 2 (by show (_ : ℕ) = _; simp only; omega) (by show (2 : ℕ) = _; omega); done)
    | (refine e _ 3 (by show (_ : ℕ) = _; simp only; omega) (by show (3 : ℕ) = _; omega); done)
    | (refine e _ 4 (by show (_ : ℕ) = _; simp only; omega) (by show (4 : ℕ) = _; omega); done)
    | (refine e _ 5 (by show (_ : ℕ) = _; simp only; omega) (by show (5 : ℕ) = _; omega); done)
    | (refine e _ 6 (by show (_ : ℕ) = _; simp only; omega) (by show (6 : ℕ) = _; omega); done)
    | (refine e _ 7 (by show (_ : ℕ) = _; simp only; omega) (by show (7 : ℕ) = _; omega); done)

/-- One block of 128 columns of the second operand. -/
def piece {F : FTy → Type} [FloatOps F] (v44 : FVec F S512x128 .bf16) (v46 : FVec F S512x4608 .fp8e4m3) (n : Fin 36)
    (h : S512x4608.Slices ![0, 128 * n.val] S512x128) : FVec F S512x128 .bf16 :=
  mulf (extractStridedSlice S512x128 ![0, 128 * n.val] (k0_pay16 v46) h) v44

/-- Each of the 36 column pieces lies inside the block. -/
theorem piece_slices (n : Fin 36) : S512x4608.Slices ![0, 128 * n.val] S512x128 := by
  revert n; decide

/-- Equal lists of pieces concatenate to equal arrays. -/
theorem concat_congr {α : Type} {t : Shape} {a : Fin t.rank} {xs ys : List ((s : Shape) × (s.Idx → α))} (e : xs = ys)
    (h : Shape.Concatenates (xs.map (·.1)) t a) (h' : Shape.Concatenates (ys.map (·.1)) t a) :
    concatenate t a xs h = concatenate t a ys h' := by
  subst e; rfl

/-- The scaled second operand is the concatenation of its 36 column pieces. -/
theorem kHH_ofFn {F : FTy → Type} [FloatOps F] (v44 : FVec F S512x128 .bf16) (v46 : FVec F S512x4608 .fp8e4m3) (h) :
    kHH v44 v46 = concatenate S512x4608 1 (List.ofFn fun n : Fin 36 => ⟨S512x128, piece v44 v46 n (piece_slices n)⟩) h := by
  unfold kHH
  exact concat_congr rfl _ _

/-- The second operand of the block product at reduction index `s`, column `d`: the code times its row's scale. -/
theorem kHH_at (v44 : FVec Ideal S512x128 .bf16) (v46 : FVec Ideal S512x4608 .fp8e4m3) (s : Fin 512) (d : Fin 4608) :
    (kHH (F := Ideal) v44 v46 (ix2 s d) : EReal) = v46 (ix2 s d) * v44 (ix2 s (⟨d.val % 128, by omega⟩ : Fin 128)) := by
  have hc : Shape.Concatenates ((List.ofFn fun n : Fin 36 => (⟨S512x128, piece v44 v46 n (piece_slices n)⟩ : (s : Shape) × (s.Idx → Ideal .bf16))).map (·.1)) S512x4608 1 := by
    rw [List.map_ofFn]
    show Shape.Concatenates (List.ofFn fun _ : Fin 36 => S512x128) S512x4608 1
    decide
  have hd : d.val / 128 < 36 := by omega
  rw [kHH_ofFn v44 v46 hc]
  rw [concatenate_ofFn_apply (s₁ := S512x128) 1 (fun n : Fin 36 => piece v44 v46 n (piece_slices n)) hc rfl 128 rfl (ix2 s d) ⟨d.val / 128, hd⟩ rfl
    (ix2 s (⟨d.val % 128, by omega⟩ : Fin 128)) rfl (fun b hb => by
      match b with
      | 0 => rfl
      | 1 => exact absurd rfl hb)]
  pointwise [piece, k0_pay16]
  congr 3
  apply Fin.ext
  show 128 * (d.val / 128) + d.val % 128 = d.val
  omega

/-- The block product added, at row `r` and column `d`. -/
theorem pay7_at (v42 : FVec Ideal S1024x512 .bf16) (v120 : FVec Ideal S512x4608 .bf16) (v121 : Vec Ideal S1024x4608 .f32) (r : Fin 1024) (d : Fin 4608) :
    (k0_pay7 (F := Ideal) v42 v120 v121 (ix2 r d) : EReal) = v121 (ix2 r d) + ∑ s : Fin 512, v42 (ix2 r s) * v120 (ix2 s d) := by
  pointwise [k0_pay7]

/-- The block a tile starts from is zero. -/
theorem pay12_at (r : Fin 1024) (d : Fin 4608) : (k0_pay12 (F := Ideal) (ix2 r d) : EReal) = 0 := by
  pointwise [k0_pay12]

/-- An added row at column `d`: the row's entry plus the entry of the pair's row that the word's parity names. -/
theorem pay8_at (x : BitVec 32) (pr : Vec Ideal S1x2x4608 .bf16) (v : Vec Ideal S1x4608 .f32) (d : Fin 4608) :
    (k0_pay8 (F := Ideal) x pr v (ix2 0 d) : EReal) = v (ix2 0 d) + pr (ix3 0 (⟨x.toNat % 2, by omega⟩ : Fin 2) d) := by
  have hw : (Scalar.andi x 1#32).toNat = x.toNat % 2 := by
    show (x &&& 1#32).toNat = _
    rw [BitVec.toNat_and]
    exact Nat.and_one_is_mod _
  have hsel : ∀ (b : Fin 2), b.val = x.toNat % 2 →
      (Scalar.select (Scalar.cmpi .eq (Scalar.andi x 1#32) 1#32) (pr (ix3 0 1 d)) (pr (ix3 0 0 d)) : EReal) = pr (ix3 0 b d) := fun b hb => by
    have h2 := Nat.mod_two_eq_zero_or_one x.toNat
    rcases h2 with h | h
    · obtain rfl : b = 0 := Fin.ext (hb.trans h)
      have e : Scalar.cmpi .eq (Scalar.andi x 1#32) 1#32 = 0#1 := by
        rw [show Scalar.andi x 1#32 = 0#32 from BitVec.eq_of_toNat_eq (hw.trans h)]; decide
      rw [e]; rfl
    · obtain rfl : b = 1 := Fin.ext (hb.trans h)
      have e : Scalar.cmpi .eq (Scalar.andi x 1#32) 1#32 = 1#1 := by
        rw [show Scalar.andi x 1#32 = 1#32 from BitVec.eq_of_toNat_eq (hw.trans h)]; decide
      rw [e]; rfl
  pointwise [k0_pay8]
  rw [hsel ⟨x.toNat % 2, by omega⟩ rfl]

/-- The pair of rows that a word names, at row `b` of the pair and column `d`. -/
theorem pair_at (c : Dev nD) (fH : Buf (Elt Ideal) (hbM.view.loc (c : Thread nD τ))) (x : BitVec 32) (hx : x.toNat < 12800) (pr : Vec Ideal S1x2x4608 .bf16)
    (h : Pair (F := Ideal) c fH x pr) (b : Fin 2) (d : Fin 4608) :
    pr (ix3 0 b d) = (fH : S12800x4608.Idx → EReal) (ix2 (⟨2 * (x.toNat / 2) + b.val, by omega⟩ : Fin 12800) d) := by
  obtain ⟨hX, hC, rfl⟩ := h
  have e : Shape.reshapeEquiv (s := S2x4608) (s' := S1x2x4608) reshapes_S2x4608_S1x2x4608.1 (ix3 0 b d) = ix2 b d :=
    Shape.reshapeEquiv_eq_of_rowMajor _ (by
      rw [Shape.rowMajor_val_two, Shape.rowMajor_val_three]
      show b.val * 4608 + d.val = (0 * 2 + b.val) * 4608 + d.val
      omega)
  show (fH : S12800x4608.Idx → EReal) ((Rect.unit (s := S12800x4608) (k0_off6 x) S2x4608.size hX).emb
    (Shape.reshapeEquiv (s := S2x4608) (s' := S1x2x4608) reshapes_S2x4608_S1x2x4608.1 (ix3 0 b d))) = (fH : S12800x4608.Idx → EReal) _
  rw [e]
  congr 1
  funext a
  have ho := off6 x
  match a with
  | 0 =>
    apply Fin.ext
    show k0_off6 x 0 + 1 * b.val = 2 * (x.toNat / 2) + b.val
    rw [ho]; show 2 * (x.toNat / 2) + 1 * b.val = _; omega
  | 1 =>
    apply Fin.ext
    show k0_off6 x 1 + 1 * d.val = d.val
    rw [ho]; show 0 + 1 * d.val = _; omega

/-- The row added at position word `x`, at column `d`. -/
theorem pay8_pair (c : Dev nD) (fH : Buf (Elt Ideal) (hbM.view.loc (c : Thread nD τ))) (x : BitVec 32) (hx : x.toNat < 12800) (pr : Vec Ideal S1x2x4608 .bf16)
    (h : Pair (F := Ideal) c fH x pr) (v : Vec Ideal S1x4608 .f32) (d : Fin 4608) :
    (k0_pay8 (F := Ideal) x pr v (ix2 0 d) : EReal) = v (ix2 0 d) + (fH : S12800x4608.Idx → EReal) (ix2 (⟨x.toNat, hx⟩ : Fin 12800) d) := by
  rw [pay8_at, pair_at c fH x hx pr h]
  congr 3
  apply Fin.ext
  show 2 * (x.toNat / 2) + x.toNat % 2 = x.toNat
  omega

end Cert.KernelIdeal.Hand

end
-- ==== Proof.Spec.lean ====
/- The mathematics both programs compute: the product of the decoded gradient and the decoded hidden states, summed over the
   tokens, with every token's own gradient row added to the row its id names. -/
module

public import Idealize.ShloMosaic.PureOps.Ideal
public import Idealize.ShloMosaic.Lib.Pointwise

@[expose] public section

set_option maxRecDepth 16384

noncomputable section

namespace Cert.Spec

open Idealize.ShloMosaic

variable (a0 : (⟨3, ![5, 2560, 30720]⟩ : Shape).Idx → EReal) (a1 : (⟨3, ![5, 2560, 240]⟩ : Shape).Idx → EReal)
  (a2 : (⟨3, ![5, 2560, 4608]⟩ : Shape).Idx → EReal) (a3 : (⟨2, ![5, 2560]⟩ : Shape).Idx → EReal)
  (a4 : (⟨2, ![5, 2560]⟩ : Shape).Idx → BitVec 32) (a5 : (⟨3, ![5, 2560, 4608]⟩ : Shape).Idx → EReal)

/-- Token `t` is token `t % 2560` of sequence `t / 2560`. -/
abbrev sq (t : Fin 12800) : Fin 5 := ⟨t.val / 2560, by omega⟩
/-- A token's place in its sequence. -/
abbrev tk (t : Fin 12800) : Fin 2560 := ⟨t.val % 2560, by omega⟩

/-- The decoded gradient of a token's logit `v`: the code times the scale of `v`'s group of 128. -/
def dl (t : Fin 12800) (v : Fin 30720) : EReal := a0 (ix3 (sq t) (tk t) v) * a1 (ix3 (sq t) (tk t) (⟨v.val / 128, by omega⟩ : Fin 240))

/-- The decoded hidden state of a token at column `d`: the code times the token's scale. -/
def hh (t : Fin 12800) (d : Fin 4608) : EReal := a2 (ix3 (sq t) (tk t) d) * a3 (ix2 (sq t) (tk t))

/-- A token's id. -/
def id (t : Fin 12800) : BitVec 32 := a4 (ix2 (sq t) (tk t))

/-- A token's own gradient row at column `d`. -/
def emb (t : Fin 12800) (d : Fin 4608) : EReal := a5 (ix3 (sq t) (tk t) d)

/-- The result at row `v`, column `d`. -/
def out (v : Fin 30720) (d : Fin 4608) : EReal :=
  (∑ t : Fin 12800, dl a0 a1 t v * hh a2 a3 t d) + ∑ t ∈ Finset.univ.filter (fun t : Fin 12800 => (id a4 t).toInt = (v.val : Int)), emb a5 t d

end Cert.Spec

end
-- ==== Proof.KernelIdealPoints.lean ====
/- The kernel's points and blocks at the ideal instance: a point's tile and step, the arrays' entries at the region's start, the
   blocks' entries, and the output block after a step's writes. -/
module

public import proofs.«01_k».proof.Proof.KernelIdealFrame
public import proofs.«01_k».proof.Proof.KernelIdealPay
public import proofs.«01_k».proof.Proof.Spec
public import Idealize.ShloMosaic.Lib.Pipeline.ValueKit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

/-! ## A point's tile and step -/

/-- A point's tile is its number over 25. -/
theorem tile_val (t : Fin grid0.N) : (grid0.coords t 0).val = t.val / 25 := by
  have h : (grid0.coords t 0).val = t.val / 25 % 30 := Pipeline.Grid.coords_val t 0 (by decide) rfl
  have ht : t.val < 750 := lt_of_lt_of_eq t.isLt N_0
  rw [h]; omega

/-- A point's step is its number modulo 25. -/
theorem step_val (t : Fin grid0.N) : (grid0.coords t 1).val = t.val % 25 := by
  have h : (grid0.coords t 1).val = t.val / 1 % 25 := Pipeline.Grid.coords_val t 1 (by decide) rfl
  rw [h, Nat.div_one]

/-- A tile's first step is step 0. -/
theorem first_iff (i : grid0.Coords) : first i ↔ (i 1).val = 0 := by
  have h : ∀ k : Fin 25, (Scalar.cmpi .ne (Scalar.extui (Scalar.cmpi .eq (BitVec.ofNat 32 k.val) 0#32) : BitVec 32) 0#32 = 1#1) ↔ k.val = 0 := by decide
  exact h (i 1)

/-- A tile's last step is step 24. -/
theorem last_iff (i : grid0.Coords) : k0_cond2 i = 1#1 ↔ (i 1).val = 24 := by
  have h : ∀ k : Fin 25, (Scalar.cmpi .ne (Scalar.extui (Scalar.cmpi .eq (BitVec.ofNat 32 k.val) 24#32) : BitVec 32) 0#32 = 1#1) ↔ k.val = 24 := by decide
  exact h (i 1)

/-- The output block is written back at each tile's last step: checked at every point. -/
theorem flush_closed : ∀ t : Fin grid0.N, Window.flushOf grid0 true cc0_transform_5 t = decide (t.val % 25 = 24) := by decide +kernel

section Entry
variable (m : (ℓ : Loc nD τ sig) → Buf (Elt Ideal) ℓ)

/-- The output block is written back at each tile's last step. -/
theorem flush_iff (t : Fin (cfgA m).N) : ((cfgA m).win 4).flush t = decide (t.val % 25 = 24) :=
  (Window.flush_eq_flushOf _ t).trans (flush_closed t)

/-! ## The arrays at the region's start -/

/-- The flattened codes of the first operand at an index. -/
theorem v18_at (c : Dev nD) (n : Fin 12800) (v : Fin 30720) :
    (V m c main_v18 : S12800x30720.Idx → EReal) (ix2 n v) = (m ((c : Thread nD τ).loc main_arg0) : S5x2560x30720.Idx → EReal) (ix3 (Spec.sq n) (Spec.tk n) v) := by
  entry_read
  pointwise []
/-- The transposed scales of the first operand at an index. -/
theorem v17_at (c : Dev nD) (g : Fin 240) (n : Fin 12800) :
    (V m c main_v17 : S240x12800.Idx → EReal) (ix2 g n) = (m ((c : Thread nD τ).loc main_arg1) : S5x2560x240.Idx → EReal) (ix3 (Spec.sq n) (Spec.tk n) g) := by
  entry_read
  pointwise []
/-- The flattened codes of the second operand at an index. -/
theorem v19_at (c : Dev nD) (n : Fin 12800) (d : Fin 4608) :
    (V m c main_v19 : S12800x4608.Idx → EReal) (ix2 n d) = (m ((c : Thread nD τ).loc main_arg2) : S5x2560x4608.Idx → EReal) (ix3 (Spec.sq n) (Spec.tk n) d) := by
  entry_read
  pointwise []
/-- The second operand's scales, repeated along a lane, at an index. -/
theorem v15_at (c : Dev nD) (n : Fin 12800) (l : Fin 128) :
    (V m c main_v15 : S12800x128.Idx → EReal) (ix2 n l) = (m ((c : Thread nD τ).loc main_arg3) : S5x2560.Idx → EReal) (ix2 (Spec.sq n) (Spec.tk n)) := by
  entry_read
  pointwise []
/-- The flattened embedding gradients at an index. -/
theorem v20_at (c : Dev nD) (n : Fin 12800) (d : Fin 4608) :
    (V m c main_v20 : S12800x4608.Idx → EReal) (ix2 n d) = (m ((c : Thread nD τ).loc main_arg5) : S5x2560x4608.Idx → EReal) (ix3 (Spec.sq n) (Spec.tk n) d) := by
  entry_read
  pointwise []
/-- The flattened ids at an index. -/
theorem ids_at (c : Dev nD) (n : Fin 12800) : ids m c (.ofFin n) = Spec.id (m ((c : Thread nD τ).loc main_arg4)) n := by
  unfold ids
  pointwise [Spec.id]
  rfl

/-! ## The blocks -/

/-- The token at place `s` of a step's block. -/
abbrev tok (t : Fin (cfgA m).N) (s : Fin 512) : Fin 12800 := ⟨512 * (t.val % 25) + s.val, by omega⟩
/-- The result's row at place `r` of a tile's block. -/
abbrev vrow (t : Fin (cfgA m).N) (r : Fin 1024) : Fin 30720 :=
  ⟨1024 * (t.val / 25) + r.val, by have h : t.val < 750 := lt_of_lt_of_eq t.isLt N_0; omega⟩

/-- The group of 128 columns at place `p` of a tile's scales. -/
abbrev grp (t : Fin (cfgA m).N) (p : Fin 8) : Fin 240 :=
  ⟨8 * (t.val / 25) + p.val, by have h : t.val < 750 := lt_of_lt_of_eq t.isLt N_0; omega⟩

/-- A grid number fits its word. -/
theorem word_val (n : ℕ) (h : n < 750) : (BitVec.ofNat 32 n).toNat = n := by
  rw [BitVec.toNat_ofNat]; exact Nat.mod_eq_of_lt (by omega)

/-- The first operand's block of codes at an index. -/
theorem iblk0_at (c : Dev nD) (t : Fin (cfgA m).N) (s : Fin 512) (r : Fin 1024) :
    (iblk m c 0 t : S512x1024.Idx → EReal) (ix2 s r) = (m ((c : Thread nD τ).loc main_arg0) : S5x2560x30720.Idx → EReal) (ix3 (Spec.sq (tok m t s)) (Spec.tk (tok m t s)) (vrow m t r)) := by
  refine Eq.trans ?_ (v18_at m c (tok m t s) (vrow m t r))
  show (V m c main_v18 : S12800x30720.Idx → EReal) _ = (V m c main_v18 : S12800x30720.Idx → EReal) _
  congr 1
  funext a
  have ht : t.val < 750 := lt_of_lt_of_eq t.isLt N_0
  have h0 := tile_val t
  have h1 := step_val t
  match a with
  | 0 =>
    apply Fin.ext
    show (BitVec.ofNat 32 (grid0.coords t 1).val).toNat * 512 + 1 * s.val = 512 * (t.val % 25) + s.val
    rw [word_val _ (by omega)]
    omega
  | 1 =>
    apply Fin.ext
    show (BitVec.ofNat 32 (grid0.coords t 0).val).toNat * 1024 + 1 * r.val = 1024 * (t.val / 25) + r.val
    rw [word_val _ (by omega)]
    omega

/-- The first operand's block of scales at an index. -/
theorem iblk1_at (c : Dev nD) (t : Fin (cfgA m).N) (p : Fin 8) (s : Fin 512) :
    (iblk m c 1 t : S8x512.Idx → EReal) (ix2 p s) = (m ((c : Thread nD τ).loc main_arg1) : S5x2560x240.Idx → EReal) (ix3 (Spec.sq (tok m t s)) (Spec.tk (tok m t s)) (grp m t p)) := by
  refine Eq.trans ?_ (v17_at m c (grp m t p) (tok m t s))
  show (V m c main_v17 : S240x12800.Idx → EReal) _ = (V m c main_v17 : S240x12800.Idx → EReal) _
  congr 1
  funext a
  have ht : t.val < 750 := lt_of_lt_of_eq t.isLt N_0
  have h0 := tile_val t
  have h1 := step_val t
  match a with
  | 0 =>
    apply Fin.ext
    show (BitVec.ofNat 32 (grid0.coords t 0).val).toNat * 8 + 1 * p.val = 8 * (t.val / 25) + p.val
    rw [word_val _ (by omega)]
    omega
  | 1 =>
    apply Fin.ext
    show (BitVec.ofNat 32 (grid0.coords t 1).val).toNat * 512 + 1 * s.val = 512 * (t.val % 25) + s.val
    rw [word_val _ (by omega)]
    omega

/-- The second operand's block of codes at an index. -/
theorem iblk2_at (c : Dev nD) (t : Fin (cfgA m).N) (s : Fin 512) (d : Fin 4608) :
    (iblk m c 2 t : S512x4608.Idx → EReal) (ix2 s d) = (m ((c : Thread nD τ).loc main_arg2) : S5x2560x4608.Idx → EReal) (ix3 (Spec.sq (tok m t s)) (Spec.tk (tok m t s)) d) := by
  refine Eq.trans ?_ (v19_at m c (tok m t s) d)
  show (V m c main_v19 : S12800x4608.Idx → EReal) _ = (V m c main_v19 : S12800x4608.Idx → EReal) _
  congr 1
  funext a
  have ht : t.val < 750 := lt_of_lt_of_eq t.isLt N_0
  have h0 := tile_val t
  have h1 := step_val t
  match a with
  | 0 =>
    apply Fin.ext
    show (BitVec.ofNat 32 (grid0.coords t 1).val).toNat * 512 + 1 * s.val = 512 * (t.val % 25) + s.val
    rw [word_val _ (by omega)]
    omega
  | 1 =>
    apply Fin.ext
    show 0 * 4608 + 1 * d.val = d.val
    omega

/-- The second operand's block of scales at an index. -/
theorem iblk3_at (c : Dev nD) (t : Fin (cfgA m).N) (s : Fin 512) (l : Fin 128) :
    (iblk m c 3 t : S512x128.Idx → EReal) (ix2 s l) = (m ((c : Thread nD τ).loc main_arg3) : S5x2560.Idx → EReal) (ix2 (Spec.sq (tok m t s)) (Spec.tk (tok m t s))) := by
  refine Eq.trans ?_ (v15_at m c (tok m t s) l)
  show (V m c main_v15 : S12800x128.Idx → EReal) _ = (V m c main_v15 : S12800x128.Idx → EReal) _
  congr 1
  funext a
  have ht : t.val < 750 := lt_of_lt_of_eq t.isLt N_0
  have h0 := tile_val t
  have h1 := step_val t
  match a with
  | 0 =>
    apply Fin.ext
    show (BitVec.ofNat 32 (grid0.coords t 1).val).toNat * 512 + 1 * s.val = 512 * (t.val % 25) + s.val
    rw [word_val _ (by omega)]
    omega
  | 1 =>
    apply Fin.ext
    show 0 * 128 + 1 * l.val = l.val
    omega

/-- A place of the result's block is this place of the result. -/
theorem oblk_emb (t : Fin (cfgA m).N) (r : Fin 1024) (d : Fin 4608) : ((((cfgA m).win 4).blk t).view.emb (ix2 r d) : S30720x4608.Idx) = ix2 (vrow m t r) d := by
  refine funext fun (a : Fin 2) => ?_
  have ht : t.val < 750 := lt_of_lt_of_eq t.isLt N_0
  have h0 := tile_val t
  match a with
  | 0 =>
    apply Fin.ext
    show (BitVec.ofNat 32 (grid0.coords t 0).val).toNat * 1024 + 1 * r.val = 1024 * (t.val / 25) + r.val
    rw [word_val _ (by omega)]
    omega
  | 1 =>
    apply Fin.ext
    show 0 * 4608 + 1 * d.val = d.val
    omega

end Entry

/-! ## The output block -/

section Block
variable {s : Shape} {e : EltTy} (a : Memref sig .tc .vmem s e) (c : Dev nD)

/-- Contents read through the whole of a memref are the memref's contents. -/
theorem read_all {off : Fin s.rank → ℕ} (inb : ∀ b, off b + s.size b ≤ s.size b) (f : Buf (Elt Ideal) (a.view.loc (c : Thread nD τ))) :
    (a.access (Rect.unit (s := s) off s.size inb)).read (Elt Ideal) f = a.view.read (Elt Ideal) f := by
  funext z
  show a.view.read (Elt Ideal) f ((Rect.unit (s := s) off s.size inb).emb z) = _
  rw [Rect.emb_unit_full]

/-- Contents written through the whole of a memref, read back. -/
theorem read_write_all {off : Fin s.rank → ℕ} (inb : ∀ b, off b + s.size b ≤ s.size b) (f : Buf (Elt Ideal) (a.view.loc (c : Thread nD τ))) (v : s.Idx → Elt Ideal e) :
    a.view.read (Elt Ideal) ((a.access (Rect.unit (s := s) off s.size inb)).write (Elt Ideal) f v Finset.univ) = v := by
  funext z
  have h := View.read_slice_write_emb (v := a.view) (Val := Elt Ideal) (Rect.unit (s := s) off s.size inb) f v (Finset.mem_univ z)
  rwa [Rect.emb_unit_full] at h

end Block

section Rows
variable (a : Memref sig .tc .vmem S1024x4608 .f32) (c : Dev nD) {off : Fin 2 → ℕ} (row : Fin 1024) (ho : off = ![row.val, 0])
  (inb : ∀ b, off b + S1x4608.size b ≤ S1024x4608.size b)

include ho in
/-- A one-row rectangle's index inside the block. -/
theorem row_emb (d : Fin 4608) : ((Rect.unit (s := S1024x4608) off S1x4608.size inb).emb (ix2 0 d) : S1024x4608.Idx) = ix2 row d := by
  subst ho
  funext b
  match b with
  | 0 =>
    apply Fin.ext
    show row.val + 1 * 0 = row.val
    omega
  | 1 =>
    apply Fin.ext
    show 0 + 1 * d.val = d.val
    omega

include ho in
/-- A row of a block, read. -/
theorem read_row (f : Buf (Elt Ideal) (a.view.loc (c : Thread nD τ))) (d : Fin 4608) :
    (a.access (Rect.unit (s := S1024x4608) off S1x4608.size inb)).read (Elt Ideal) f (ix2 0 d) = a.view.read (Elt Ideal) f (ix2 row d) := by
  show a.view.read (Elt Ideal) f ((Rect.unit (s := S1024x4608) off S1x4608.size inb).emb (ix2 0 d)) = _
  rw [row_emb row ho inb]

include ho in
/-- A block with one row written: that row is what was written, the others are as they were. -/
theorem read_write_row (f : Buf (Elt Ideal) (a.view.loc (c : Thread nD τ))) (v : S1x4608.Idx → Elt Ideal .f32) (r : Fin 1024) (d : Fin 4608) :
    a.view.read (Elt Ideal) ((a.access (Rect.unit (s := S1024x4608) off S1x4608.size inb)).write (Elt Ideal) f v Finset.univ) (ix2 r d)
      = if r = row then v (ix2 0 d) else a.view.read (Elt Ideal) f (ix2 r d) := by
  by_cases h : r = row
  · rw [if_pos h]
    have e := View.read_slice_write_emb (v := a.view) (Val := Elt Ideal) (Rect.unit (s := S1024x4608) off S1x4608.size inb) f v (Finset.mem_univ (ix2 0 d))
    rw [row_emb row ho inb] at e
    rw [h]; exact e
  · rw [if_neg h]
    refine View.read_slice_write_of_not_mem (v := a.view) (Val := Elt Ideal) (Rect.unit (s := S1024x4608) off S1x4608.size inb) f v Finset.univ ?_
    intro hm
    obtain ⟨x, -, hx⟩ := Finset.mem_map.mp hm
    obtain ⟨d', rfl⟩ : ∃ d' : Fin 4608, x = ix2 0 d' := ⟨x 1, by
      rw [show x = ix2 (x 0) (x 1) from eq_ix2 x]
      congr 1
      exact Subsingleton.elim (α := Fin 1) _ _⟩
    rw [row_emb row ho inb] at hx
    exact h (congrFun hx 0).symm

end Rows

end Cert.KernelIdeal.Hand

end
-- ==== Proof.KernelIdealValue.lean ====
/- The kernel's run at the ideal instance with the result's value: what the output block holds after each point, the exact body
   obligation, and the result array after the run. -/
module

public import proofs.«01_k».proof.Proof.KernelIdealPoints

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

local notation "𝕄" => MT nD τ sig Unit (Elt Ideal) ℕ (Pipeline.UD sig nD τ) ℕ

variable (m : (ℓ : Loc nD τ sig) → Buf (Elt Ideal) ℓ)

/-! ## What the output block holds -/

/-- A token's term of the product at row `v`, column `d`; nothing past the last token. -/
def dterm (c : Dev nD) (v : Fin 30720) (d : Fin 4608) (n : ℕ) : EReal :=
  if h : n < 12800 then Spec.dl (m ((c : Thread nD τ).loc main_arg0)) (m ((c : Thread nD τ).loc main_arg1)) ⟨n, h⟩ v
    * Spec.hh (m ((c : Thread nD τ).loc main_arg2)) (m ((c : Thread nD τ).loc main_arg3)) ⟨n, h⟩ d else 0

/-- The row of the copied array that word `x` names, at column `d`. -/
def erow (c : Dev nD) (x : BitVec 32) (d : Fin 4608) : EReal :=
  if h : x.toNat < 12800 then (V m c main_v20 : S12800x4608.Idx → EReal) (ix2 ⟨x.toNat, h⟩ d) else 0

/-- What position `q` of the sorted ids adds to row `v`, column `d`. -/
def eterm (c : Dev nD) (v : Fin 30720) (d : Fin 4608) (q : ℕ) : EReal :=
  if (wordAt (V m c main_v2_0) q).toInt = (v.val : Int) then erow m c (wordAt (V m c main_v2_1) q) d else 0

/-- The product's terms of the steps up to and with point `t`. -/
abbrev head (c : Dev nD) (t : Fin (cfgA m).N) (r : Fin 1024) (d : Fin 4608) : EReal :=
  ∑ n ∈ Finset.range (512 * (t.val % 25 + 1)), dterm m c (vrow m t r) d n

/-- The output block after point `t`: the product's terms so far, and after a tile's last step the rows of the tile's positions too. -/
def outv (c : Dev nD) (t : Fin (cfgA m).N) : FVec Ideal S1024x4608 .f32 := fun i =>
  head m c t (i 0) (i 1)
    + if t.val % 25 = 24 then ∑ q ∈ Finset.Ico (lo (grid0.coords t) (V m c main_v12)).toNat (hi (grid0.coords t) (V m c main_v12)).toNat, eterm m c (vrow m t (i 0)) (i 1) q else 0

/-- The output block after a point, at an index. -/
theorem outv_at (c : Dev nD) (t : Fin (cfgA m).N) (r : Fin 1024) (d : Fin 4608) :
    outv m c t (ix2 r d) = head m c t r d
      + if t.val % 25 = 24 then ∑ q ∈ Finset.Ico (lo (grid0.coords t) (V m c main_v12)).toNat (hi (grid0.coords t) (V m c main_v12)).toNat, eterm m c (vrow m t r) d q else 0 := rfl

/-- One step adds its block's terms. -/
theorem head_step (c : Dev nD) (t : Fin (cfgA m).N) (r : Fin 1024) (d : Fin 4608) :
    head m c t r d = (∑ n ∈ Finset.range (512 * (t.val % 25)), dterm m c (vrow m t r) d n) + ∑ s : Fin 512, dterm m c (vrow m t r) d (512 * (t.val % 25) + s.val) := by
  unfold head
  rw [Nat.mul_add, Nat.mul_one, Finset.sum_range_add, Finset.sum_range (n := 512)]

/-! ## One step's writes -/

/-- Contents of the output block's buffer, read at row `r`, column `d`. -/
abbrev blk4 (c : Dev nD) (t : Fin (cfgA m).N) (g : Buf (Elt Ideal) ((a10 m t).view.loc (c : Thread nD τ))) (r : Fin 1024) (d : Fin 4608) : EReal :=
  (a10 m t).view.read (Elt Ideal) g (ix2 r d)

section Step
variable (c : Dev nD) (t : Fin (cfgA m).N)
  (b5 : Buf (Elt Ideal) ((a5 m t).view.loc (c : Thread nD τ))) (b6 : Buf (Elt Ideal) ((a6 m t).view.loc (c : Thread nD τ)))
  (b7 : Buf (Elt Ideal) ((a7 m t).view.loc (c : Thread nD τ))) (b8 : Buf (Elt Ideal) ((a8 m t).view.loc (c : Thread nD τ)))
  (h5 : (a5 m t).view.read (Elt Ideal) b5 = iblk m c 0 t) (h6 : (a6 m t).view.read (Elt Ideal) b6 = iblk m c 1 t)
  (h7 : (a7 m t).view.read (Elt Ideal) b7 = iblk m c 2 t) (h8 : (a8 m t).view.read (Elt Ideal) b8 = iblk m c 3 t)

omit m c t b5 b6 b7 b8 h5 h6 h7 h8 in
/-- The reshaped scales are the scales. -/
theorem pay14_at (x : Vec Ideal S512x128 .bf16) (s : Fin 512) (l : Fin 128) : (k0_pay14 (F := Ideal) x : S512x128.Idx → EReal) (ix2 s l) = (x : S512x128.Idx → EReal) (ix2 s l) := by
  unfold k0_pay14; pointwise []

omit m c t b5 b6 b7 b8 h5 h6 h7 h8 in
/-- The reshaped codes are the codes. -/
theorem pay15_at (x : Vec Ideal S512x4608 .fp8e4m3) (s : Fin 512) (d : Fin 4608) : (k0_pay15 (F := Ideal) x : S512x4608.Idx → EReal) (ix2 s d) = (x : S512x4608.Idx → EReal) (ix2 s d) := by
  unfold k0_pay15; pointwise []

include h5 h6 h7 h8 in
/-- The block with the step's product added. -/
theorem prod_at (g : Buf (Elt Ideal) ((a10 m t).view.loc (c : Thread nD τ))) (r : Fin 1024) (d : Fin 4608) :
    blk4 m c t (prod c (a5 m t) (a6 m t) (a7 m t) (a8 m t) (a10 m t) b5 b6 b7 b8 g) r d
      = blk4 m c t g r d + ∑ s : Fin 512, dterm m c (vrow m t r) d (512 * (t.val % 25) + s.val) := by
  unfold prod
  have e := congrFun (read_write_all (s := S1024x4608) (e := .f32) (a10 m t) c inb_S1024x4608_S1024x4608_0_0 g
    (k0_pay7 (k0_pay13 (((a5 m t).access (Rect.unit (s := S512x1024) ![0, 0] S512x1024.size inb_S512x1024_S512x1024_0_0)).read (Elt Ideal) b5)
          (((a6 m t).access (Rect.unit (s := S8x512) ![0, 0] S8x512.size inb_S8x512_S8x512_0_0)).read (Elt Ideal) b6))
        (kHH (k0_pay14 (((a8 m t).access (Rect.unit (s := S512x128) ![0, 0] S512x128.size inb_S512x128_S512x128_0_0)).read (Elt Ideal) b8))
          (k0_pay15 (((a7 m t).access (Rect.unit (s := S512x4608) ![0, 0] S512x4608.size inb_S512x4608_S512x4608_0_0)).read (Elt Ideal) b7)))
        (((a10 m t).access RO).read (Elt Ideal) g))) (ix2 r d)
  refine e.trans ?_
  rw [read_all (a5 m t) c, read_all (a6 m t) c, read_all (a7 m t) c, read_all (a8 m t) c, read_all (a10 m t) c, h5, h6, h7, h8]
  refine (pay7_at _ _ _ r d).trans ?_
  refine congrArg₂ (· + ·) rfl (Finset.sum_congr rfl fun s _ => ?_)
  have hn : 512 * (t.val % 25) + s.val < 12800 := by have := s.isLt; omega
  refine (congrArg₂ (· * ·) (pay13_at _ _ r s) (kHH_at _ _ s d)).trans ?_
  unfold dterm
  rw [dif_pos hn]
  unfold Spec.dl Spec.hh
  refine congrArg₂ (· * ·) (congrArg₂ (· * ·) (iblk0_at m c t s r) ((iblk1_at m c t _ s).trans ?_)) (congrArg₂ (· * ·) ?_ ?_)
  · rw [show grp m t ⟨r.val / 128, by omega⟩ = (⟨(vrow m t r).val / 128, by omega⟩ : Fin 240) from Fin.ext (by
      show 8 * (t.val / 25) + r.val / 128 = (1024 * (t.val / 25) + r.val) / 128
      omega)]
  · exact (pay15_at _ s d).trans (iblk2_at m c t s d)
  · exact (pay14_at _ s _).trans (iblk3_at m c t s _)

/-- The block a step starts from, cleared at a tile's first step. -/
theorem start_at (g : Buf (Elt Ideal) ((a10 m t).view.loc (c : Thread nD τ)))
    (hg : t.val % 25 ≠ 0 → ∀ r d, blk4 m c t g r d = ∑ n ∈ Finset.range (512 * (t.val % 25)), dterm m c (vrow m t r) d n)
    (r : Fin 1024) (d : Fin 4608) :
    blk4 m c t (start0 c (grid0.coords t) (a10 m t) g) r d = ∑ n ∈ Finset.range (512 * (t.val % 25)), dterm m c (vrow m t r) d n := by
  unfold start0
  by_cases h : t.val % 25 = 0
  · rw [if_pos ((first_iff _).mpr ((step_val t).trans h))]
    refine (congrFun (read_write_all (s := S1024x4608) (e := .f32) (a10 m t) c inb_S1024x4608_S1024x4608_0_0 g (k0_pay12 (F := Ideal))) (ix2 r d)).trans ?_
    rw [h]
    exact (pay12_at r d).trans (by simp)
  · rw [if_neg (fun e => h ((step_val t).symm.trans ((first_iff _).mp e)))]
    exact hg h r d

/-- The block while a tile's rows are added: the whole product, and the rows of the positions below `p`. -/
def AccAt (p : ℕ) (g : Buf (Elt Ideal) ((a10 m t).view.loc (c : Thread nD τ))) : Prop :=
  ∀ (r : Fin 1024) (d : Fin 4608), blk4 m c t g r d
    = head m c t r d + ∑ q ∈ Finset.Ico (lo (grid0.coords t) (V m c main_v12)).toNat p, eterm m c (vrow m t r) d q

/-- Adding the row of one more position keeps `AccAt`. -/
theorem adds (h2 : k0_cond2 (grid0.coords t) = 1#1) :
    Adds (F := Ideal) c (V m c main_v20) (grid0.coords t) (a10 m t) h2 (lo (grid0.coords t) (V m c main_v12)) (hi (grid0.coords t) (V m c main_v12)) (V m c main_v2_1) (V m c main_v2_0) (AccAt m c t) := by
  intro p hp1 hp2 hc pr g hpr hg r d
  have hT := tables_ok m c
  have hp : p < 12800 := lt_of_lt_of_le hp2 (hT.le _)
  have htk : (wordAt (V m c main_v2_1) p).toNat < 12800 := by
    unfold wordAt; rw [dif_pos hp]; exact hT.tk_lt ⟨p, hp⟩
  have hb : (1024 * (grid0.coords t 0).val : Int) ≤ (wordAt (V m c main_v2_0) p).toInt ∧ (wordAt (V m c main_v2_0) p).toInt < 1024 * ((grid0.coords t 0).val + 1 : Int) := by
    unfold wordAt; rw [dif_pos hp]
    have e1 := (hT.cut ⟨_, lt_trans (show (grid0.coords t 0).val < 30 from (grid0.coords t 0).isLt) (by decide)⟩ ⟨p, hp⟩).not.mp (not_lt.mpr hp1)
    have e2 := (hT.cut _ ⟨p, hp⟩).mp hp2
    exact ⟨by push_cast at e1 ⊢; exact not_lt.mp e1, by push_cast at e2 ⊢; exact e2⟩
  obtain ⟨ho, hrow, hle⟩ := off17 (grid0.coords t) (wordAt (V m c main_v2_0) p) hb.1 hb.2
  have h0 := tile_val t
  have hint : (wordAt (V m c main_v2_0) p).toInt = ((wordAt (V m c main_v2_0) p).toNat : Int) := by
    have hl := hb.1
    rw [BitVec.toInt_eq_toNat_cond] at hl ⊢
    have hlt := (wordAt (V m c main_v2_0) p).isLt
    split at hl
    · rw [if_pos (by assumption)]
    · omega
  refine (read_write_row (a10 m t) c ⟨_, hrow⟩ ho _ g _ r d).trans ?_
  rw [Finset.sum_Ico_succ_top hp1, ← add_assoc]
  by_cases hr : r = ⟨_, hrow⟩
  · rw [if_pos hr]
    refine (pay8_pair c _ _ htk pr hpr _ d).trans ?_
    refine congrArg₂ (· + ·) ((read_row (a10 m t) c ⟨_, hrow⟩ ho _ g d).trans ?_) ?_
    · rw [← hr]; exact hg r d
    · unfold eterm erow
      rw [if_pos, dif_pos htk]
      rw [hint, hr]
      show _ = ((1024 * (t.val / 25) + ((wordAt (V m c main_v2_0) p).toNat - 1024 * (grid0.coords t 0).val) : ℕ) : Int)
      omega
  · rw [if_neg hr]
    refine (hg r d).trans ?_
    have hz : eterm m c (vrow m t r) d p = 0 := by
      unfold eterm
      rw [if_neg]
      intro e
      apply hr
      apply Fin.ext
      rw [hint] at e
      have e' : (wordAt (V m c main_v2_0) p).toNat = 1024 * (t.val / 25) + r.val := by exact_mod_cast e
      show r.val = (wordAt (V m c main_v2_0) p).toNat - 1024 * (grid0.coords t 0).val
      omega
    rw [hz, add_zero]

end Step

/-! ## One point, exactly -/

omit m in
/-- A block's index is a row and a column. -/
theorem block_idx (y : S1024x4608.Idx) : ∃ (r : Fin 1024) (d : Fin 4608), y = ix2 r d := ⟨y 0, y 1, eq_ix2 y⟩

omit m in
/-- The result's index is a row and a column. -/
theorem result_idx (i : S30720x4608.Idx) : ∃ (v : Fin 30720) (d : Fin 4608), i = ix2 v d := ⟨i 0, i 1, eq_ix2 i⟩

/-- What the output block holds when a step that is not a tile's first begins: the terms of the steps before. -/
theorem before_at (c : Dev nD) (t : Fin (cfgA m).N) (h : t.val % 25 ≠ 0) (dd) (r : Fin 1024) (d : Fin 4608) :
    ((dats m (outv m) 0 c).before 4 t dd : S1024x4608.Idx → EReal) (ix2 r d) = ∑ n ∈ Finset.range (512 * (t.val % 25)), dterm m c (vrow m t r) d n := by
  have ht : t.val ≠ 0 := fun e => h (by rw [e])
  have hfl : ((cfgA m).win 4).flush ⟨t.val - 1, Nat.lt_of_le_of_lt (Nat.sub_le _ _) t.isLt⟩ = false := by
    rw [flush_iff]
    exact decide_eq_false (by show ¬ (t.val - 1) % 25 = 24; omega)
  refine (congrFun ((dats m (outv m) 0 c).before_out_kept 4 rfl t ht hfl (fun _ => rfl) (fun _ _ => rfl) dd) (ix2 r d)).trans ?_
  rw [after_4]
  refine (outv_at m c _ r d).trans ?_
  rw [if_neg (by show ¬ (t.val - 1) % 25 = 24; omega), add_zero]
  unfold head
  have e1 : (t.val - 1) % 25 + 1 = t.val % 25 := by omega
  have e2 : vrow m ⟨t.val - 1, Nat.lt_of_le_of_lt (Nat.sub_le _ _) t.isLt⟩ r = vrow m t r := Fin.ext (by
    show 1024 * ((t.val - 1) / 25) + r.val = 1024 * (t.val / 25) + r.val
    rw [show (t.val - 1) / 25 = t.val / 25 by omega])
  rw [e2]
  show ∑ n ∈ Finset.range (512 * ((t.val - 1) % 25 + 1)), _ = _
  rw [e1]

/-- One grid point: from the output block as the step finds it to the output block at its value. -/
theorem point_value (c : Dev nD) (t : Fin (cfgA m).N) :
    iprop((dats m (outv m) 0 c).Φ t.castSucc ∗ (dats m (outv m) 0 c).owesAt () t.castSucc
      ∗ (∃ d, owns (c : Thread nD τ) (a5 m t) fullShare ((dats m (outv m) 0 c).before 0 t d))
      ∗ (∃ d, owns (c : Thread nD τ) (a6 m t) fullShare ((dats m (outv m) 0 c).before 1 t d))
      ∗ (∃ d, owns (c : Thread nD τ) (a7 m t) fullShare ((dats m (outv m) 0 c).before 2 t d))
      ∗ (∃ d, owns (c : Thread nD τ) (a8 m t) fullShare ((dats m (outv m) 0 c).before 3 t d))
      ∗ (∃ d, owns (c : Thread nD τ) (a10 m t) fullShare ((dats m (outv m) 0 c).before 4 t d)))
    ⊢ wp Idealize.ShloMosaic.frame (wpE (defs₀ (F := Ideal)) Variants.none (c : Thread nD τ) none) Set.univ (bodyAt m t)
      (fun _ => iprop((dats m (outv m) 0 c).Φ t.succ ∗ (dats m (outv m) 0 c).owesAt () t.succ
        ∗ owns (c : Thread nD τ) (a5 m t) fullShare ((dats m (outv m) 0 c).after 0 t)
        ∗ owns (c : Thread nD τ) (a6 m t) fullShare ((dats m (outv m) 0 c).after 1 t)
        ∗ owns (c : Thread nD τ) (a7 m t) fullShare ((dats m (outv m) 0 c).after 2 t)
        ∗ owns (c : Thread nD τ) (a8 m t) fullShare ((dats m (outv m) 0 c).after 3 t)
        ∗ owns (c : Thread nD τ) (a10 m t) fullShare ((dats m (outv m) 0 c).after 4 t))) := by
  have hbef := before_at m c t
  rw [show (dats m (outv m) 0 c).Φ t.succ = inv m c from rfl, show (dats m (outv m) 0 c).Φ t.castSucc = inv m c from rfl, after_0, after_1, after_2, after_3, after_4]
  simp only [before_0, before_1, before_2, before_3]
  unfold Dat.owesAt Pipeline.owesWithin
  rw [show (dats m (outv m) 0 c).owed t.castSucc = 0 from rfl, show (dats m (outv m) 0 c).owed t.succ = 0 from rfl]
  unfold owns
  iintro ⟨HI, ⟨%W, -, HW⟩, ⟨%d0, %b5, %h5, H5⟩, ⟨%d1, %b6, %h6, H6⟩, ⟨%d2, %b7, %h7, H7⟩, ⟨%d3, %b8, %h8, H8⟩, ⟨%X, %g, %hg, Hout⟩⟩
  have hst : ∀ (r : Fin 1024) (d : Fin 4608), blk4 m c t (prod c (a5 m t) (a6 m t) (a7 m t) (a8 m t) (a10 m t) b5 b6 b7 b8 (start0 c (grid0.coords t) (a10 m t) g)) r d = head m c t r d := fun r d => by
    rw [prod_at m c t b5 b6 b7 b8 h5 h6 h7 h8, head_step]
    rw [start_at m c t g (fun h r d => (congrFun hg (ix2 r d)).trans (hbef h X r d)) r d]
  iapply (wp_wand_r _ _ _)
  isplitl [HI HW H5 H6 H7 H8 Hout]
  · iapply (point m c t b5 b6 b7 b8 g (fun g' => (a10 m t).view.read (Elt Ideal) g' = outv m c t)
      (fun h2 => funext fun i => by
        obtain ⟨r, d, rfl⟩ := block_idx i
        refine (hst r d).trans ((outv_at m c t r d).trans ?_).symm
        rw [if_neg (fun e => h2 ((last_iff _).mpr ((step_val t).trans e))), add_zero])
      (fun h2 => ⟨AccAt m c t, adds m c t h2, fun r d => by
          rw [Finset.Ico_self, Finset.sum_empty, add_zero]; exact hst r d,
        fun g' hg' => funext fun i => by
          obtain ⟨r, d, rfl⟩ := block_idx i
          refine (hg' r d).trans ((outv_at m c t r d).trans ?_).symm
          rw [if_pos ((step_val t).symm.trans ((last_iff _).mp h2))]⟩))
    isplitl [HI]; · iexact HI
    isplitl [HW]; · iexists W; iexact HW
    unfold Ins
    isplitl [H5 H6 H7 H8]
    · isplitl [H5]; · iexact H5
      isplitl [H6]; · iexact H6
      isplitl [H7]; · iexact H7
      iexact H8
    iexact Hout
  iintro %_ H
  unfold Ins
  icases H with ⟨HI, ⟨%W', HW'⟩, ⟨H5, H6, H7, H8⟩, ⟨%g', %hg', Hout⟩⟩
  isplitl [HI]; · iexact HI
  isplitl [HW']
  · iexists W'; isplitr; · ipureintro; exact fun _ _ => Or.inl trivial
    iexact HW'
  isplitl [H5]
  · iexists b5; isplitr; · ipureintro; exact h5
    iexact H5
  isplitl [H6]
  · iexists b6; isplitr; · ipureintro; exact h6
    iexact H6
  isplitl [H7]
  · iexists b7; isplitr; · ipureintro; exact h7
    iexact H7
  isplitl [H8]
  · iexists b8; isplitr; · ipureintro; exact h8
    iexact H8
  iexists g'; isplitr; · ipureintro; exact hg'
  iexact Hout

/-- The body's obligation at every point, with the output block's value. -/
theorem obligation (c : Dev nD) : BodyObligation (dats m (outv m) 0 c) (defs₀ (F := Ideal)) Variants.none () Set.univ := fun t => by
  rw [bigSep_W0, bigSep_W0, body_row]
  exact triple_restated (point_value m c t) rfl .rfl fun _ => .rfl

set_option backward.isDefEq.respectTransparency.types false in
/-- The whole program runs, with every array at its value. -/
theorem run_exact (ρ : Dev nD → PrngReg) : θ_run defs (onTc (τ := τ) (main (F := Ideal))) (s₀ m ρ)
    (fun r => Pipeline.FramePost (Pipeline.pin pcfgs (adm m)) (dats m (outv m)) 0 (V m) r ∧ r.2.sem = fun _ => 0) :=
  Pipeline.θ_run_frameP_dma (Q' := _) pcfgs (adm m) (dats m (outv m)) (0 : Fin 1) launch0 osem defs₀ Variants.none
    own_facts {main_v20} copied_rest m ρ main
    (hbody := fun c => (obligation m c).loose) (hshare := fun c => (dats m (outv m) 0 c).share_full fun _ => rfl)
    (howed := fun _ _ => rfl) (V := V m) (hmain := main_at m) (hA := A_eq m (outv m)) (hpf := pf_eq m)
    (hin := fun _ => .rfl) (hout := fun c => by
      show inv m c ⊢ _
      iintro ⟨H, -⟩; iexact H)

/-! ## The result array -/

/-- The positions' rows of a tile are the rows of the tokens with that id. -/
theorem rows_sum (c : Dev nD) (t : Fin (cfgA m).N) (r : Fin 1024) (d : Fin 4608) :
    ∑ q ∈ Finset.Ico (lo (grid0.coords t) (V m c main_v12)).toNat (hi (grid0.coords t) (V m c main_v12)).toNat, eterm m c (vrow m t r) d q
      = ∑ n ∈ Finset.univ.filter (fun n : Fin 12800 => (Spec.id (m ((c : Thread nD τ).loc main_arg4)) n).toInt = ((vrow m t r).val : Int)), Spec.emb (m ((c : Thread nD τ).loc main_arg5)) n d := by
  have hT := tables_ok m c
  obtain ⟨σ, hσ⟩ := hT.perm
  have h0 := tile_val t
  have hsub : Finset.Ico (lo (grid0.coords t) (V m c main_v12)).toNat (hi (grid0.coords t) (V m c main_v12)).toNat ⊆ Finset.range 12800 := fun q hq => by
    rw [Finset.mem_Ico] at hq
    exact Finset.mem_range.mpr (lt_of_lt_of_le hq.2 (hT.le _))
  rw [Finset.sum_subset hsub (fun q hq hn => ?_)]
  · rw [Finset.sum_range, Finset.sum_filter]
    refine Eq.trans ?_ (Equiv.sum_comp σ (fun n : Fin 12800 => if (Spec.id (m ((c : Thread nD τ).loc main_arg4)) n).toInt = ((vrow m t r).val : Int) then Spec.emb (m ((c : Thread nD τ).loc main_arg5)) n d else 0))
    refine Finset.sum_congr rfl fun q _ => ?_
    unfold eterm wordAt
    rw [dif_pos q.isLt, dif_pos q.isLt]
    rw [show (V m c main_v2_0 : S12800.Idx → BitVec 32) (.ofFin ⟨q.val, q.isLt⟩) = Spec.id (m ((c : Thread nD τ).loc main_arg4)) (σ q) from (hσ q).1.trans (ids_at m c (σ q))]
    refine if_congr Iff.rfl ?_ rfl
    unfold erow
    have hw : ((V m c main_v2_1 : S12800.Idx → BitVec 32) (.ofFin ⟨q.val, q.isLt⟩)).toNat = (σ q).val := (hσ q).2
    rw [dif_pos (lt_of_eq_of_lt hw (σ q).isLt)]
    rw [show (⟨((V m c main_v2_1 : S12800.Idx → BitVec 32) (.ofFin ⟨q.val, q.isLt⟩)).toNat, lt_of_eq_of_lt hw (σ q).isLt⟩ : Fin 12800) = σ q from Fin.ext hw]
    exact v20_at m c (σ q) d
  · have hq' : q < 12800 := Finset.mem_range.mp hq
    unfold eterm
    rw [if_neg]
    intro e
    apply hn
    unfold wordAt at e
    rw [dif_pos hq'] at e
    have hr := r.isLt
    have e' : ((V m c main_v2_0 : S12800.Idx → BitVec 32) (.ofFin ⟨q, hq'⟩)).toInt = ((1024 * (t.val / 25) + r.val : ℕ) : Int) := e
    rw [Finset.mem_Ico]
    refine ⟨not_lt.mp fun hl => ?_, (hT.cut _ ⟨q, hq'⟩).mpr ?_⟩
    · have h1 := (hT.cut ⟨_, lt_trans (show (grid0.coords t 0).val < 30 from (grid0.coords t 0).isLt) (by decide)⟩ ⟨q, hq'⟩).mp hl
      rw [e'] at h1
      have h2 : ((1024 * (t.val / 25) + r.val : ℕ) : Int) < 1024 * ((grid0.coords t 0).val : Int) := h1
      omega
    · rw [e']
      show ((1024 * (t.val / 25) + r.val : ℕ) : Int) < 1024 * (((grid0.coords t 0).val + 1 : ℕ) : Int)
      omega

/-- The whole product's terms are the tokens'. -/
theorem head_last (c : Dev nD) (t : Fin (cfgA m).N) (h : t.val % 25 = 24) (r : Fin 1024) (d : Fin 4608) :
    head m c t r d = ∑ n : Fin 12800, Spec.dl (m ((c : Thread nD τ).loc main_arg0)) (m ((c : Thread nD τ).loc main_arg1)) n (vrow m t r)
      * Spec.hh (m ((c : Thread nD τ).loc main_arg2)) (m ((c : Thread nD τ).loc main_arg3)) n d := by
  unfold head
  rw [h, show 512 * (24 + 1) = 12800 from rfl, Finset.sum_range]
  refine Finset.sum_congr rfl fun n _ => ?_
  unfold dterm
  rw [dif_pos n.isLt]

/-- What the kernel leaves in its result buffer. -/
theorem value (c : Dev nD) : (dats m (outv m) 0 c).arrAt 4 (cfgA m).N
      = (fun i => Spec.out (m (c.tc.loc main_arg0)) (m (c.tc.loc main_arg1)) (m (c.tc.loc main_arg2)) (m (c.tc.loc main_arg3)) (m (c.tc.loc main_arg4)) (m (c.tc.loc main_arg5)) (i 0) (i 1) : S30720x4608.Idx → EReal) := by
  refine (dats m (outv m) 0 c).arrAt_eq_of_emb 4 _ (fun t hf y => ?_) (fun i => ?_)
  · obtain ⟨r, d, rfl⟩ := block_idx y
    rw [flush_iff] at hf
    have h := of_decide_eq_true hf
    refine Eq.trans (b := outv m c t (ix2 r d)) rfl ?_
    rw [oblk_emb]
    refine (outv_at m c t r d).trans ?_
    rw [if_pos h, head_last m c t h, rows_sum]
    rfl
  · obtain ⟨v, d, rfl⟩ := result_idx i
    have hv := v.isLt
    refine ⟨⟨25 * (v.val / 1024) + 24, lt_of_lt_of_eq (by omega) N_0.symm⟩, ?_, ?_⟩
    · rw [flush_iff]
      exact decide_eq_true (by show (25 * (v.val / 1024) + 24) % 25 = 24; omega)
    · refine Finset.mem_map.mpr ⟨ix2 (⟨v.val % 1024, by omega⟩ : Fin 1024) d, Finset.mem_univ _, ?_⟩
      rw [oblk_emb]
      congr 1
      apply Fin.ext
      show 1024 * ((25 * (v.val / 1024) + 24) / 25) + v.val % 1024 = v.val
      omega

/-- The kernel program runs and ends with its result at the specification's value and its arguments as they were. -/
theorem run_value (ρ : Dev nD → PrngReg) : θ_run defs (onTc (τ := τ) (main (F := Ideal))) ⟨m, fun _ => 0, ρ⟩ (fun r => ∀ c : Dev nD,
      r.2.mem ((c.tc : Thread nD τ).loc main_v21) = (fun i => Spec.out (m (c.tc.loc main_arg0)) (m (c.tc.loc main_arg1)) (m (c.tc.loc main_arg2)) (m (c.tc.loc main_arg3)) (m (c.tc.loc main_arg4)) (m (c.tc.loc main_arg5)) (i 0) (i 1) : S30720x4608.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r (h : _ ∧ _) c => ?_) (run_exact m ρ)
  exact ⟨((h.1 c).1 4).trans (value m c),
      ((h.1 c).2 main_arg0 rest_arg0).trans (V_arg0 m c),
      ((h.1 c).2 main_arg1 rest_arg1).trans (V_arg1 m c),
      ((h.1 c).2 main_arg2 rest_arg2).trans (V_arg2 m c),
      ((h.1 c).2 main_arg3 rest_arg3).trans (V_arg3 m c),
      ((h.1 c).2 main_arg4 rest_arg4).trans (V_arg4 m c),
      ((h.1 c).2 main_arg5 rest_arg5).trans (V_arg5 m c)⟩

end Cert.KernelIdeal.Hand

end
-- ==== Proof.ReferenceValue.lean ====
/- What the reference computes at the ideal instance. -/
module

public import proofs.«01_k».proof.Proof.Gen.ReferenceIdeal.Frame
public import proofs.«01_k».proof.Proof.Spec
public import Idealize.ShloMosaic.PureOps.Ideal.Laws
public import Idealize.ShloMosaic.Lib.Pointwise
public import Idealize.ShloMosaic.Lib.Claim
public import Idealize.ShloMosaic.Lib.TwoAxisContraction
public import Idealize.ShloMosaic.Lib.Routing.OpsPair
public import Idealize.ShloMosaic.Lib.Pipeline.ValueKit
public import Idealize.ShloMosaic.Lib.WordCmp

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)

/-- The reference's result from the decoded codes and the other arguments. -/
def term {F : FTy → Type} [FloatOps F] (x0 : FVec F S5x2560x30720 .bf16) (x1 : FVec F S5x2560x4608 .bf16) (a1 : FVec F S5x2560x240 .f32) (a3 : FVec F S5x2560 .f32)
    (a4 : S5x2560.Idx → BitVec 32) (a5 : FVec F S5x2560x4608 .bf16) : FVec F S30720x4608 .f32 :=
  let v6 := shapeCast S5x2560x30720 (mulf (shapeCast S5x2560x240x128 x0 shapeCasts_S5x2560x30720_S5x2560x240x128)
    (broadcastInDim S5x2560x240x128 ![0, 1, 2, 3] bcast_S5x2560x240x1_S5x2560x240x128_0_1_2_3 (broadcastInDim S5x2560x240x1 ![0, 1, 2] bcast_S5x2560x240_S5x2560x240x1_0_1_2 (truncf .bf16 a1 bitsLt_bf16_f32)))) shapeCasts_S5x2560x240x128_S5x2560x30720
  let v10 := mulf x1 (broadcastInDim S5x2560x4608 ![0, 1, 2] bcast_S5x2560x1_S5x2560x4608_0_1_2 (broadcastInDim S5x2560x1 ![0, 1] bcast_S5x2560_S5x2560x1_0_1 (truncf .bf16 a3 bitsLt_bf16_f32)))
  let v12 := shapeCast S12800 a4 shapeCasts_S5x2560_S12800
  let v19 := select (cmpi .slt v12 (broadcastInDim S12800 ![] bcast_S_S12800 (constantI S_ 32 0#32))) (addi v12 (broadcastInDim S12800 ![] bcast_S_S12800 (constantI S_ 32 30720#32))) v12
  Host.scatterAdd scatter_S30720x4608_S12800x1_S12800x4608_1_0_0_1
    (Host.dotGeneral dot_S5x2560x30720_S5x2560x4608_S30720x4608_01_01_2_2_n_n none v6 v10)
    (broadcastInDim S12800x1 ![0] bcast_S12800_S12800x1_0 v19)
    (extf .f32 (shapeCast S12800x4608 a5 shapeCasts_S5x2560x4608_S12800x4608) bitsLt_bf16_f32)

section
variable {F : FTy → Type} [FloatOps F] (m : (ℓ : Loc nD τ sig) → Buf (Elt F) ℓ)

/-- What the reference leaves in its result: `term` of the decoded codes and the arguments. -/
theorem after_term (c : Dev nD) (σ : Valuation τ sig (Elt F)) :
    StableHlo.after (hostOps1 (F := F)) σ (Proc.devRef .tc main_v21)
      = term (σ (Proc.devRef .tc main_v0_0)) (σ (Proc.devRef .tc main_v0_1)) (σ (Proc.devRef .tc main_arg1)) (σ (Proc.devRef .tc main_arg3)) (σ (Proc.devRef .tc main_arg4)) (σ (Proc.devRef .tc main_arg5)) := by
  entry_read
  rfl

end

variable (m : (ℓ : Loc nD τ sig) → Buf (Elt Ideal) ℓ)

/-- The decoded codes of the first operand, as an array. -/
theorem arr2 (c : Dev nD) : (dats (F := Ideal) m 0 c).arrAt 2 cfg0.N = (fun i : S5x2560x30720.Idx => (m ((c : Thread nD τ).loc main_arg0) : S5x2560x30720.Idx → EReal) i) := by
  refine (dats m 0 c).arrAt_eq_of_covers 2 _ (by decide +kernel) fun t hf y => ?_
  blk_simp
  rw [after0_2]
  frame_out
  show (m (c.tc.loc main_arg0) : _ → EReal) _ = (m (c.tc.loc main_arg0) : _ → EReal) _
  congr 1

/-- The decoded codes of the second operand, as an array. -/
theorem arr3 (c : Dev nD) : (dats (F := Ideal) m 0 c).arrAt 3 cfg0.N = (fun i : S5x2560x4608.Idx => (m ((c : Thread nD τ).loc main_arg2) : S5x2560x4608.Idx → EReal) i) := by
  refine (dats m 0 c).arrAt_eq_of_covers 3 _ (by decide +kernel) fun t hf y => ?_
  blk_simp
  rw [after0_3]
  frame_out
  show (m (c.tc.loc main_arg2) : _ → EReal) _ = (m (c.tc.loc main_arg2) : _ → EReal) _
  congr 1

/-- The decoded gradient of token `(b, s)` at logit `v`. -/
theorem lhs_at (x0 : FVec Ideal S5x2560x30720 .bf16) (a1 : FVec Ideal S5x2560x240 .f32) (b : Fin 5) (s : Fin 2560) (v : Fin 30720) :
    (shapeCast S5x2560x30720 (mulf (shapeCast S5x2560x240x128 x0 shapeCasts_S5x2560x30720_S5x2560x240x128)
    (broadcastInDim S5x2560x240x128 ![0, 1, 2, 3] bcast_S5x2560x240x1_S5x2560x240x128_0_1_2_3 (broadcastInDim S5x2560x240x1 ![0, 1, 2] bcast_S5x2560x240_S5x2560x240x1_0_1_2 (truncf .bf16 a1 bitsLt_bf16_f32)))) shapeCasts_S5x2560x240x128_S5x2560x30720
      (ix3 b s v) : EReal) = x0 (ix3 b s v) * a1 (ix3 b s (⟨v.val / 128, by omega⟩ : Fin 240)) := by
  pointwise []

/-- The scaled second operand at an index. -/
theorem rhs_at (x1 : FVec Ideal S5x2560x4608 .bf16) (a3 : FVec Ideal S5x2560 .f32) (b : Fin 5) (s : Fin 2560) (d : Fin 4608) :
    (mulf x1 (broadcastInDim S5x2560x4608 ![0, 1, 2] bcast_S5x2560x1_S5x2560x4608_0_1_2 (broadcastInDim S5x2560x1 ![0, 1] bcast_S5x2560_S5x2560x1_0_1 (truncf .bf16 a3 bitsLt_bf16_f32))) (ix3 b s d) : EReal)
      = x1 (ix3 b s d) * a3 (ix2 b s) := by
  pointwise []

/-- The product at an index, as a sum over the tokens. -/
theorem dot_at (x : FVec Ideal S5x2560x30720 .bf16) (y : FVec Ideal S5x2560x4608 .bf16) (v : Fin 30720) (d : Fin 4608) :
    (Host.dotGeneral (F := Ideal) dot_S5x2560x30720_S5x2560x4608_S30720x4608_01_01_2_2_n_n none x y (ix2 v d) : EReal)
      = ∑ t : Fin 12800, x (ix3 (Spec.sq t) (Spec.tk t) v) * y (ix3 (Spec.sq t) (Spec.tk t) d) := by
  have e := Equiv.sum_comp (finProdFinEquiv (m := 5) (n := 2560)) (fun t : Fin (5 * 2560) => (x (ix3 (Spec.sq t) (Spec.tk t) v) * y (ix3 (Spec.sq t) (Spec.tk t) d) : EReal))
  rw [Fintype.sum_prod_type] at e
  refine Eq.trans ?_ e
  pointwise []
  refine Finset.sum_congr rfl fun a _ => Finset.sum_congr rfl fun b _ => ?_
  have ha : (Spec.sq (finProdFinEquiv (m := 5) (n := 2560) (a, b))) = a := Fin.ext (by
    show (b.val + 2560 * a.val) / 2560 = a.val
    omega)
  have hb : (Spec.tk (finProdFinEquiv (m := 5) (n := 2560) (a, b))) = b := Fin.ext (by
    show (b.val + 2560 * a.val) % 2560 = b.val
    omega)
  rw [ha, hb]

/-- Where an update lands: row `t`, column `e` of the updates at the row its word names and its own column. -/
theorem lands (idx : IVec S12800x1 32) (t : Fin 12800) (e : Fin 4608) (v : Fin 30720) (d : Fin 4608) :
    scatter_S30720x4608_S12800x1_S12800x4608_1_0_0_1.resultIdx? (ix2 t e) idx = some (ix2 v d) ↔ (idx (ix2 t 0)).toInt = (v.val : Int) ∧ e = d := by
  have h0 : scatter_S30720x4608_S12800x1_S12800x4608_1_0_0_1.start (ix2 t e) idx 0 = (idx (ix2 t 0)).toInt := by
    unfold ScatterDims.start
    rw [dif_pos (by decide)]
    congr 2
    funext a
    match a with
    | 0 => rfl
    | 1 => rfl
  have h1 : scatter_S30720x4608_S12800x1_S12800x4608_1_0_0_1.start (ix2 t e) idx 1 = 0 := by
    unfold ScatterDims.start
    rw [dif_neg (by decide)]
  have h2 : scatter_S30720x4608_S12800x1_S12800x4608_1_0_0_1.window (ix2 t e) 0 = 0 := by
    unfold ScatterDims.window
    rw [dif_neg (by decide)]
  have h3 : scatter_S30720x4608_S12800x1_S12800x4608_1_0_0_1.window (ix2 t e) 1 = e.val := by
    unfold ScatterDims.window
    rw [dif_pos (by decide)]
    rfl
  refine (Routing.resultIdx?_ix2 _ _ idx v d).trans ?_
  rw [h0, h1, h2, h3]
  constructor
  · rintro ⟨h, h'⟩
    exact ⟨by push_cast at h; omega, Fin.ext (by push_cast at h'; omega)⟩
  · rintro ⟨h, rfl⟩
    exact ⟨by push_cast; omega, by push_cast; omega⟩

/-- The scatter of rows, at an index. -/
theorem scatter_at (x : FVec Ideal S30720x4608 .f32) (idx : IVec S12800x1 32) (u : FVec Ideal S12800x4608 .f32) (v : Fin 30720) (d : Fin 4608) :
    (Host.scatterAdd (F := Ideal) scatter_S30720x4608_S12800x1_S12800x4608_1_0_0_1 x idx u (ix2 v d) : EReal)
      = x (ix2 v d) + ∑ t ∈ Finset.univ.filter (fun t : Fin 12800 => (idx (ix2 t 0)).toInt = (v.val : Int)), u (ix2 t d) := by
  show (x (ix2 v d) : EReal) + ∑ j ∈ Finset.univ.filter (fun j => scatter_S30720x4608_S12800x1_S12800x4608_1_0_0_1.resultIdx? j idx = some (ix2 v d)), (u j : EReal) = _
  congr 1
  symm
  refine Finset.sum_bij (fun t _ => ix2 t d) (fun t ht => ?_) (fun t _ t' _ h => ?_) (fun j hj => ?_) (fun _ _ => rfl)
  · simp only [Finset.mem_filter, Finset.mem_univ, true_and] at ht ⊢
    exact (lands idx t d v d).mpr ⟨ht, rfl⟩
  · exact congrFun h 0
  · obtain ⟨t, e, rfl⟩ : ∃ (t : Fin 12800) (e : Fin 4608), j = ix2 t e := ⟨j 0, j 1, eq_ix2 j⟩
    simp only [Finset.mem_filter, Finset.mem_univ, true_and] at hj
    obtain ⟨h, rfl⟩ := (lands idx t e v d).mp hj
    exact ⟨t, by simpa using h, rfl⟩

/-- The reference's result at an index, for ids that are not negative. -/
theorem term_at (x0 : FVec Ideal S5x2560x30720 .bf16) (x1 : FVec Ideal S5x2560x4608 .bf16) (a1 : FVec Ideal S5x2560x240 .f32) (a3 : FVec Ideal S5x2560 .f32)
    (a4 : S5x2560.Idx → BitVec 32) (a5 : FVec Ideal S5x2560x4608 .bf16) (h4 : ∀ i, 0 ≤ (a4 i).toInt) (v : Fin 30720) (d : Fin 4608) :
    (term (F := Ideal) x0 x1 a1 a3 a4 a5 (ix2 v d) : EReal) = Spec.out x0 a1 x1 a3 a4 a5 v d := by
  unfold term Spec.out
  rw [scatter_at, dot_at]
  refine congrArg₂ (· + ·) (Finset.sum_congr rfl fun t _ => congrArg₂ (· * ·) (lhs_at x0 a1 (Spec.sq t) (Spec.tk t) v) (rhs_at x1 a3 (Spec.sq t) (Spec.tk t) d)) ?_
  have hid : ∀ t : Fin 12800, (broadcastInDim S12800x1 ![0] bcast_S12800_S12800x1_0 (select (cmpi .slt (shapeCast S12800 a4 shapeCasts_S5x2560_S12800) (broadcastInDim S12800 ![] bcast_S_S12800 (constantI S_ 32 0#32)))
      (addi (shapeCast S12800 a4 shapeCasts_S5x2560_S12800) (broadcastInDim S12800 ![] bcast_S_S12800 (constantI S_ 32 30720#32))) (shapeCast S12800 a4 shapeCasts_S5x2560_S12800)) : IVec S12800x1 32) (ix2 t 0) = Spec.id a4 t := fun t => by
    pointwise [Spec.id]
    refine Routing.wrap_of_lt (w := 32) _ _ ?_
    have h := h4 (ix2 (Spec.sq t) (Spec.tk t))
    rw [BitVec.toInt_eq_toNat_cond] at h
    have hb := (a4 (ix2 (Spec.sq t) (Spec.tk t))).isLt
    show (a4 (ix2 (Spec.sq t) (Spec.tk t))).toNat < 2 ^ 31
    split at h <;> omega
  have hemb : ∀ t : Fin 12800, (extf .f32 (shapeCast S12800x4608 a5 shapeCasts_S5x2560x4608_S12800x4608) bitsLt_bf16_f32 (ix2 t d) : EReal) = Spec.emb a5 t d := fun t => by
    pointwise [Spec.emb]
  simp only [hid]
  exact Finset.sum_congr rfl fun t _ => hemb t

/-- What the reference leaves in its result buffer, for ids that are not negative. -/
theorem value (m : (ℓ : Loc nD τ sig) → Buf (Elt Ideal) ℓ) (c : Dev nD) (h4 : ∀ i, 0 ≤ (((m (c.tc.loc main_arg4) : S5x2560.Idx → BitVec 32)) i).toInt) :
    Pipeline.afterTail₀ cfgs (dats m) 0 (V0 m) [hostOps1] c main_v21
      = (fun i => Spec.out (m (c.tc.loc main_arg0)) (m (c.tc.loc main_arg1)) (m (c.tc.loc main_arg2)) (m (c.tc.loc main_arg3)) (m (c.tc.loc main_arg4)) (m (c.tc.loc main_arg5)) (i 0) (i 1) : S30720x4608.Idx → EReal) := by
  have e0 := (Pipeline.withArrays_arr (win := (cfgs 0).spec) launch0.win.arr_inj c (V0 m c) (fun w => (dats m 0 c).arrAt w (cfgs 0).N) 2).trans (arr2 m c)
  have e1 := (Pipeline.withArrays_arr (win := (cfgs 0).spec) launch0.win.arr_inj c (V0 m c) (fun w => (dats m 0 c).arrAt w (cfgs 0).N) 3).trans (arr3 m c)
  have f1 := (Pipeline.withArrays_of_ne (cfgs 0).spec c (V0 m c) (fun w => (dats m 0 c).arrAt w (cfgs 0).N) main_arg1 (by exact (by decide : ∀ w, Pipeline.arrRef spec0 w ≠ main_arg1)))
  have f3 := (Pipeline.withArrays_of_ne (cfgs 0).spec c (V0 m c) (fun w => (dats m 0 c).arrAt w (cfgs 0).N) main_arg3 (by exact (by decide : ∀ w, Pipeline.arrRef spec0 w ≠ main_arg3)))
  have f4 := (Pipeline.withArrays_of_ne (cfgs 0).spec c (V0 m c) (fun w => (dats m 0 c).arrAt w (cfgs 0).N) main_arg4 (by exact (by decide : ∀ w, Pipeline.arrRef spec0 w ≠ main_arg4)))
  have f5 := (Pipeline.withArrays_of_ne (cfgs 0).spec c (V0 m c) (fun w => (dats m 0 c).arrAt w (cfgs 0).N) main_arg5 (by exact (by decide : ∀ w, Pipeline.arrRef spec0 w ≠ main_arg5)))
  have h := after_term c (Pipeline.withArrays (cfgs 0).spec c (V0 m c) fun w => (dats m 0 c).arrAt w (cfgs 0).N)
  refine Eq.trans (b := _) h ?_
  refine (congrArg₂ (fun x y => term (F := Ideal) x y _ _ _ _) e0 e1).trans ?_
  refine (congrArg₂ (fun x y => term (F := Ideal) _ _ x y _ _) f1 f3).trans ?_
  refine (congrArg₂ (fun x y => term (F := Ideal) _ _ _ _ x y) f4 f5).trans ?_
  funext i
  obtain ⟨v, d, rfl⟩ : ∃ (v : Fin 30720) (d : Fin 4608), i = ix2 v d := ⟨i 0, i 1, eq_ix2 i⟩
  exact term_at _ _ _ _ _ _ h4 v d

/-- The reference runs and ends with its result at the specification's value and its arguments as they were, for ids that are not negative. -/
theorem run_value (m : (ℓ : Loc nD τ sig) → Buf (Elt Ideal) ℓ) (ρ : Dev nD → PrngReg) (h4 : ∀ (c : Dev nD) i, 0 ≤ (((m (c.tc.loc main_arg4) : S5x2560.Idx → BitVec 32)) i).toInt) :
    θ_run defs (onTc (τ := τ) (main (F := Ideal))) ⟨m, fun _ => 0, ρ⟩ (fun r => ∀ c : Dev nD,
      r.2.mem ((c.tc : Thread nD τ).loc main_v21) = (fun i => Spec.out (m (c.tc.loc main_arg0)) (m (c.tc.loc main_arg1)) (m (c.tc.loc main_arg2)) (m (c.tc.loc main_arg3)) (m (c.tc.loc main_arg4)) (m (c.tc.loc main_arg5)) (i 0) (i 1) : S30720x4608.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  exact ⟨((h.1 c).2 main_v21 (Pipeline.mem_restRefs_of main_v21 (by decide) (by decide))).trans (value m c (h4 c)), h.2 c⟩

end Cert.ReferenceIdeal.Hand

end
-- ==== Proof.lean ====
/- The certificate of `Cert.Claim`: the frames of the three programs, what the rewrites to exact arithmetic preserve, and that the
   exact kernel and the exact reference end with the same result. -/
module

public import proofs.«01_k».proof.Defs
public import proofs.«01_k».proof.Proof.KernelFrame
public import proofs.«01_k».proof.Proof.KernelIdealValue
public import proofs.«01_k».proof.Proof.ReferenceValue
public import proofs.«01_k».proof.Proof.Gen.ReferenceIdeal.Frame
public import Idealize.ShloMosaic.Lib.Bf16Pair
public import Idealize.ShloMosaic.Lib.Bf16PairInverse
public import Idealize.ShloMosaic.Lib.WordCmp

@[expose] public section

noncomputable section

namespace Cert.Proof

open Idealize.ShloMosaic Idealize.ShloMosaic.TcCoe

/-- Each rewrite of the row pairs' words to the rows themselves keeps the values. -/
theorem preserves : Cert.preserves_Kernel_KernelIdeal :=
  ⟨IdealRules.bf16_pair.bufferStatement _ _, IdealRules.bf16_pair.statement _ _, IdealRules.bf16_pair.statement _ _⟩

/-- The side condition of the precondition's function. -/
theorem pre_facts : Cert.Pre_ids_not_negative.Facts := { bcast_S_S5x2560 := by decide }

/-- Where the precondition's function is one everywhere, every id, read signed, is at least zero. -/
theorem ids_nonneg [Cert.Pre_ids_not_negative.Facts] {a0 a1 a2 a3 a5} {a4 : IVec Cert.Pre_ids_not_negative.S5x2560 32}
    (h : Cert.Pre_ids_not_negative.fn (F := Ideal) a0 a1 a2 a3 a4 a5 = fun _ => 1#1) (i : Cert.Pre_ids_not_negative.S5x2560.Idx) : 0 ≤ (a4 i).toInt := by
  have e : BitVec.ofBool (BitVec.sle 0#32 (a4 i)) = 1#1 := congrFun h i
  have e' := (WordCmp.ofBool_decide_eq_one_iff _).mp e
  simpa using e'

/-- The exact kernel and the exact reference both end with the specification's value of the arguments. -/
theorem algebraic [Cert.Pre_ids_not_negative.Facts] : Cert.algebraic_KernelIdeal_ReferenceIdeal_pre_ids_not_negative
    (hKernelIdeal := Cert.KernelIdeal.Gen.facts) (hReferenceIdeal := Cert.ReferenceIdeal.Gen.facts) := by
  intro m g m' g' hpre ha
  refine ⟨_, Cert.KernelIdeal.Hand.run_value m g, ?_⟩
  refine (θ_run _ _ _).mono (fun r h c => ?_) (Cert.ReferenceIdeal.Hand.run_value m' g' (fun c i => ?_))
  · obtain ⟨e0, e1, e2, e3, e4, e5⟩ := ha c
    refine ⟨(h c).1.trans ?_, (h c).2⟩
    rw [e0, e1, e2, e3, e4, e5]
  · rw [(ha c).2.2.2.2.1]
    exact ids_nonneg (hpre c) i

/-- Every claim of the certificate. -/
theorem claim : Cert.Claim :=
  ⟨Cert.Kernel.Gen.facts, Cert.KernelIdeal.Gen.facts, Cert.ReferenceIdeal.Gen.facts, pre_facts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g, preserves,
    letI := pre_facts; algebraic⟩

end Cert.Proof

end
